-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_gates [hPre_finite_gates : Cert.Pre_finite_gates.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_gates.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_gates [hPre_finite_gates : Cert.Pre_finite_gates.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_gates.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_gates [hKernel5Ideal : Cert.Kernel5Ideal.Facts] [hPre_finite_gates : Cert.Pre_finite_gates.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_gates m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_gates [hReference5Ideal : Cert.Reference5Ideal.Facts] [hPre_finite_gates : Cert.Pre_finite_gates.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_gates m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v25)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v25) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v51) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v16)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_finite_gates [hKernel5Ideal : Cert.Kernel5Ideal.Facts] [hReference5Ideal : Cert.Reference5Ideal.Facts] [hPre_finite_gates : Cert.Pre_finite_gates.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_gates m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v23_0)) (v1 : (c : Dev Cert.Kernel5Ideal.nD) → Buf (Elt Ideal) ((c.tc : Thread Cert.Kernel5Ideal.nD Cert.Kernel5Ideal.τ).loc Cert.Kernel5Ideal.main_v23_1)) (v2 : (c : Dev Cert.Kernel5Ideal.nD) → Buf (Elt Ideal) ((c.tc : Thread Cert.Kernel5Ideal.nD Cert.Kernel5Ideal.τ).loc Cert.Kernel5Ideal.main_v23_2)) (v3 : (c : Dev Cert.Kernel5Ideal.nD) → Buf (Elt Ideal) ((c.tc : Thread Cert.Kernel5Ideal.nD Cert.Kernel5Ideal.τ).loc Cert.Kernel5Ideal.main_v23_3)) (v4 : (c : Dev Cert.Kernel5Ideal.nD) → Buf (Elt Ideal) ((c.tc : Thread Cert.Kernel5Ideal.nD Cert.Kernel5Ideal.τ).loc Cert.Kernel5Ideal.main_v23_4)) (v5 : (c : Dev Cert.Kernel5Ideal.nD) → Buf (Elt Ideal) ((c.tc : Thread Cert.Kernel5Ideal.nD Cert.Kernel5Ideal.τ).loc Cert.Kernel5Ideal.main_v23_5)) (v6 : (c : Dev Cert.Kernel5Ideal.nD) → Buf (Elt Ideal) ((c.tc : Thread Cert.Kernel5Ideal.nD Cert.Kernel5Ideal.τ).loc Cert.Kernel5Ideal.main_v23_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v23_0) = v0 c
          ∧ r.2.mem ((c.tc : Thread Cert.Kernel5Ideal.nD Cert.Kernel5Ideal.τ).loc Cert.Kernel5Ideal.main_v23_1) = v1 c
          ∧ r.2.mem ((c.tc : Thread Cert.Kernel5Ideal.nD Cert.Kernel5Ideal.τ).loc Cert.Kernel5Ideal.main_v23_2) = v2 c
          ∧ r.2.mem ((c.tc : Thread Cert.Kernel5Ideal.nD Cert.Kernel5Ideal.τ).loc Cert.Kernel5Ideal.main_v23_3) = v3 c
          ∧ r.2.mem ((c.tc : Thread Cert.Kernel5Ideal.nD Cert.Kernel5Ideal.τ).loc Cert.Kernel5Ideal.main_v23_4) = v4 c
          ∧ r.2.mem ((c.tc : Thread Cert.Kernel5Ideal.nD Cert.Kernel5Ideal.τ).loc Cert.Kernel5Ideal.main_v23_5) = v5 c
          ∧ r.2.mem ((c.tc : Thread Cert.Kernel5Ideal.nD Cert.Kernel5Ideal.τ).loc Cert.Kernel5Ideal.main_v23_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v44) = v0 c
          ∧ r.2.mem ((c.tc : Thread Cert.Reference5Ideal.nD Cert.Reference5Ideal.τ).loc Cert.Reference5Ideal.main_v46) = v1 c
          ∧ r.2.mem ((c.tc : Thread Cert.Reference5Ideal.nD Cert.Reference5Ideal.τ).loc Cert.Reference5Ideal.main_v48) = v2 c
          ∧ r.2.mem ((c.tc : Thread Cert.Reference5Ideal.nD Cert.Reference5Ideal.τ).loc Cert.Reference5Ideal.main_v50) = v3 c
          ∧ r.2.mem ((c.tc : Thread Cert.Reference5Ideal.nD Cert.Reference5Ideal.τ).loc Cert.Reference5Ideal.main_v51) = v4 c
          ∧ r.2.mem ((c.tc : Thread Cert.Reference5Ideal.nD Cert.Reference5Ideal.τ).loc Cert.Reference5Ideal.main_v52) = v5 c
          ∧ r.2.mem ((c.tc : Thread Cert.Reference5Ideal.nD Cert.Reference5Ideal.τ).loc Cert.Reference5Ideal.main_v54) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v29_0)) (v1 : (c : Dev Cert.Kernel6Ideal.nD) → Buf (Elt Ideal) ((c.tc : Thread Cert.Kernel6Ideal.nD Cert.Kernel6Ideal.τ).loc Cert.Kernel6Ideal.main_v29_1)) (v2 : (c : Dev Cert.Kernel6Ideal.nD) → Buf (Elt Ideal) ((c.tc : Thread Cert.Kernel6Ideal.nD Cert.Kernel6Ideal.τ).loc Cert.Kernel6Ideal.main_v29_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v29_0) = v0 c
          ∧ r.2.mem ((c.tc : Thread Cert.Kernel6Ideal.nD Cert.Kernel6Ideal.τ).loc Cert.Kernel6Ideal.main_v29_1) = v1 c
          ∧ r.2.mem ((c.tc : Thread Cert.Kernel6Ideal.nD Cert.Kernel6Ideal.τ).loc Cert.Kernel6Ideal.main_v29_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v97) = v0 c
          ∧ r.2.mem ((c.tc : Thread Cert.Reference6Ideal.nD Cert.Reference6Ideal.τ).loc Cert.Reference6Ideal.main_v142) = v1 c
          ∧ r.2.mem ((c.tc : Thread Cert.Reference6Ideal.nD Cert.Reference6Ideal.τ).loc Cert.Reference6Ideal.main_v143) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_qk : Cert.Pre_finite_qk.Facts) (hPre_finite_gates : Cert.Pre_finite_gates.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_gates (hKernel5Ideal := hKernel5Ideal) (hPre_finite_gates := hPre_finite_gates)
    ∧ quiescent_Reference5Ideal (hReference5Ideal := hReference5Ideal)
    ∧ quiescent_Reference5Ideal_pre_finite_gates (hReference5Ideal := hReference5Ideal) (hPre_finite_gates := hPre_finite_gates)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_gates (hKernel5Ideal := hKernel5Ideal) (hReference5Ideal := hReference5Ideal) (hPre_finite_gates := hPre_finite_gates)
    ∧ preserves_Kernel6_Kernel6Ideal
    ∧ algebraic_Kernel6Ideal_Reference6Ideal (hKernel6Ideal := hKernel6Ideal) (hReference6Ideal := hReference6Ideal)
-- ==== Pre_finite_gates.lean ====
abbrev S8x4096x1024 : Shape := ⟨3, ![8, 4096, 1024]⟩
abbrev S1x1024 : Shape := ⟨2, ![1, 1024]⟩
abbrev S1x1024x2080 : Shape := ⟨3, ![1, 1024, 2080]⟩
abbrev S1x16x256 : Shape := ⟨3, ![1, 16, 256]⟩
abbrev S1x256 : Shape := ⟨2, ![1, 256]⟩
abbrev S_ : Shape := ⟨0, ![]⟩
abbrev S1x1024x32 : Shape := ⟨3, ![1, 1024, 32]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  slices_S1x1024x2080_S1x1024x32_0_0_1536 : S1x1024x2080.Slices ![0, 0, 1536] S1x1024x32
  bcast_S_S1x1024x32 : S_.BroadcastsInDim S1x1024x32 (![] : Fin 0 → Fin S1x1024x32.rank)
  reducesTo_S1x1024x32_S_d0_1_2 : S1x1024x32.ReducesTo [0, 1, 2] S_
  bcast_S_S1x16x256 : S_.BroadcastsInDim S1x16x256 (![] : Fin 0 → Fin S1x16x256.rank)
  reducesTo_S1x16x256_S_d0_1_2 : S1x16x256.ReducesTo [0, 1, 2] S_

variable [Facts]

def fn_part1 {F : FTy → Type} [FloatOps F] (main_v14 : IVec S_ 1) (main_v15 : FVec F S1x16x256 .f32) (main_v16 : FVec F S1x16x256 .f32) : IVec S_ 1 :=
  let main_v17 : IVec S1x16x256 1 := cmpf .olt main_v15 main_v16
  let main_c_5 : IVec S_ 1 := constantI S_ 1 1#1
  let main_v18 : IVec S_ 1 := (fun x v => Host.reduce IntOp.andi x v reducesTo_S1x16x256_S_d0_1_2 h_S_) main_v17 main_c_5
  let main_v19 : IVec S_ 1 := andi main_v14 main_v18
  main_v19

def fn {F : FTy → Type} [FloatOps F] (main_arg0 : FVec F S8x4096x1024 .f32) (main_arg1 : FVec F S1x1024 .f32) (main_arg2 : FVec F S1x1024x2080 .f32) (main_arg3 : FVec F S1x16x256 .f32) (main_arg4 : FVec F S1x256 .f32) (main_arg5 : FVec F S1x16x256 .f32) (main_arg6 : FVec F S1x256 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x32 .f32 := (extractStridedSlice S1x1024x32 ![0, 0, 1536] · slices_S1x1024x2080_S1x1024x32_0_0_1536) main_arg2
  let main_v5 : FVec F S1x1024x32 .f32 := Host.absf main_v4
  let main_cst_0 : FVec F S_ .f32 := constant S_ .f32 0x7F800000#32
  let main_v6 : FVec F S1x1024x32 .f32 := broadcastInDim S1x1024x32 ![] bcast_S_S1x1024x32 main_cst_0
  let main_v7 : IVec S1x1024x32 1 := cmpf .olt main_v5 main_v6
  let main_c_1 : IVec S_ 1 := constantI S_ 1 1#1
  let main_v8 : IVec S_ 1 := (fun x v => Host.reduce IntOp.andi x v reducesTo_S1x1024x32_S_d0_1_2 h_S_) main_v7 main_c_1
  let main_v9 : IVec S_ 1 := andi main_v3 main_v8
  let main_v10 : FVec F S1x16x256 .f32 := Host.absf main_arg3
  let main_cst_2 : FVec F S_ .f32 := constant S_ .f32 0x7F800000#32
  let main_v11 : FVec F S1x16x256 .f32 := broadcastInDim S1x16x256 ![] bcast_S_S1x16x256 main_cst_2
  let main_v12 : IVec S1x16x256 1 := cmpf .olt main_v10 main_v11
  let main_c_3 : IVec S_ 1 := constantI S_ 1 1#1
  let main_v13 : IVec S_ 1 := (fun x v => Host.reduce IntOp.andi x v reducesTo_S1x16x256_S_d0_1_2 h_S_) main_v12 main_c_3
  let main_v14 : IVec S_ 1 := andi main_v9 main_v13
  let main_v15 : FVec F S1x16x256 .f32 := Host.absf main_arg5
  let main_cst_4 : FVec F S_ .f32 := constant S_ .f32 0x7F800000#32
  let main_v16 : FVec F S1x16x256 .f32 := broadcastInDim S1x16x256 ![] bcast_S_S1x16x256 main_cst_4
  fn_part1 (F := F) main_v14 main_v15 main_v16
-- ==== Pre_finite_qk.lean ====
abbrev S8x4096x8x128 : Shape := ⟨4, ![8, 4096, 8, 128]⟩
abbrev S8x4096x2x128 : Shape := ⟨4, ![8, 4096, 2, 128]⟩
abbrev S_ : Shape := ⟨0, ![]⟩

class Facts : Prop where
  bcast_S_S8x4096x8x128 : S_.BroadcastsInDim S8x4096x8x128 (![] : Fin 0 → Fin S8x4096x8x128.rank)
  reducesTo_S8x4096x8x128_S_d0_1_2_3 : S8x4096x8x128.ReducesTo [0, 1, 2, 3] S_
  h_S_ : 0 < S_.numel
  bcast_S_S8x4096x2x128 : S_.BroadcastsInDim S8x4096x2x128 (![] : Fin 0 → Fin S8x4096x2x128.rank)
  reducesTo_S8x4096x2x128_S_d0_1_2_3 : S8x4096x2x128.ReducesTo [0, 1, 2, 3] S_

variable [Facts]

def fn {F : FTy → Type} [FloatOps F] (main_arg0 : FVec F S8x4096x8x128 .f32) (main_arg1 : FVec F S8x4096x2x128 .f32) (main_arg2 : FVec F S8x4096x2x128 .f32) : IVec S_ 1 :=
  let main_v0 : FVec F S8x4096x8x128 .f32 := Host.absf main_arg0
  let main_cst : FVec F S_ .f32 := constant S_ .f32 0x7F800000#32
  let main_v1 : FVec F S8x4096x8x128 .f32 := broadcastInDim S8x4096x8x128 ![] bcast_S_S8x4096x8x128 main_cst
  let main_v2 : IVec S8x4096x8x128 1 := cmpf .olt main_v0 main_v1
  let main_c : IVec S_ 1 := constantI S_ 1 1#1
  let main_v3 : IVec S_ 1 := (fun x v => Host.reduce IntOp.andi x v reducesTo_S8x4096x8x128_S_d0_1_2_3 h_S_) main_v2 main_c
  let main_v4 : FVec F S8x4096x2x128 .f32 := Host.absf main_arg1
  let main_cst_0 : FVec F S_ .f32 := constant S_ .f32 0x7F800000#32
  let main_v5 : FVec F S8x4096x2x128 .f32 := broadcastInDim S8x4096x2x128 ![] bcast_S_S8x4096x2x128 main_cst_0
  let main_v6 : IVec S8x4096x2x128 1 := cmpf .olt main_v4 main_v5
  let main_c_1 : IVec S_ 1 := constantI S_ 1 1#1
  let main_v7 : IVec S_ 1 := (fun x v => Host.reduce IntOp.andi x v reducesTo_S8x4096x2x128_S_d0_1_2_3 h_S_) main_v6 main_c_1
  let main_v8 : IVec S_ 1 := andi main_v3 main_v7
  main_v8
-- ==== Kernel.lean ====
abbrev S8x4096x8x128 : Shape := ⟨4, ![8, 4096, 8, 128]⟩
abbrev S8x4096x2x128 : Shape := ⟨4, ![8, 4096, 2, 128]⟩
abbrev S8x4096x1024 : Shape := ⟨3, ![8, 4096, 1024]⟩
abbrev S8x4096x256 : Shape := ⟨3, ![8, 4096, 256]⟩
abbrev S8x2x128x4096 : Shape := ⟨4, ![8, 2, 128, 4096]⟩
abbrev S_ : Shape := ⟨0, ![]⟩
abbrev S8x2x16x4096 : Shape := ⟨4, ![8, 2, 16, 4096]⟩
abbrev S8x2x144x4096 : Shape := ⟨4, ![8, 2, 144, 4096]⟩
abbrev S1x4096x512 : Shape := ⟨3, ![1, 4096, 512]⟩
abbrev S1x4096x128 : Shape := ⟨3, ![1, 4096, 128]⟩
abbrev S1x1x144x4096 : Shape := ⟨4, ![1, 1, 144, 4096]⟩
abbrev S4x4096x256 : Shape := ⟨3, ![4, 4096, 256]⟩
abbrev S4x1x256 : Shape := ⟨3, ![4, 1, 256]⟩
abbrev S1x256x128 : Shape := ⟨3, ![1, 256, 128]⟩
abbrev S256x128 : Shape := ⟨2, ![256, 128]⟩
abbrev S4096x128 : Shape := ⟨2, ![4096, 128]⟩
abbrev S4096x256 : Shape := ⟨2, ![4096, 256]⟩
abbrev S1x4096x256 : Shape := ⟨3, ![1, 4096, 256]⟩
abbrev S256 : Shape := ⟨1, ![256]⟩
abbrev S1x256 : Shape := ⟨2, ![1, 256]⟩
abbrev S1x1x256 : Shape := ⟨3, ![1, 1, 256]⟩
abbrev S144x4096 : Shape := ⟨2, ![144, 4096]⟩
abbrev S144x256 : Shape := ⟨2, ![144, 256]⟩
abbrev S128x256 : Shape := ⟨2, ![128, 256]⟩

abbrev nBuf : Space → Nat
  | .hbm => 13
  | .vmem => 10
  | .smem => 0
  | _ => 0

abbrev bufTy : (tb : Table) → Fin (tcTables nBuf tb) → BufTy
  | .hbm, ⟨0, _⟩ => ⟨S8x4096x8x128, .f32⟩
  | .hbm, ⟨1, _⟩ => ⟨S8x4096x2x128, .f32⟩
  | .hbm, ⟨2, _⟩ => ⟨S8x4096x2x128, .f32⟩
  | .hbm, ⟨3, _⟩ => ⟨S8x4096x1024, .f32⟩
  | .hbm, ⟨4, _⟩ => ⟨S8x4096x1024, .bf16⟩
  | .hbm, ⟨5, _⟩ => ⟨S8x4096x256, .f32⟩
  | .hbm, ⟨6, _⟩ => ⟨S8x4096x256, .bf16⟩
  | .hbm, ⟨7, _⟩ => ⟨S8x2x128x4096, .f32⟩
  | .hbm, ⟨8, _⟩ => ⟨S8x2x128x4096, .bf16⟩
  | .hbm, ⟨9, _⟩ => ⟨S_, .bf16⟩
  | .hbm, ⟨10, _⟩ => ⟨S8x2x16x4096, .bf16⟩
  | .hbm, ⟨11, _⟩ => ⟨S8x2x144x4096, .bf16⟩
  | .hbm, ⟨12, _⟩ => ⟨S8x4096x1024, .bf16⟩
  | .local _ .vmem, ⟨0, _⟩ => ⟨S1x4096x512, .bf16⟩
  | .local _ .vmem, ⟨1, _⟩ => ⟨S1x4096x512, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x1x144x4096, .bf16⟩
  | .local _ .vmem, ⟨5, _⟩ => ⟨S1x1x144x4096, .bf16⟩
  | .local _ .vmem, ⟨6, _⟩ => ⟨S1x4096x512, .bf16⟩
  | .local _ .vmem, ⟨7, _⟩ => ⟨S1x4096x512, .bf16⟩
  | .local _ .vmem, ⟨8, _⟩ => ⟨S4x4096x256, .f32⟩
  | .local _ .vmem, ⟨9, _⟩ => ⟨S4x1x256, .f32⟩
  | _, _ => ⟨S8x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def k0_mult1 : BitVec 32 :=
  let c0_i32 : BitVec 32 := 0#32
  c0_i32
def k0_mult2 : BitVec 32 :=
  let c0_i32_8 : BitVec 32 := 0#32
  c0_i32_8
@[reducible] def k0_t1_loop : Scf.Loop 32 :=
  let c0_i32_24 : BitVec 32 := 0#32
  let c16_i32 : BitVec 32 := 16#32
  let v35 : BitVec 32 := Scalar.addi c0_i32_24 c16_i32
  let c1_i32 : BitVec 32 := 1#32
  ⟨c0_i32_24, v35, c1_i32⟩
def k0_mult3 (k0_t1 : Fin k0_t1_loop.trips) : BitVec 32 :=
  let c0_i32_24 : BitVec 32 := 0#32
  let c1_i32 : BitVec 32 := 1#32
  let arg8 : BitVec 32 := Scf.iv c0_i32_24 c1_i32 k0_t1
  let c256_i32 : BitVec 32 := 256#32
  let v38 : BitVec 32 := Scalar.muli arg8 c256_i32
  v38
def k0_off1 (k0_t1 : Fin k0_t1_loop.trips) : Fin 3 → Nat :=
  let c0_27 : Index := 0#32
  let c0_i32_24 : BitVec 32 := 0#32
  let c1_i32 : BitVec 32 := 1#32
  let arg8 : BitVec 32 := Scf.iv c0_i32_24 c1_i32 k0_t1
  let c256_i32 : BitVec 32 := 256#32
  let v38 : BitVec 32 := Scalar.muli arg8 c256_i32
  let v39 : BitVec 32 := v38
  let v40 : Index := Scalar.indexCast v39
  let c256 : Index := 256#32
  ![0, v40.toNat, 256]
def k0_mult4 (k0_t1 : Fin k0_t1_loop.trips) : BitVec 32 :=
  let c0_i32_24 : BitVec 32 := 0#32
  let c1_i32 : BitVec 32 := 1#32
  let arg8 : BitVec 32 := Scf.iv c0_i32_24 c1_i32 k0_t1
  let c256_i32_53 : BitVec 32 := 256#32
  let v77 : BitVec 32 := Scalar.muli arg8 c256_i32_53
  v77
def k0_off2 (k0_t1 : Fin k0_t1_loop.trips) : Fin 3 → Nat :=
  let c0_54 : Index := 0#32
  let c0_i32_24 : BitVec 32 := 0#32
  let c1_i32 : BitVec 32 := 1#32
  let arg8 : BitVec 32 := Scf.iv c0_i32_24 c1_i32 k0_t1
  let c256_i32_53 : BitVec 32 := 256#32
  let v77 : BitVec 32 := Scalar.muli arg8 c256_i32_53
  let v78 : BitVec 32 := v77
  let v79 : Index := Scalar.indexCast v78
  let c0_55 : Index := 0#32
  ![0, v79.toNat, 0]
def k0_mult5 (k0_t1 : Fin k0_t1_loop.trips) : BitVec 32 :=
  let c0_i32_24 : BitVec 32 := 0#32
  let c1_i32 : BitVec 32 := 1#32
  let arg8 : BitVec 32 := Scf.iv c0_i32_24 c1_i32 k0_t1
  let c256_i32_56 : BitVec 32 := 256#32
  let v83 : BitVec 32 := Scalar.muli arg8 c256_i32_56
  v83
def k0_off3 (k0_t1 : Fin k0_t1_loop.trips) : Fin 3 → Nat :=
  let c0_57 : Index := 0#32
  let c0_i32_24 : BitVec 32 := 0#32
  let c1_i32 : BitVec 32 := 1#32
  let arg8 : BitVec 32 := Scf.iv c0_i32_24 c1_i32 k0_t1
  let c256_i32_56 : BitVec 32 := 256#32
  let v83 : BitVec 32 := Scalar.muli arg8 c256_i32_56
  let v84 : BitVec 32 := v83
  let v85 : Index := Scalar.indexCast v84
  let c384 : Index := 384#32
  ![0, v85.toNat, 384]
def k0_mult6 (k0_t1 : Fin k0_t1_loop.trips) : BitVec 32 :=
  let c0_i32_24 : BitVec 32 := 0#32
  let c1_i32 : BitVec 32 := 1#32
  let arg8 : BitVec 32 := Scf.iv c0_i32_24 c1_i32 k0_t1
  let c256_i32_83 : BitVec 32 := 256#32
  let v122 : BitVec 32 := Scalar.muli arg8 c256_i32_83
  v122
def k0_off4 (k0_t1 : Fin k0_t1_loop.trips) : Fin 3 → Nat :=
  let c0_84 : Index := 0#32
  let c0_i32_24 : BitVec 32 := 0#32
  let c1_i32 : BitVec 32 := 1#32
  let arg8 : BitVec 32 := Scf.iv c0_i32_24 c1_i32 k0_t1
  let c256_i32_83 : BitVec 32 := 256#32
  let v122 : BitVec 32 := Scalar.muli arg8 c256_i32_83
  let v123 : BitVec 32 := v122
  let v124 : Index := Scalar.indexCast v123
  let c128_85 : Index := 128#32
  ![0, v124.toNat, 128]
def k0_mult7 (k0_t1 : Fin k0_t1_loop.trips) : BitVec 32 :=
  let c0_i32_24 : BitVec 32 := 0#32
  let c1_i32 : BitVec 32 := 1#32
  let arg8 : BitVec 32 := Scf.iv c0_i32_24 c1_i32 k0_t1
  let c1_i32_26 : BitVec 32 := 1#32
  let v36 : BitVec 32 := Scalar.addi arg8 c1_i32_26
  let c15_i32 : BitVec 32 := 15#32
  let v37 : BitVec 32 := Scalar.minsi v36 c15_i32
  let c256_i32_86 : BitVec 32 := 256#32
  let v128 : BitVec 32 := Scalar.muli v37 c256_i32_86
  v128
def k0_off5 (k0_t1 : Fin k0_t1_loop.trips) : Fin 3 → Nat :=
  let c0_87 : Index := 0#32
  let c0_i32_24 : BitVec 32 := 0#32
  let c1_i32 : BitVec 32 := 1#32
  let arg8 : BitVec 32 := Scf.iv c0_i32_24 c1_i32 k0_t1
  let c1_i32_26 : BitVec 32 := 1#32
  let v36 : BitVec 32 := Scalar.addi arg8 c1_i32_26
  let c15_i32 : BitVec 32 := 15#32
  let v37 : BitVec 32 := Scalar.minsi v36 c15_i32
  let c256_i32_86 : BitVec 32 := 256#32
  let v128 : BitVec 32 := Scalar.muli v37 c256_i32_86
  let v129 : BitVec 32 := v128
  let v130 : Index := Scalar.indexCast v129
  let c0_88 : Index := 0#32
  ![0, v130.toNat, 0]
def k0_mult8 (k0_t1 : Fin k0_t1_loop.trips) : BitVec 32 :=
  let c0_i32_24 : BitVec 32 := 0#32
  let c1_i32 : BitVec 32 := 1#32
  let arg8 : BitVec 32 := Scf.iv c0_i32_24 c1_i32 k0_t1
  let c256_i32_115 : BitVec 32 := 256#32
  let v167 : BitVec 32 := Scalar.muli arg8 c256_i32_115
  v167
def k0_mult9 (k0_t1 : Fin k0_t1_loop.trips) : BitVec 32 :=
  let c0_i32_24 : BitVec 32 := 0#32
  let c1_i32 : BitVec 32 := 1#32
  let arg8 : BitVec 32 := Scf.iv c0_i32_24 c1_i32 k0_t1
  let c1_i32_26 : BitVec 32 := 1#32
  let v36 : BitVec 32 := Scalar.addi arg8 c1_i32_26
  let c15_i32 : BitVec 32 := 15#32
  let v37 : BitVec 32 := Scalar.minsi v36 c15_i32
  let c256_i32_118 : BitVec 32 := 256#32
  let v173 : BitVec 32 := Scalar.muli v37 c256_i32_118
  v173
def k0_off6 (k0_t1 : Fin k0_t1_loop.trips) : Fin 3 → Nat :=
  let c0_119 : Index := 0#32
  let c0_i32_24 : BitVec 32 := 0#32
  let c1_i32 : BitVec 32 := 1#32
  let arg8 : BitVec 32 := Scf.iv c0_i32_24 c1_i32 k0_t1
  let c1_i32_26 : BitVec 32 := 1#32
  let v36 : BitVec 32 := Scalar.addi arg8 c1_i32_26
  let c15_i32 : BitVec 32 := 15#32
  let v37 : BitVec 32 := Scalar.minsi v36 c15_i32
  let c256_i32_118 : BitVec 32 := 256#32
  let v173 : BitVec 32 := Scalar.muli v37 c256_i32_118
  let v174 : BitVec 32 := v173
  let v175 : Index := Scalar.indexCast v174
  let c128_120 : Index := 128#32
  ![0, v175.toNat, 128]
def k0_mult10 (k0_t1 : Fin k0_t1_loop.trips) : BitVec 32 :=
  let c0_i32_24 : BitVec 32 := 0#32
  let c1_i32 : BitVec 32 := 1#32
  let arg8 : BitVec 32 := Scf.iv c0_i32_24 c1_i32 k0_t1
  let c256_i32_147 : BitVec 32 := 256#32
  let v212 : BitVec 32 := Scalar.muli arg8 c256_i32_147
  v212
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x144x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "scale_log2e" => some (((Real.sqrt 128)⁻¹ * (Real.log 2)⁻¹ : ℝ) : EReal)
  | _ => none
-- ==== ReferenceIdeal.lean ====
abbrev S8x4096x8x128 : Shape := ⟨4, ![8, 4096, 8, 128]⟩
abbrev S8x4096x2x128 : Shape := ⟨4, ![8, 4096, 2, 128]⟩
abbrev S8x4096x2x4x128 : Shape := ⟨5, ![8, 4096, 2, 4, 128]⟩
abbrev S8x2x4096x4096x4 : Shape := ⟨5, ![8, 2, 4096, 4096, 4]⟩
abbrev S8x2x4x4096x4096 : Shape := ⟨5, ![8, 2, 4, 4096, 4096]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x128x4x4096 : Shape := ⟨5, ![8, 2, 128, 4, 4096]⟩
abbrev S8x4096x1024 : Shape := ⟨3, ![8, 4096, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8x4096x8x128, .f32⟩
  | .hbm, ⟨1, _⟩ => ⟨S8x4096x2x128, .f32⟩
  | .hbm, ⟨2, _⟩ => ⟨S8x4096x2x128, .f32⟩
  | .hbm, ⟨3, _⟩ => ⟨S8x4096x2x4x128, .f32⟩
  | .hbm, ⟨4, _⟩ => ⟨S8x2x4096x4096x4, .f32⟩
  | .hbm, ⟨5, _⟩ => ⟨S8x2x4x4096x4096, .f32⟩
  | .hbm, ⟨6, _⟩ => ⟨S_, .f32⟩
  | .hbm, ⟨7, _⟩ => ⟨S_, .f32⟩
  | .hbm, ⟨8, _⟩ => ⟨S8x2x4x4096x4096, .f32⟩
  | .hbm, ⟨9, _⟩ => ⟨S8x2x4x4096x4096, .f32⟩
  | .hbm, ⟨10, _⟩ => ⟨S_, .f32⟩
  | .hbm, ⟨11, _⟩ => ⟨S8x2x4x4096, .f32⟩
  | .hbm, ⟨12, _⟩ => ⟨S_, .f32⟩
  | .hbm, ⟨13, _⟩ => ⟨S8x2x4x4096, .f32⟩
  | .hbm, ⟨14, _⟩ => ⟨S8x2x4x4096, .f32⟩
  | .hbm, ⟨15, _⟩ => ⟨S8x2x4x4096x1, .f32⟩
  | .hbm, ⟨16, _⟩ => ⟨S8x2x4x4096x4096, .f32⟩
  | .hbm, ⟨17, _⟩ => ⟨S8x2x4x4096x4096, .f32⟩
  | .hbm, ⟨18, _⟩ => ⟨S8x2x4x4096x4096, .f32⟩
  | .hbm, ⟨19, _⟩ => ⟨S_, .f32⟩
  | .hbm, ⟨20, _⟩ => ⟨S8x2x4x4096, .f32⟩
  | .hbm, ⟨21, _⟩ => ⟨S8x2x4x4096x1, .f32⟩
  | .hbm, ⟨22, _⟩ => ⟨S8x2x4x4096x4096, .f32⟩
  | .hbm, ⟨23, _⟩ => ⟨S8x2x4x4096x4096, .f32⟩
  | .hbm, ⟨24, _⟩ => ⟨S8x2x128x4x4096, .f32⟩
  | .hbm, ⟨25, _⟩ => ⟨S8x4096x2x4x128, .f32⟩
  | .hbm, ⟨26, _⟩ => ⟨S8x4096x1024, .f32⟩
  | .hbm, ⟨27, _⟩ => ⟨S8x4096x1024, .bf16⟩
  | _, _ => ⟨S8x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel2.lean ====
abbrev S8x4096x1024 : Shape := ⟨3, ![8, 4096, 1024]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S32768x1024 : Shape := ⟨2, ![32768, 1024]⟩
abbrev S1024x1024 : Shape := ⟨2, ![1024, 1024]⟩
abbrev S1x1024 : Shape := ⟨2, ![1, 1024]⟩
abbrev S1024 : Shape := ⟨1, ![1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S1536x1024 : Shape := ⟨2, ![1536, 1024]⟩
abbrev S1024x1280 : Shape := ⟨2, ![1024, 1280]⟩
abbrev S256x1280 : Shape := ⟨2, ![256, 1280]⟩
abbrev S1280x1024 : Shape := ⟨2, ![1280, 1024]⟩

abbrev nBuf : Space → Nat
  | .hbm => 24
  | .vmem => 11
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .f32⟩
  | .hbm, ⟨2, _⟩ => ⟨S1x1024x1024, .f32⟩
  | .hbm, ⟨3, _⟩ => ⟨S2x1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S32768x1024, .bf16⟩
  | .hbm, ⟨8, _⟩ => ⟨S32768x1024, .f32⟩
  | .hbm, ⟨9, _⟩ => ⟨S1024x1024, .f32⟩
  | .hbm, ⟨10, _⟩ => ⟨S1024x1024, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024x2816, .f32⟩
  | .hbm, ⟨15, _⟩ => ⟨S1024x2816, .f32⟩
  | .hbm, ⟨16, _⟩ => ⟨S1024x2816, .bf16⟩
  | .hbm, ⟨17, _⟩ => ⟨S1x1024x2816, .f32⟩
  | .hbm, ⟨18, _⟩ => ⟨S1024x2816, .f32⟩
  | .hbm, ⟨19, _⟩ => ⟨S1024x2816, .bf16⟩
  | .hbm, ⟨20, _⟩ => ⟨S1x2816x1024, .f32⟩
  | .hbm, ⟨21, _⟩ => ⟨S2816x1024, .f32⟩
  | .hbm, ⟨22, _⟩ => ⟨S2816x1024, .bf16⟩
  | .hbm, ⟨23, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel2Ideal.lean ====
abbrev S8x4096x1024 : Shape := ⟨3, ![8, 4096, 1024]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S32768x1024 : Shape := ⟨2, ![32768, 1024]⟩
abbrev S1024x1024 : Shape := ⟨2, ![1024, 1024]⟩
abbrev S1x1024 : Shape := ⟨2, ![1, 1024]⟩
abbrev S1024 : Shape := ⟨1, ![1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S1536x1024 : Shape := ⟨2, ![1536, 1024]⟩
abbrev S1024x1280 : Shape := ⟨2, ![1024, 1280]⟩
abbrev S256x1280 : Shape := ⟨2, ![256, 1280]⟩
abbrev S1280x1024 : Shape := ⟨2, ![1280, 1024]⟩

abbrev nBuf : Space → Nat
  | .hbm => 24
  | .vmem => 11
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .f32⟩
  | .hbm, ⟨2, _⟩ => ⟨S1x1024x1024, .f32⟩
  | .hbm, ⟨3, _⟩ => ⟨S2x1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S32768x1024, .bf16⟩
  | .hbm, ⟨8, _⟩ => ⟨S32768x1024, .f32⟩
  | .hbm, ⟨9, _⟩ => ⟨S1024x1024, .f32⟩
  | .hbm, ⟨10, _⟩ => ⟨S1024x1024, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024x2816, .f32⟩
  | .hbm, ⟨15, _⟩ => ⟨S1024x2816, .f32⟩
  | .hbm, ⟨16, _⟩ => ⟨S1024x2816, .bf16⟩
  | .hbm, ⟨17, _⟩ => ⟨S1x1024x2816, .f32⟩
  | .hbm, ⟨18, _⟩ => ⟨S1024x2816, .f32⟩
  | .hbm, ⟨19, _⟩ => ⟨S1024x2816, .bf16⟩
  | .hbm, ⟨20, _⟩ => ⟨S1x2816x1024, .f32⟩
  | .hbm, ⟨21, _⟩ => ⟨S2816x1024, .f32⟩
  | .hbm, ⟨22, _⟩ => ⟨S2816x1024, .bf16⟩
  | .hbm, ⟨23, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8x4096x1024 : Shape := ⟨3, ![8, 4096, 1024]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024x1024 : Shape := ⟨2, ![1024, 1024]⟩
abbrev S1x1024 : Shape := ⟨2, ![1, 1024]⟩
abbrev S1024 : Shape := ⟨1, ![1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S32768x1024 : Shape := ⟨2, ![32768, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .f32⟩
  | .hbm, ⟨2, _⟩ => ⟨S1x1024x1024, .f32⟩
  | .hbm, ⟨3, _⟩ => ⟨S2x1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S8x4096x1024, .f32⟩
  | .hbm, ⟨8, _⟩ => ⟨S1024x1024, .f32⟩
  | .hbm, ⟨9, _⟩ => ⟨S8x4096x1024, .f32⟩
  | .hbm, ⟨10, _⟩ => ⟨S8x4096x1024, .f32⟩
  | .hbm, ⟨11, _⟩ => ⟨S1x1024, .f32⟩
  | .hbm, ⟨12, _⟩ => ⟨S1024, .f32⟩
  | .hbm, ⟨13, _⟩ => ⟨S1x1024x2816, .f32⟩
  | .hbm, ⟨14, _⟩ => ⟨S1024x2816, .f32⟩
  | .hbm, ⟨15, _⟩ => ⟨S1x1024x2816, .f32⟩
  | .hbm, ⟨16, _⟩ => ⟨S1024x2816, .f32⟩
  | .hbm, ⟨17, _⟩ => ⟨S1x2816x1024, .f32⟩
  | .hbm, ⟨18, _⟩ => ⟨S2816x1024, .f32⟩
  | .hbm, ⟨19, _⟩ => ⟨S8x4096x1024, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S8x4096x1, .f32⟩
  | .hbm, ⟨30, _⟩ => ⟨S8x4096x1024, .f32⟩
  | .hbm, ⟨31, _⟩ => ⟨S8x4096x1024, .f32⟩
  | .hbm, ⟨32, _⟩ => ⟨S1x1x1024, .f32⟩
  | .hbm, ⟨33, _⟩ => ⟨S8x4096x1024, .f32⟩
  | .hbm, ⟨34, _⟩ => ⟨S8x4096x1024, .f32⟩
  | .hbm, ⟨35, _⟩ => ⟨S8x4096x2816, .f32⟩
  | .hbm, ⟨36, _⟩ => ⟨S8x4096x2816, .f32⟩
  | .hbm, ⟨37, _⟩ => ⟨S8x4096x2816, .f32⟩
  | .hbm, ⟨38, _⟩ => ⟨S_, .f32⟩
  | .hbm, ⟨39, _⟩ => ⟨S8x4096x2816, .f32⟩
  | .hbm, ⟨40, _⟩ => ⟨S8x4096x2816, .f32⟩
  | .hbm, ⟨41, _⟩ => ⟨S_, .f32⟩
  | .hbm, ⟨42, _⟩ => ⟨S8x4096x2816, .f32⟩
  | .hbm, ⟨43, _⟩ => ⟨S8x4096x2816, .f32⟩
  | .hbm, ⟨44, _⟩ => ⟨S8x4096x2816, .f32⟩
  | .hbm, ⟨45, _⟩ => ⟨S8x4096x2816, .f32⟩
  | .hbm, ⟨46, _⟩ => ⟨S8x4096x2816, .f32⟩
  | .hbm, ⟨47, _⟩ => ⟨S8x4096x1024, .f32⟩
  | .hbm, ⟨48, _⟩ => ⟨S8x4096x1024, .f32⟩
  | .hbm, ⟨49, _⟩ => ⟨S32768x1024, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Kernel3.lean ====
abbrev S8x4096x512 : Shape := ⟨3, ![8, 4096, 512]⟩
abbrev S8x4096x1024 : Shape := ⟨3, ![8, 4096, 1024]⟩
abbrev S1x128 : Shape := ⟨2, ![1, 128]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S32768x512 : Shape := ⟨2, ![32768, 512]⟩
abbrev S32768x1024 : Shape := ⟨2, ![32768, 1024]⟩
abbrev S128 : Shape := ⟨1, ![128]⟩
abbrev S1024x1024 : Shape := ⟨2, ![1024, 1024]⟩
abbrev S512x1024 : Shape := ⟨2, ![512, 1024]⟩
abbrev S1x1024 : Shape := ⟨2, ![1, 1024]⟩
abbrev S1024 : Shape := ⟨1, ![1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S512x512 : Shape := ⟨2, ![512, 512]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x1024 : Shape := ⟨2, ![256, 1024]⟩
abbrev S1024x1536 : Shape := ⟨2, ![1024, 1536]⟩
abbrev S256x1536 : Shape := ⟨2, ![256, 1536]⟩
abbrev S1536x1024 : Shape := ⟨2, ![1536, 1024]⟩
abbrev S1024x1280 : Shape := ⟨2, ![1024, 1280]⟩
abbrev S256x1280 : Shape := ⟨2, ![256, 1280]⟩
abbrev S1280x1024 : Shape := ⟨2, ![1280, 1024]⟩

abbrev nBuf : Space → Nat
  | .hbm => 37
  | .vmem => 19
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .bf16⟩
  | .hbm, ⟨3, _⟩ => ⟨S8x4096x512, .f32⟩
  | .hbm, ⟨4, _⟩ => ⟨S8x4096x1024, .f32⟩
  | .hbm, ⟨5, _⟩ => ⟨S1x128, .f32⟩
  | .hbm, ⟨6, _⟩ => ⟨S1x1024x1024, .f32⟩
  | .hbm, ⟨7, _⟩ => ⟨S2x1024, .f32⟩
  | .hbm, ⟨8, _⟩ => ⟨S2x1024x2816, .f32⟩
  | .hbm, ⟨9, _⟩ => ⟨S2x1024x2816, .f32⟩
  | .hbm, ⟨10, _⟩ => ⟨S2x2816x1024, .f32⟩
  | .hbm, ⟨11, _⟩ => ⟨S32768x512, .f32⟩
  | .hbm, ⟨12, _⟩ => ⟨S32768x512, .f32⟩
  | .hbm, ⟨13, _⟩ => ⟨S32768x512, .bf16⟩
  | .hbm, ⟨14, _⟩ => ⟨S32768x512, .f32⟩
  | .hbm, ⟨15, _⟩ => ⟨S32768x1024, .f32⟩
  | .hbm, ⟨16, _⟩ => ⟨S128, .f32⟩
  | .hbm, ⟨17, _⟩ => ⟨S1x128, .f32⟩
  | .hbm, ⟨18, _⟩ => ⟨S1024x1024, .f32⟩
  | .hbm, ⟨19, _⟩ => ⟨S512x1024, .f32⟩
  | .hbm, ⟨20, _⟩ => ⟨S512x1024, .bf16⟩
  | .hbm, ⟨21, _⟩ => ⟨S1024x1024, .f32⟩
  | .hbm, ⟨22, _⟩ => ⟨S512x1024, .f32⟩
  | .hbm, ⟨23, _⟩ => ⟨S512x1024, .bf16⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1x1024x2816, .f32⟩
  | .hbm, ⟨28, _⟩ => ⟨S1024x2816, .f32⟩
  | .hbm, ⟨29, _⟩ => ⟨S1024x2816, .bf16⟩
  | .hbm, ⟨30, _⟩ => ⟨S1x1024x2816, .f32⟩
  | .hbm, ⟨31, _⟩ => ⟨S1024x2816, .f32⟩
  | .hbm, ⟨32, _⟩ => ⟨S1024x2816, .bf16⟩
  | .hbm, ⟨33, _⟩ => ⟨S1x2816x1024, .f32⟩
  | .hbm, ⟨34, _⟩ => ⟨S2816x1024, .f32⟩
  | .hbm, ⟨35, _⟩ => ⟨S2816x1024, .bf16⟩
  | .hbm, ⟨36, _⟩ => ⟨S32768x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S1x128, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S512x1024, .f32⟩
  | .local _ .vmem, ⟨18, _⟩ => ⟨S512x1024, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S8x4096x512 : Shape := ⟨3, ![8, 4096, 512]⟩
abbrev S8x4096x1024 : Shape := ⟨3, ![8, 4096, 1024]⟩
abbrev S1x128 : Shape := ⟨2, ![1, 128]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S8x4096x4x128 : Shape := ⟨4, ![8, 4096, 4, 128]⟩
abbrev S128 : Shape := ⟨1, ![128]⟩
abbrev S_ : Shape := ⟨0, ![]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S1024x1024 : Shape := ⟨2, ![1024, 1024]⟩
abbrev S1x1024 : Shape := ⟨2, ![1, 1024]⟩
abbrev S1024 : Shape := ⟨1, ![1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S32768x1024 : Shape := ⟨2, ![32768, 1024]⟩

abbrev nBuf : Space → Nat
  | .hbm => 85
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .bf16⟩
  | .hbm, ⟨3, _⟩ => ⟨S8x4096x512, .f32⟩
  | .hbm, ⟨4, _⟩ => ⟨S8x4096x1024, .f32⟩
  | .hbm, ⟨5, _⟩ => ⟨S1x128, .f32⟩
  | .hbm, ⟨6, _⟩ => ⟨S1x1024x1024, .f32⟩
  | .hbm, ⟨7, _⟩ => ⟨S2x1024, .f32⟩
  | .hbm, ⟨8, _⟩ => ⟨S2x1024x2816, .f32⟩
  | .hbm, ⟨9, _⟩ => ⟨S2x1024x2816, .f32⟩
  | .hbm, ⟨10, _⟩ => ⟨S2x2816x1024, .f32⟩
  | .hbm, ⟨11, _⟩ => ⟨S8x4096x512, .f32⟩
  | .hbm, ⟨12, _⟩ => ⟨S8x4096x4x128, .f32⟩
  | .hbm, ⟨13, _⟩ => ⟨S128, .f32⟩
  | .hbm, ⟨14, _⟩ => ⟨S8x4096x4x128, .f32⟩
  | .hbm, ⟨15, _⟩ => ⟨S_, .f32⟩
  | .hbm, ⟨16, _⟩ => ⟨S8x4096x4, .f32⟩
  | .hbm, ⟨17, _⟩ => ⟨S8x4096x4x1, .f32⟩
  | .hbm, ⟨18, _⟩ => ⟨S_, .f32⟩
  | .hbm, ⟨19, _⟩ => ⟨S8x4096x4x1, .f32⟩
  | .hbm, ⟨20, _⟩ => ⟨S8x4096x4x1, .f32⟩
  | .hbm, ⟨21, _⟩ => ⟨S_, .f32⟩
  | .hbm, ⟨22, _⟩ => ⟨S8x4096x4x1, .f32⟩
  | .hbm, ⟨23, _⟩ => ⟨S8x4096x4x1, .f32⟩
  | .hbm, ⟨24, _⟩ => ⟨S8x4096x4x1, .f32⟩
  | .hbm, ⟨25, _⟩ => ⟨S8x4096x4x128, .f32⟩
  | .hbm, ⟨26, _⟩ => ⟨S8x4096x4x128, .f32⟩
  | .hbm, ⟨27, _⟩ => ⟨S1x1x1x128, .f32⟩
  | .hbm, ⟨28, _⟩ => ⟨S8x4096x4x128, .f32⟩
  | .hbm, ⟨29, _⟩ => ⟨S8x4096x4x128, .f32⟩
  | .hbm, ⟨30, _⟩ => ⟨S8x4096x512, .f32⟩
  | .hbm, ⟨31, _⟩ => ⟨S8x4096x512, .f32⟩
  | .hbm, ⟨32, _⟩ => ⟨S8x4096x512, .f32⟩
  | .hbm, ⟨33, _⟩ => ⟨S8x4096x512, .f32⟩
  | .hbm, ⟨34, _⟩ => ⟨S_, .f32⟩
  | .hbm, ⟨35, _⟩ => ⟨S8x4096x512, .f32⟩
  | .hbm, ⟨36, _⟩ => ⟨S8x4096x512, .f32⟩
  | .hbm, ⟨37, _⟩ => ⟨S_, .f32⟩
  | .hbm, ⟨38, _⟩ => ⟨S8x4096x512, .f32⟩
  | .hbm, ⟨39, _⟩ => ⟨S8x4096x512, .f32⟩
  | .hbm, ⟨40, _⟩ => ⟨S8x4096x512, .f32⟩
  | .hbm, ⟨41, _⟩ => ⟨S8x4096x512, .f32⟩
  | .hbm, ⟨42, _⟩ => ⟨S8x4096x1024, .f32⟩
  | .hbm, ⟨43, _⟩ => ⟨S1024x1024, .f32⟩
  | .hbm, ⟨44, _⟩ => ⟨S8x4096x1024, .f32⟩
  | .hbm, ⟨45, _⟩ => ⟨S8x4096x1024, .f32⟩
  | .hbm, ⟨46, _⟩ => ⟨S1x1024, .f32⟩
  | .hbm, ⟨47, _⟩ => ⟨S1024, .f32⟩
  | .hbm, ⟨48, _⟩ => ⟨S1x1024x2816, .f32⟩
  | .hbm, ⟨49, _⟩ => ⟨S1024x2816, .f32⟩
  | .hbm, ⟨50, _⟩ => ⟨S1x1024x2816, .f32⟩
  | .hbm, ⟨51, _⟩ => ⟨S1024x2816, .f32⟩
  | .hbm, ⟨52, _⟩ => ⟨S1x2816x1024, .f32⟩
  | .hbm, ⟨53, _⟩ => ⟨S2816x1024, .f32⟩
  | .hbm, ⟨54, _⟩ => ⟨S8x4096x1024, .f32⟩
  | .hbm, ⟨55, _⟩ => ⟨S_, .f32⟩
  | .hbm, ⟨56, _⟩ => ⟨S8x4096, .f32⟩
  | .hbm, ⟨57, _⟩ => ⟨S8x4096x1, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S8x4096x1, .f32⟩
  | .hbm, ⟨65, _⟩ => ⟨S8x4096x1024, .f32⟩
  | .hbm, ⟨66, _⟩ => ⟨S8x4096x1024, .f32⟩
  | .hbm, ⟨67, _⟩ => ⟨S1x1x1024, .f32⟩
  | .hbm, ⟨68, _⟩ => ⟨S8x4096x1024, .f32⟩
  | .hbm, ⟨69, _⟩ => ⟨S8x4096x1024, .f32⟩
  | .hbm, ⟨70, _⟩ => ⟨S8x4096x2816, .f32⟩
  | .hbm, ⟨71, _⟩ => ⟨S8x4096x2816, .f32⟩
  | .hbm, ⟨72, _⟩ => ⟨S8x4096x2816, .f32⟩
  | .hbm, ⟨73, _⟩ => ⟨S_, .f32⟩
  | .hbm, ⟨74, _⟩ => ⟨S8x4096x2816, .f32⟩
  | .hbm, ⟨75, _⟩ => ⟨S8x4096x2816, .f32⟩
  | .hbm, ⟨76, _⟩ => ⟨S_, .f32⟩
  | .hbm, ⟨77, _⟩ => ⟨S8x4096x2816, .f32⟩
  | .hbm, ⟨78, _⟩ => ⟨S8x4096x2816, .f32⟩
  | .hbm, ⟨79, _⟩ => ⟨S8x4096x2816, .f32⟩
  | .hbm, ⟨80, _⟩ => ⟨S8x4096x2816, .f32⟩
  | .hbm, ⟨81, _⟩ => ⟨S8x4096x2816, .f32⟩
  | .hbm, ⟨82, _⟩ => ⟨S8x4096x1024, .f32⟩
  | .hbm, ⟨83, _⟩ => ⟨S8x4096x1024, .f32⟩
  | .hbm, ⟨84, _⟩ => ⟨S32768x1024, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_2 : Ref sig .tc := ⟨.hbm, 55, rfl⟩
abbrev main_v33 : Ref sig .tc := ⟨.hbm, 56, rfl⟩
abbrev main_v34 : Ref sig .tc := ⟨.hbm, 57, rfl⟩
abbrev main_cst_3 : Ref sig .tc := ⟨.hbm, 58, rfl⟩
abbrev main_v35 : Ref sig .tc := ⟨.hbm, 59, rfl⟩
abbrev main_v36 : Ref sig .tc := ⟨.hbm, 60, rfl⟩
abbrev main_cst_4 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩

abbrev nD : Nat := 1
abbrev τ : Topo := Topo.v7x

variable {F : FTy → Type} [FloatOps F]
-- ==== Kernel4.lean ====
abbrev S8x2048x1024 : Shape := ⟨3, ![8, 2048, 1024]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S16384x1024 : Shape := ⟨2, ![16384, 1024]⟩
abbrev S1024x1024 : Shape := ⟨2, ![1024, 1024]⟩
abbrev S1x1024 : Shape := ⟨2, ![1, 1024]⟩
abbrev S1024 : Shape := ⟨1, ![1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S1536x1024 : Shape := ⟨2, ![1536, 1024]⟩
abbrev S1024x1280 : Shape := ⟨2, ![1024, 1280]⟩
abbrev S256x1280 : Shape := ⟨2, ![256, 1280]⟩
abbrev S1280x1024 : Shape := ⟨2, ![1280, 1024]⟩

abbrev nBuf : Space → Nat
  | .hbm => 24
  | .vmem => 11
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .f32⟩
  | .hbm, ⟨2, _⟩ => ⟨S1x1024x1024, .f32⟩
  | .hbm, ⟨3, _⟩ => ⟨S2x1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S16384x1024, .bf16⟩
  | .hbm, ⟨8, _⟩ => ⟨S16384x1024, .f32⟩
  | .hbm, ⟨9, _⟩ => ⟨S1024x1024, .f32⟩
  | .hbm, ⟨10, _⟩ => ⟨S1024x1024, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024x2816, .f32⟩
  | .hbm, ⟨15, _⟩ => ⟨S1024x2816, .f32⟩
  | .hbm, ⟨16, _⟩ => ⟨S1024x2816, .bf16⟩
  | .hbm, ⟨17, _⟩ => ⟨S1x1024x2816, .f32⟩
  | .hbm, ⟨18, _⟩ => ⟨S1024x2816, .f32⟩
  | .hbm, ⟨19, _⟩ => ⟨S1024x2816, .bf16⟩
  | .hbm, ⟨20, _⟩ => ⟨S1x2816x1024, .f32⟩
  | .hbm, ⟨21, _⟩ => ⟨S2816x1024, .f32⟩
  | .hbm, ⟨22, _⟩ => ⟨S2816x1024, .bf16⟩
  | .hbm, ⟨23, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8x2048x1024 : Shape := ⟨3, ![8, 2048, 1024]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024x1024 : Shape := ⟨2, ![1024, 1024]⟩
abbrev S1x1024 : Shape := ⟨2, ![1, 1024]⟩
abbrev S1024 : Shape := ⟨1, ![1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S16384x1024 : Shape := ⟨2, ![16384, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .f32⟩
  | .hbm, ⟨2, _⟩ => ⟨S1x1024x1024, .f32⟩
  | .hbm, ⟨3, _⟩ => ⟨S2x1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S8x2048x1024, .f32⟩
  | .hbm, ⟨8, _⟩ => ⟨S1024x1024, .f32⟩
  | .hbm, ⟨9, _⟩ => ⟨S8x2048x1024, .f32⟩
  | .hbm, ⟨10, _⟩ => ⟨S8x2048x1024, .f32⟩
  | .hbm, ⟨11, _⟩ => ⟨S1x1024, .f32⟩
  | .hbm, ⟨12, _⟩ => ⟨S1024, .f32⟩
  | .hbm, ⟨13, _⟩ => ⟨S1x1024x2816, .f32⟩
  | .hbm, ⟨14, _⟩ => ⟨S1024x2816, .f32⟩
  | .hbm, ⟨15, _⟩ => ⟨S1x1024x2816, .f32⟩
  | .hbm, ⟨16, _⟩ => ⟨S1024x2816, .f32⟩
  | .hbm, ⟨17, _⟩ => ⟨S1x2816x1024, .f32⟩
  | .hbm, ⟨18, _⟩ => ⟨S2816x1024, .f32⟩
  | .hbm, ⟨19, _⟩ => ⟨S8x2048x1024, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1, .f32⟩
  | .hbm, ⟨30, _⟩ => ⟨S8x2048x1024, .f32⟩
  | .hbm, ⟨31, _⟩ => ⟨S8x2048x1024, .f32⟩
  | .hbm, ⟨32, _⟩ => ⟨S1x1x1024, .f32⟩
  | .hbm, ⟨33, _⟩ => ⟨S8x2048x1024, .f32⟩
  | .hbm, ⟨34, _⟩ => ⟨S8x2048x1024, .f32⟩
  | .hbm, ⟨35, _⟩ => ⟨S8x2048x2816, .f32⟩
  | .hbm, ⟨36, _⟩ => ⟨S8x2048x2816, .f32⟩
  | .hbm, ⟨37, _⟩ => ⟨S8x2048x2816, .f32⟩
  | .hbm, ⟨38, _⟩ => ⟨S_, .f32⟩
  | .hbm, ⟨39, _⟩ => ⟨S8x2048x2816, .f32⟩
  | .hbm, ⟨40, _⟩ => ⟨S8x2048x2816, .f32⟩
  | .hbm, ⟨41, _⟩ => ⟨S_, .f32⟩
  | .hbm, ⟨42, _⟩ => ⟨S8x2048x2816, .f32⟩
  | .hbm, ⟨43, _⟩ => ⟨S8x2048x2816, .f32⟩
  | .hbm, ⟨44, _⟩ => ⟨S8x2048x2816, .f32⟩
  | .hbm, ⟨45, _⟩ => ⟨S8x2048x2816, .f32⟩
  | .hbm, ⟨46, _⟩ => ⟨S8x2048x2816, .f32⟩
  | .hbm, ⟨47, _⟩ => ⟨S8x2048x1024, .f32⟩
  | .hbm, ⟨48, _⟩ => ⟨S8x2048x1024, .f32⟩
  | .hbm, ⟨49, _⟩ => ⟨S16384x1024, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Kernel5.lean ====
abbrev S8x4096x1024 : Shape := ⟨3, ![8, 4096, 1024]⟩
abbrev S1x1024 : Shape := ⟨2, ![1, 1024]⟩
abbrev S1x1024x2080 : Shape := ⟨3, ![1, 1024, 2080]⟩
abbrev S1x16x256 : Shape := ⟨3, ![1, 16, 256]⟩
abbrev S1x256 : Shape := ⟨2, ![1, 256]⟩
abbrev S1024x2080 : Shape := ⟨2, ![1024, 2080]⟩
abbrev S_ : Shape := ⟨0, ![]⟩
abbrev S16x256 : Shape := ⟨2, ![16, 256]⟩
abbrev S16x512 : Shape := ⟨2, ![16, 512]⟩
abbrev S32x512 : Shape := ⟨2, ![32, 512]⟩
abbrev S32768x1024 : Shape := ⟨2, ![32768, 1024]⟩
abbrev S1024 : Shape := ⟨1, ![1024]⟩
abbrev S1024x1536 : Shape := ⟨2, ![1024, 1536]⟩
abbrev S1024x32 : Shape := ⟨2, ![1024, 32]⟩
abbrev S1x1024x1x32 : Shape := ⟨4, ![1, 1024, 1, 32]⟩
abbrev S1x1024x3x32 : Shape := ⟨4, ![1, 1024, 3, 32]⟩
abbrev S1024x96 : Shape := ⟨2, ![1024, 96]⟩
abbrev S1024x512 : Shape := ⟨2, ![1024, 512]⟩
abbrev S256 : Shape := ⟨1, ![256]⟩
abbrev S512 : Shape := ⟨1, ![512]⟩
abbrev S1x512 : Shape := ⟨2, ![1, 512]⟩
abbrev S32768x256 : Shape := ⟨2, ![32768, 256]⟩
abbrev S32768x512 : Shape := ⟨2, ![32768, 512]⟩
abbrev S1024x1024 : Shape := ⟨2, ![1024, 1024]⟩
abbrev S1024x256 : Shape := ⟨2, ![1024, 256]⟩
abbrev S1024x1 : Shape := ⟨2, ![1024, 1]⟩
abbrev S1x96 : Shape := ⟨2, ![1, 96]⟩
abbrev S96x512 : Shape := ⟨2, ![96, 512]⟩

abbrev nBuf : Space → Nat
  | .hbm => 38
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2080, .f32⟩
  | .hbm, ⟨3, _⟩ => ⟨S1x16x256, .f32⟩
  | .hbm, ⟨4, _⟩ => ⟨S1x256, .f32⟩
  | .hbm, ⟨5, _⟩ => ⟨S1x16x256, .f32⟩
  | .hbm, ⟨6, _⟩ => ⟨S1x256, .f32⟩
  | .hbm, ⟨7, _⟩ => ⟨S1024x2080, .f32⟩
  | .hbm, ⟨8, _⟩ => ⟨S_, .f32⟩
  | .hbm, ⟨9, _⟩ => ⟨S16x256, .f32⟩
  | .hbm, ⟨10, _⟩ => ⟨S16x256, .f32⟩
  | .hbm, ⟨11, _⟩ => ⟨S16x512, .f32⟩
  | .hbm, ⟨12, _⟩ => ⟨S16x256, .f32⟩
  | .hbm, ⟨13, _⟩ => ⟨S16x512, .f32⟩
  | .hbm, ⟨14, _⟩ => ⟨S32x512, .f32⟩
  | .hbm, ⟨15, _⟩ => ⟨S32768x1024, .f32⟩
  | .hbm, ⟨16, _⟩ => ⟨S1024, .f32⟩
  | .hbm, ⟨17, _⟩ => ⟨S1x1024, .f32⟩
  | .hbm, ⟨18, _⟩ => ⟨S1024x1536, .f32⟩
  | .hbm, ⟨19, _⟩ => ⟨S1024x1536, .bf16⟩
  | .hbm, ⟨20, _⟩ => ⟨S1024x32, .f32⟩
  | .hbm, ⟨21, _⟩ => ⟨S1024x32, .bf16⟩
  | .hbm, ⟨22, _⟩ => ⟨S1x1024x1x32, .bf16⟩
  | .hbm, ⟨23, _⟩ => ⟨S1x1024x3x32, .bf16⟩
  | .hbm, ⟨24, _⟩ => ⟨S1024x96, .bf16⟩
  | .hbm, ⟨25, _⟩ => ⟨S1024x512, .f32⟩
  | .hbm, ⟨26, _⟩ => ⟨S1024x512, .bf16⟩
  | .hbm, ⟨27, _⟩ => ⟨S256, .f32⟩
  | .hbm, ⟨28, _⟩ => ⟨S256, .f32⟩
  | .hbm, ⟨29, _⟩ => ⟨S512, .f32⟩
  | .hbm, ⟨30, _⟩ => ⟨S1x512, .f32⟩
  | .hbm, ⟨31, _⟩ => ⟨S32768x256, .bf16⟩
  | .hbm, ⟨32, _⟩ => ⟨S32768x256, .bf16⟩
  | .hbm, ⟨33, _⟩ => ⟨S32768x512, .bf16⟩
  | .hbm, ⟨34, _⟩ => ⟨S32768x512, .bf16⟩
  | .hbm, ⟨35, _⟩ => ⟨S32768x256, .f32⟩
  | .hbm, ⟨36, _⟩ => ⟨S32768x256, .f32⟩
  | .hbm, ⟨37, _⟩ => ⟨S32768x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1024x96, .bf16⟩
  | .local _ .vmem, ⟨5, _⟩ => ⟨S1024x512, .bf16⟩
  | .local _ .vmem, ⟨6, _⟩ => ⟨S32x512, .f32⟩
  | .local _ .vmem, ⟨7, _⟩ => ⟨S1x512, .f32⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1024x512, .bf16⟩
  | .local _ .vmem, ⟨21, _⟩ => ⟨S1024x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v23_2 : Ref sig .tc := ⟨.hbm, 33, rfl⟩
abbrev main_v23_3 : Ref sig .tc := ⟨.hbm, 34, rfl⟩
abbrev main_v23_4 : Ref sig .tc := ⟨.hbm, 35, rfl⟩
abbrev main_v23_5 : Ref sig .tc := ⟨.hbm, 36, rfl⟩
abbrev main_v23_6 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x96 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S8x4096x1024 : Shape := ⟨3, ![8, 4096, 1024]⟩
abbrev S1x1024 : Shape := ⟨2, ![1, 1024]⟩
abbrev S1x1024x2080 : Shape := ⟨3, ![1, 1024, 2080]⟩
abbrev S1x16x256 : Shape := ⟨3, ![1, 16, 256]⟩
abbrev S1x256 : Shape := ⟨2, ![1, 256]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2080 : Shape := ⟨2, ![1024, 2080]⟩
abbrev S8x4096x2080 : Shape := ⟨3, ![8, 4096, 2080]⟩
abbrev S8x4096x256 : Shape := ⟨3, ![8, 4096, 256]⟩
abbrev S8x4096x512 : Shape := ⟨3, ![8, 4096, 512]⟩
abbrev S8x4096x16 : Shape := ⟨3, ![8, 4096, 16]⟩
abbrev S16x256 : Shape := ⟨2, ![16, 256]⟩
abbrev S256 : Shape := ⟨1, ![256]⟩
abbrev S1x1x256 : Shape := ⟨3, ![1, 1, 256]⟩
abbrev S32768x256 : Shape := ⟨2, ![32768, 256]⟩
abbrev S32768x512 : Shape := ⟨2, ![32768, 512]⟩

abbrev nBuf : Space → Nat
  | .hbm => 98
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2080, .f32⟩
  | .hbm, ⟨3, _⟩ => ⟨S1x16x256, .f32⟩
  | .hbm, ⟨4, _⟩ => ⟨S1x256, .f32⟩
  | .hbm, ⟨5, _⟩ => ⟨S1x16x256, .f32⟩
  | .hbm, ⟨6, _⟩ => ⟨S1x256, .f32⟩
  | .hbm, ⟨7, _⟩ => ⟨S1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S1024x2080, .f32⟩
  | .hbm, ⟨25, _⟩ => ⟨S8x4096x2080, .f32⟩
  | .hbm, ⟨26, _⟩ => ⟨S8x4096x256, .f32⟩
  | .hbm, ⟨27, _⟩ => ⟨S8x4096x256, .f32⟩
  | .hbm, ⟨28, _⟩ => ⟨S8x4096x512, .f32⟩
  | .hbm, ⟨29, _⟩ => ⟨S8x4096x512, .f32⟩
  | .hbm, ⟨30, _⟩ => ⟨S8x4096x16, .f32⟩
  | .hbm, ⟨31, _⟩ => ⟨S8x4096x16, .f32⟩
  | .hbm, ⟨32, _⟩ => ⟨S8x4096x512, .f32⟩
  | .hbm, ⟨33, _⟩ => ⟨S_, .f32⟩
  | .hbm, ⟨34, _⟩ => ⟨S8x4096x256, .f32⟩
  | .hbm, ⟨35, _⟩ => ⟨S8x4096x256, .f32⟩
  | .hbm, ⟨36, _⟩ => ⟨S16x256, .f32⟩
  | .hbm, ⟨37, _⟩ => ⟨S8x4096x256, .f32⟩
  | .hbm, ⟨38, _⟩ => ⟨S256, .f32⟩
  | .hbm, ⟨39, _⟩ => ⟨S1x1x256, .f32⟩
  | .hbm, ⟨40, _⟩ => ⟨S8x4096x256, .f32⟩
  | .hbm, ⟨41, _⟩ => ⟨S8x4096x256, .f32⟩
  | .hbm, ⟨42, _⟩ => ⟨S8x4096x256, .f32⟩
  | .hbm, ⟨43, _⟩ => ⟨S_, .f32⟩
  | .hbm, ⟨44, _⟩ => ⟨S8x4096x256, .f32⟩
  | .hbm, ⟨45, _⟩ => ⟨S8x4096x256, .f32⟩
  | .hbm, ⟨46, _⟩ => ⟨S8x4096x256, .f32⟩
  | .hbm, ⟨47, _⟩ => ⟨S8x4096x256, .f32⟩
  | .hbm, ⟨48, _⟩ => ⟨S8x4096x256, .i1⟩
  | .hbm, ⟨49, _⟩ => ⟨S8x4096x256, .f32⟩
  | .hbm, ⟨50, _⟩ => ⟨S8x4096x256, .f32⟩
  | .hbm, ⟨51, _⟩ => ⟨S8x4096x256, .f32⟩
  | .hbm, ⟨52, _⟩ => ⟨S8x4096x256, .f32⟩
  | .hbm, ⟨53, _⟩ => ⟨S8x4096x256, .f32⟩
  | .hbm, ⟨54, _⟩ => ⟨S8x4096x256, .f32⟩
  | .hbm, ⟨55, _⟩ => ⟨S8x4096x256, .f32⟩
  | .hbm, ⟨56, _⟩ => ⟨S8x4096x256, .f32⟩
  | .hbm, ⟨57, _⟩ => ⟨S8x4096x256, .f32⟩
  | .hbm, ⟨58, _⟩ => ⟨S_, .f32⟩
  | .hbm, ⟨59, _⟩ => ⟨S8x4096x256, .f32⟩
  | .hbm, ⟨60, _⟩ => ⟨S8x4096x256, .f32⟩
  | .hbm, ⟨61, _⟩ => ⟨S16x256, .f32⟩
  | .hbm, ⟨62, _⟩ => ⟨S8x4096x256, .f32⟩
  | .hbm, ⟨63, _⟩ => ⟨S256, .f32⟩
  | .hbm, ⟨64, _⟩ => ⟨S1x1x256, .f32⟩
  | .hbm, ⟨65, _⟩ => ⟨S8x4096x256, .f32⟩
  | .hbm, ⟨66, _⟩ => ⟨S8x4096x256, .f32⟩
  | .hbm, ⟨67, _⟩ => ⟨S8x4096x256, .f32⟩
  | .hbm, ⟨68, _⟩ => ⟨S_, .f32⟩
  | .hbm, ⟨69, _⟩ => ⟨S8x4096x256, .f32⟩
  | .hbm, ⟨70, _⟩ => ⟨S8x4096x256, .f32⟩
  | .hbm, ⟨71, _⟩ => ⟨S8x4096x256, .f32⟩
  | .hbm, ⟨72, _⟩ => ⟨S8x4096x256, .f32⟩
  | .hbm, ⟨73, _⟩ => ⟨S8x4096x256, .i1⟩
  | .hbm, ⟨74, _⟩ => ⟨S8x4096x256, .f32⟩
  | .hbm, ⟨75, _⟩ => ⟨S8x4096x256, .f32⟩
  | .hbm, ⟨76, _⟩ => ⟨S8x4096x256, .f32⟩
  | .hbm, ⟨77, _⟩ => ⟨S8x4096x256, .f32⟩
  | .hbm, ⟨78, _⟩ => ⟨S8x4096x256, .f32⟩
  | .hbm, ⟨79, _⟩ => ⟨S8x4096x256, .f32⟩
  | .hbm, ⟨80, _⟩ => ⟨S8x4096x256, .f32⟩
  | .hbm, ⟨81, _⟩ => ⟨S8x4096x256, .f32⟩
  | .hbm, ⟨82, _⟩ => ⟨S8x4096x256, .f32⟩
  | .hbm, ⟨83, _⟩ => ⟨S_, .f32⟩
  | .hbm, ⟨84, _⟩ => ⟨S8x4096x256, .f32⟩
  | .hbm, ⟨85, _⟩ => ⟨S8x4096x256, .f32⟩
  | .hbm, ⟨86, _⟩ => ⟨S32768x256, .f32⟩
  | .hbm, ⟨87, _⟩ => ⟨S32768x256, .bf16⟩
  | .hbm, ⟨88, _⟩ => ⟨S32768x256, .f32⟩
  | .hbm, ⟨89, _⟩ => ⟨S32768x256, .bf16⟩
  | .hbm, ⟨90, _⟩ => ⟨S32768x512, .f32⟩
  | .hbm, ⟨91, _⟩ => ⟨S32768x512, .bf16⟩
  | .hbm, ⟨92, _⟩ => ⟨S32768x512, .f32⟩
  | .hbm, ⟨93, _⟩ => ⟨S32768x512, .bf16⟩
  | .hbm, ⟨94, _⟩ => ⟨S32768x256, .f32⟩
  | .hbm, ⟨95, _⟩ => ⟨S32768x256, .f32⟩
  | .hbm, ⟨96, _⟩ => ⟨S32768x512, .f32⟩
  | .hbm, ⟨97, _⟩ => ⟨S32768x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_call0_cst : Ref sig .tc := ⟨.hbm, 43, rfl⟩
abbrev main_call0_call0_v0 : Ref sig .tc := ⟨.hbm, 44, rfl⟩
abbrev main_call0_call0_v1 : Ref sig .tc := ⟨.hbm, 45, rfl⟩
abbrev main_call0_call0_v2 : Ref sig .tc := ⟨.hbm, 46, rfl⟩
abbrev main_call0_call0_v3 : Ref sig .tc := ⟨.hbm, 47, rfl⟩
abbrev main_call0_call0_v4 : Ref sig .tc := ⟨.hbm, 48, rfl⟩
abbrev main_call0_call0_v5 : Ref sig .tc := ⟨.hbm, 49, rfl⟩
abbrev main_call0_call0_v6 : Ref sig .tc := ⟨.hbm, 50, rfl⟩
abbrev main_call0_call0_v7 : Ref sig .tc := ⟨.hbm, 51, rfl⟩
abbrev main_call0_call0_v8 : Ref sig .tc := ⟨.hbm, 52, rfl⟩
abbrev main_call0_call0_v9 : Ref sig .tc := ⟨.hbm, 53, rfl⟩
abbrev main_call0_call0_v10 : Ref sig .tc := ⟨.hbm, 54, rfl⟩
abbrev main_call0_call0_v11 : Ref sig .tc := ⟨.hbm, 55, rfl⟩
abbrev main_call0_v1 : Ref sig .tc := ⟨.hbm, 56, rfl⟩
abbrev main_v31 : Ref sig .tc := ⟨.hbm, 57, rfl⟩
abbrev main_cst_3 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_call1_v0 : Ref sig .tc := ⟨.hbm, 67, rfl⟩
abbrev main_call1_call0_cst : Ref sig .tc := ⟨.hbm, 68, rfl⟩
abbrev main_call1_call0_v0 : Ref sig .tc := ⟨.hbm, 69, rfl⟩
abbrev main_call1_call0_v1 : Ref sig .tc := ⟨.hbm, 70, rfl⟩
abbrev main_call1_call0_v2 : Ref sig .tc := ⟨.hbm, 71, rfl⟩
abbrev main_call1_call0_v3 : Ref sig .tc := ⟨.hbm, 72, rfl⟩
abbrev main_call1_call0_v4 : Ref sig .tc := ⟨.hbm, 73, rfl⟩
abbrev main_call1_call0_v5 : Ref sig .tc := ⟨.hbm, 74, rfl⟩
abbrev main_call1_call0_v6 : Ref sig .tc := ⟨.hbm, 75, rfl⟩
abbrev main_call1_call0_v7 : Ref sig .tc := ⟨.hbm, 76, rfl⟩
abbrev main_call1_call0_v8 : Ref sig .tc := ⟨.hbm, 77, rfl⟩
abbrev main_call1_call0_v9 : Ref sig .tc := ⟨.hbm, 78, rfl⟩
abbrev main_call1_call0_v10 : Ref sig .tc := ⟨.hbm, 79, rfl⟩
abbrev main_call1_call0_v11 : Ref sig .tc := ⟨.hbm, 80, rfl⟩
abbrev main_call1_v1 : Ref sig .tc := ⟨.hbm, 81, rfl⟩
abbrev main_v40 : Ref sig .tc := ⟨.hbm, 82, rfl⟩
abbrev main_cst_4 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩

abbrev nD : Nat := 1
abbrev τ : Topo := Topo.v7x

variable {F : FTy → Type} [FloatOps F]
-- ==== Kernel6.lean ====
abbrev S8x4096x1024 : Shape := ⟨3, ![8, 4096, 1024]⟩
abbrev S1x1024 : Shape := ⟨2, ![1, 1024]⟩
abbrev S1x1024x1536 : Shape := ⟨3, ![1, 1024, 1536]⟩
abbrev S1x128 : Shape := ⟨2, ![1, 128]⟩
abbrev S4096x32 : Shape := ⟨2, ![4096, 32]⟩
abbrev S128 : Shape := ⟨1, ![128]⟩
abbrev S256x256 : Shape := ⟨2, ![256, 256]⟩
abbrev S1024x1536 : Shape := ⟨2, ![1024, 1536]⟩
abbrev S1024x1280 : Shape := ⟨2, ![1024, 1280]⟩
abbrev S1024x10x2x2x32 : Shape := ⟨5, ![1024, 10, 2, 2, 32]⟩
abbrev S1024x256 : Shape := ⟨2, ![1024, 256]⟩
abbrev S32768x1024 : Shape := ⟨2, ![32768, 1024]⟩
abbrev S1024 : Shape := ⟨1, ![1024]⟩
abbrev S_ : Shape := ⟨0, ![]⟩
abbrev S128x1 : Shape := ⟨2, ![128, 1]⟩
abbrev S4096x128 : Shape := ⟨2, ![4096, 128]⟩
abbrev S32768x256 : Shape := ⟨2, ![32768, 256]⟩
abbrev S8x2x144x4096 : Shape := ⟨4, ![8, 2, 144, 4096]⟩
abbrev S1024x1024 : Shape := ⟨2, ![1024, 1024]⟩
abbrev S1024x128 : Shape := ⟨2, ![1024, 128]⟩
abbrev S1x2x144x1024 : Shape := ⟨4, ![1, 2, 144, 1024]⟩
abbrev S1024x1 : Shape := ⟨2, ![1024, 1]⟩
abbrev S128x1024 : Shape := ⟨2, ![128, 1024]⟩
abbrev S1x1x128x1024 : Shape := ⟨4, ![1, 1, 128, 1024]⟩
abbrev S16x1024 : Shape := ⟨2, ![16, 1024]⟩
abbrev S1x1x16x1024 : Shape := ⟨4, ![1, 1, 16, 1024]⟩

abbrev nBuf : Space → Nat
  | .hbm => 47
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x1536, .f32⟩
  | .hbm, ⟨3, _⟩ => ⟨S1x128, .f32⟩
  | .hbm, ⟨4, _⟩ => ⟨S1x128, .f32⟩
  | .hbm, ⟨5, _⟩ => ⟨S4096x32, .f32⟩
  | .hbm, ⟨6, _⟩ => ⟨S4096x32, .f32⟩
  | .hbm, ⟨7, _⟩ => ⟨S4096x32, .f32⟩
  | .hbm, ⟨8, _⟩ => ⟨S4096x32, .f32⟩
  | .hbm, ⟨9, _⟩ => ⟨S128, .i32⟩
  | .hbm, ⟨10, _⟩ => ⟨S128, .i1⟩
  | .hbm, ⟨11, _⟩ => ⟨S128, .i1⟩
  | .hbm, ⟨12, _⟩ => ⟨S256x256, .bf16⟩
  | .hbm, ⟨13, _⟩ => ⟨S1024x1536, .f32⟩
  | .hbm, ⟨14, _⟩ => ⟨S1024x1536, .bf16⟩
  | .hbm, ⟨15, _⟩ => ⟨S1024x1280, .bf16⟩
  | .hbm, ⟨16, _⟩ => ⟨S1024x10x2x2x32, .bf16⟩
  | .hbm, ⟨17, _⟩ => ⟨S1024x10x2x2x32, .bf16⟩
  | .hbm, ⟨18, _⟩ => ⟨S1024x1280, .bf16⟩
  | .hbm, ⟨19, _⟩ => ⟨S1024x256, .bf16⟩
  | .hbm, ⟨20, _⟩ => ⟨S1024x1536, .bf16⟩
  | .hbm, ⟨21, _⟩ => ⟨S32768x1024, .f32⟩
  | .hbm, ⟨22, _⟩ => ⟨S1024, .f32⟩
  | .hbm, ⟨23, _⟩ => ⟨S1x1024, .f32⟩
  | .hbm, ⟨24, _⟩ => ⟨S128, .f32⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S128, .i32⟩
  | .hbm, ⟨29, _⟩ => ⟨S128x1, .i32⟩
  | .hbm, ⟨30, _⟩ => ⟨S128, .f32⟩
  | .hbm, ⟨31, _⟩ => ⟨S1x128, .f32⟩
  | .hbm, ⟨32, _⟩ => ⟨S128, .f32⟩
  | .hbm, ⟨33, _⟩ => ⟨S_, .i32⟩
  | .hbm, ⟨34, _⟩ => ⟨S128, .i32⟩
  | .hbm, ⟨35, _⟩ => ⟨S128, .i32⟩
  | .hbm, ⟨36, _⟩ => ⟨S128, .i32⟩
  | .hbm, ⟨37, _⟩ => ⟨S128x1, .i32⟩
  | .hbm, ⟨38, _⟩ => ⟨S128, .f32⟩
  | .hbm, ⟨39, _⟩ => ⟨S1x128, .f32⟩
  | .hbm, ⟨40, _⟩ => ⟨S4096x128, .f32⟩
  | .hbm, ⟨41, _⟩ => ⟨S4096x32, .f32⟩
  | .hbm, ⟨42, _⟩ => ⟨S4096x32, .f32⟩
  | .hbm, ⟨43, _⟩ => ⟨S4096x128, .f32⟩
  | .hbm, ⟨44, _⟩ => ⟨S32768x1024, .bf16⟩
  | .hbm, ⟨45, _⟩ => ⟨S32768x256, .bf16⟩
  | .hbm, ⟨46, _⟩ => ⟨S8x2x144x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S256x256, .bf16⟩
  | .local _ .vmem, ⟨5, _⟩ => ⟨S1x128, .f32⟩
  | .local _ .vmem, ⟨6, _⟩ => ⟨S1x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x1024, .bf16⟩
  | .local _ .vmem, ⟨12, _⟩ => ⟨S1024x1024, .bf16⟩
  | .local _ .vmem, ⟨13, _⟩ => ⟨S1024x256, .bf16⟩
  | .local _ .vmem, ⟨14, _⟩ => ⟨S1024x256, .bf16⟩
  | .local _ .vmem, ⟨15, _⟩ => ⟨S1x2x144x1024, .bf16⟩
  | .local _ .vmem, ⟨16, _⟩ => ⟨S1x2x144x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29_0 : Ref sig .tc := ⟨.hbm, 44, rfl⟩
abbrev main_v29_1 : Ref sig .tc := ⟨.hbm, 45, rfl⟩
abbrev main_v29_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x144x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S8x4096x1024 : Shape := ⟨3, ![8, 4096, 1024]⟩
abbrev S1x1024 : Shape := ⟨2, ![1, 1024]⟩
abbrev S1x1024x1536 : Shape := ⟨3, ![1, 1024, 1536]⟩
abbrev S1x128 : Shape := ⟨2, ![1, 128]⟩
abbrev S4096x32 : Shape := ⟨2, ![4096, 32]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x1536 : Shape := ⟨2, ![1024, 1536]⟩
abbrev S8x4096x1536 : Shape := ⟨3, ![8, 4096, 1536]⟩
abbrev S8x4096x256 : Shape := ⟨3, ![8, 4096, 256]⟩
abbrev S8x4096x8x128 : Shape := ⟨4, ![8, 4096, 8, 128]⟩
abbrev S128 : Shape := ⟨1, ![128]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S8x4096x2x128 : Shape := ⟨4, ![8, 4096, 2, 128]⟩
abbrev S8x4096x2 : Shape := ⟨3, ![8, 4096, 2]⟩
abbrev S8x4096x2x1 : Shape := ⟨4, ![8, 4096, 2, 1]⟩
abbrev S8x2x128x4096 : Shape := ⟨4, ![8, 2, 128, 4096]⟩
abbrev S8x2x16x4096 : Shape := ⟨4, ![8, 2, 16, 4096]⟩
abbrev S8x2x144x4096 : Shape := ⟨4, ![8, 2, 144, 4096]⟩
abbrev S8x4096x8x64 : Shape := ⟨4, ![8, 4096, 8, 64]⟩
abbrev S8x4096x8x32 : Shape := ⟨4, ![8, 4096, 8, 32]⟩
abbrev S4096x1x32 : Shape := ⟨3, ![4096, 1, 32]⟩
abbrev S1x4096x1x32 : Shape := ⟨4, ![1, 4096, 1, 32]⟩
abbrev S8x4096x8x2x2x32 : Shape := ⟨6, ![8, 4096, 8, 2, 2, 32]⟩
abbrev S32768x1024 : Shape := ⟨2, ![32768, 1024]⟩
abbrev S8x4096x2x64 : Shape := ⟨4, ![8, 4096, 2, 64]⟩
abbrev S8x4096x2x32 : Shape := ⟨4, ![8, 4096, 2, 32]⟩
abbrev S8x4096x2x2x2x32 : Shape := ⟨6, ![8, 4096, 2, 2, 2, 32]⟩
abbrev S32768x256 : Shape := ⟨2, ![32768, 256]⟩

abbrev nBuf : Space → Nat
  | .hbm => 163
  | .vmem => 0
  | .smem => 0
  | _ => 0

abbrev hbmTy0_0 (i : Nat) : BufTy := match i % 128 with
  | 0 => ⟨S8x4096x1024, .f32⟩
  | 1 => ⟨S1x1024, .f32⟩
  | 2 => ⟨S1x1024x1536, .f32⟩
  | 3 => ⟨S1x128, .f32⟩
  | 4 => ⟨S1x128, .f32⟩
  | 5 => ⟨S4096x32, .f32⟩
  | 6 => ⟨S4096x32, .f32⟩
  | 7 => ⟨S4096x32, .f32⟩
  | 8 => ⟨S4096x32, .f32⟩
  | 9 => ⟨S1024, .f32⟩
  | 10 => ⟨S8x4096x1024, .f32⟩
  | 11 => ⟨S_, .f32⟩
  | 12 => ⟨S8x4096, .f32⟩
  | 13 => ⟨S8x4096x1, .f32⟩
  | 14 => ⟨S_, .f32⟩
  | 15 => ⟨S8x4096x1, .f32⟩
  | 16 => ⟨S8x4096x1, .f32⟩
  | 17 => ⟨S_, .f32⟩
  | 18 => ⟨S8x4096x1, .f32⟩
  | 19 => ⟨S8x4096x1, .f32⟩
  | 20 => ⟨S8x4096x1, .f32⟩
  | 21 => ⟨S8x4096x1024, .f32⟩
  | 22 => ⟨S8x4096x1024, .f32⟩
  | 23 => ⟨S1x1x1024, .f32⟩
  | 24 => ⟨S8x4096x1024, .f32⟩
  | 25 => ⟨S8x4096x1024, .f32⟩
  | 26 => ⟨S1024x1536, .f32⟩
  | 27 => ⟨S8x4096x1536, .f32⟩
  | 28 => ⟨S8x4096x1024, .f32⟩
  | 29 => ⟨S8x4096x256, .f32⟩
  | 30 => ⟨S8x4096x256, .f32⟩
  | 31 => ⟨S8x4096x8x128, .f32⟩
  | 32 => ⟨S128, .f32⟩
  | 33 => ⟨S8x4096x8x128, .f32⟩
  | 34 => ⟨S_, .f32⟩
  | 35 => ⟨S8x4096x8, .f32⟩
  | 36 => ⟨S8x4096x8x1, .f32⟩
  | 37 => ⟨S_, .f32⟩
  | 38 => ⟨S8x4096x8x1, .f32⟩
  | 39 => ⟨S8x4096x8x1, .f32⟩
  | 40 => ⟨S_, .f32⟩
  | 41 => ⟨S8x4096x8x1, .f32⟩
  | 42 => ⟨S8x4096x8x1, .f32⟩
  | 43 => ⟨S8x4096x8x1, .f32⟩
  | 44 => ⟨S8x4096x8x128, .f32⟩
  | 45 => ⟨S8x4096x8x128, .f32⟩
  | 46 => ⟨S1x1x1x128, .f32⟩
  | 47 => ⟨S8x4096x8x128, .f32⟩
  | 48 => ⟨S8x4096x8x128, .f32⟩
  | 49 => ⟨S8x4096x2x128, .f32⟩
  | 50 => ⟨S128, .f32⟩
  | 51 => ⟨S8x4096x2x128, .f32⟩
  | 52 => ⟨S_, .f32⟩
  | 53 => ⟨S8x4096x2, .f32⟩
  | 54 => ⟨S8x4096x2x1, .f32⟩
  | 55 => ⟨S_, .f32⟩
  | 56 => ⟨S8x4096x2x1, .f32⟩
  | 57 => ⟨S8x4096x2x1, .f32⟩
  | 58 => ⟨S_, .f32⟩
  | 59 => ⟨S8x4096x2x1, .f32⟩
  | 60 => ⟨S8x4096x2x1, .f32⟩
  | 61 => ⟨S8x4096x2x1, .f32⟩
  | 62 => ⟨S8x4096x2x128, .f32⟩
  | 63 => ⟨S8x4096x2x128, .f32⟩
  | 64 => ⟨S1x1x1x128, .f32⟩
  | 65 => ⟨S8x4096x2x128, .f32⟩
  | 66 => ⟨S8x4096x2x128, .f32⟩
  | 67 => ⟨S8x4096x2x128, .f32⟩
  | 68 => ⟨S8x2x128x4096, .f32⟩
  | 69 => ⟨S_, .f32⟩
  | 70 => ⟨S8x2x16x4096, .f32⟩
  | 71 => ⟨S8x2x144x4096, .f32⟩
  | 72 => ⟨S8x4096x8x64, .f32⟩
  | 73 => ⟨S8x4096x8x32, .f32⟩
  | 74 => ⟨S8x4096x8x32, .f32⟩
  | 75 => ⟨S4096x1x32, .f32⟩
  | 76 => ⟨S4096x1x32, .f32⟩
  | 77 => ⟨S1x4096x1x32, .f32⟩
  | 78 => ⟨S8x4096x8x32, .f32⟩
  | 79 => ⟨S8x4096x8x32, .f32⟩
  | 80 => ⟨S1x4096x1x32, .f32⟩
  | 81 => ⟨S8x4096x8x32, .f32⟩
  | 82 => ⟨S8x4096x8x32, .f32⟩
  | 83 => ⟨S8x4096x8x32, .f32⟩
  | 84 => ⟨S1x4096x1x32, .f32⟩
  | 85 => ⟨S8x4096x8x32, .f32⟩
  | 86 => ⟨S8x4096x8x32, .f32⟩
  | 87 => ⟨S1x4096x1x32, .f32⟩
  | 88 => ⟨S8x4096x8x32, .f32⟩
  | 89 => ⟨S8x4096x8x32, .f32⟩
  | 90 => ⟨S8x4096x8x32, .f32⟩
  | 91 => ⟨S8x4096x8x64, .f32⟩
  | 92 => ⟨S8x4096x8x64, .f32⟩
  | 93 => ⟨S8x4096x8x32, .f32⟩
  | 94 => ⟨S8x4096x8x32, .f32⟩
  | 95 => ⟨S4096x1x32, .f32⟩
  | 96 => ⟨S4096x1x32, .f32⟩
  | 97 => ⟨S1x4096x1x32, .f32⟩
  | 98 => ⟨S8x4096x8x32, .f32⟩
  | 99 => ⟨S8x4096x8x32, .f32⟩
  | 100 => ⟨S1x4096x1x32, .f32⟩
  | 101 => ⟨S8x4096x8x32, .f32⟩
  | 102 => ⟨S8x4096x8x32, .f32⟩
  | 103 => ⟨S8x4096x8x32, .f32⟩
  | 104 => ⟨S1x4096x1x32, .f32⟩
  | 105 => ⟨S8x4096x8x32, .f32⟩
  | 106 => ⟨S8x4096x8x32, .f32⟩
  | 107 => ⟨S1x4096x1x32, .f32⟩
  | 108 => ⟨S8x4096x8x32, .f32⟩
  | 109 => ⟨S8x4096x8x32, .f32⟩
  | 110 => ⟨S8x4096x8x32, .f32⟩
  | 111 => ⟨S8x4096x8x64, .f32⟩
  | 112 => ⟨S8x4096x8x128, .f32⟩
  | 113 => ⟨S8x4096x8x2x2x32, .f32⟩
  | 114 => ⟨S8x4096x8x2x2x32, .f32⟩
  | 115 => ⟨S32768x1024, .f32⟩
  | 116 => ⟨S32768x1024, .bf16⟩
  | 117 => ⟨S8x4096x2x64, .f32⟩
  | 118 => ⟨S8x4096x2x32, .f32⟩
  | 119 => ⟨S8x4096x2x32, .f32⟩
  | 120 => ⟨S4096x1x32, .f32⟩
  | 121 => ⟨S4096x1x32, .f32⟩
  | 122 => ⟨S1x4096x1x32, .f32⟩
  | 123 => ⟨S8x4096x2x32, .f32⟩
  | 124 => ⟨S8x4096x2x32, .f32⟩
  | 125 => ⟨S1x4096x1x32, .f32⟩
  | 126 => ⟨S8x4096x2x32, .f32⟩
  | 127 => ⟨S8x4096x2x32, .f32⟩
  | _ => ⟨S8x4096x1024, .f32⟩

abbrev hbmTy0_1 (i : Nat) : BufTy := match i % 128 with
  | 0 => ⟨S8x4096x2x32, .f32⟩
  | 1 => ⟨S1x4096x1x32, .f32⟩
  | 2 => ⟨S8x4096x2x32, .f32⟩
  | 3 => ⟨S8x4096x2x32, .f32⟩
  | 4 => ⟨S1x4096x1x32, .f32⟩
  | 5 => ⟨S8x4096x2x32, .f32⟩
  | 6 => ⟨S8x4096x2x32, .f32⟩
  | 7 => ⟨S8x4096x2x32, .f32⟩
  | 8 => ⟨S8x4096x2x64, .f32⟩
  | 9 => ⟨S8x4096x2x64, .f32⟩
  | 10 => ⟨S8x4096x2x32, .f32⟩
  | 11 => ⟨S8x4096x2x32, .f32⟩
  | 12 => ⟨S4096x1x32, .f32⟩
  | 13 => ⟨S4096x1x32, .f32⟩
  | 14 => ⟨S1x4096x1x32, .f32⟩
  | 15 => ⟨S8x4096x2x32, .f32⟩
  | 16 => ⟨S8x4096x2x32, .f32⟩
  | 17 => ⟨S1x4096x1x32, .f32⟩
  | 18 => ⟨S8x4096x2x32, .f32⟩
  | 19 => ⟨S8x4096x2x32, .f32⟩
  | 20 => ⟨S8x4096x2x32, .f32⟩
  | 21 => ⟨S1x4096x1x32, .f32⟩
  | 22 => ⟨S8x4096x2x32, .f32⟩
  | 23 => ⟨S8x4096x2x32, .f32⟩
  | 24 => ⟨S1x4096x1x32, .f32⟩
  | 25 => ⟨S8x4096x2x32, .f32⟩
  | 26 => ⟨S8x4096x2x32, .f32⟩
  | 27 => ⟨S8x4096x2x32, .f32⟩
  | 28 => ⟨S8x4096x2x64, .f32⟩
  | 29 => ⟨S8x4096x2x128, .f32⟩
  | 30 => ⟨S8x4096x2x2x2x32, .f32⟩
  | 31 => ⟨S8x4096x2x2x2x32, .f32⟩
  | 32 => ⟨S32768x256, .f32⟩
  | 33 => ⟨S32768x256, .bf16⟩
  | 34 => ⟨S8x2x144x4096, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩

abbrev nD : Nat := 1
abbrev τ : Topo := Topo.v7x

variable {F : FTy → Type} [FloatOps F]
-- ==== Proof.Att.Trip.lean ====
/- The attention's loop over the query tiles, as data: the scores of a tile and a head, their column maxima, the tile of the
   result they give, and what one trip of the loop leaves in the scratch buffers and in the output block. -/
module

public import proofs.«01_k».proof.Proof.Gen.KernelIdeal.Frame
public import proofs.«01_k».proof.Proof.Gen.KernelIdeal.Loops
public import Idealize.ShloMosaic.Lib.WritesUnit

@[expose] public section

set_option maxRecDepth 8192

noncomputable section

namespace Cert.KernelIdeal.Att

open Cert.KernelIdeal Cert.KernelIdeal.Gen
open Idealize.ShloMosaic Idealize.ShloMosaic.TcCoe Idealize.SL.Sem

variable {F : FTy → Type} [FloatOps F] [Named F]

/-! ## The tiles -/

/-- Where the query rows of tile `r` and head `g` begin within a grid point's block. -/
def qoff (r : Fin 16) (g : Fin 4) : Fin 3 → ℕ := ![0, 256 * r.val, 128 * g.val]

theorem qoff_inb (r : Fin 16) (g : Fin 4) : ∀ a, qoff r g a + S1x256x128.size a ≤ S1x4096x512.size a := by
  have hr := r.isLt; have hg := g.isLt
  intro a; fin_cases a
  · show (0 : ℕ) + 1 ≤ 1; omega
  · show 256 * r.val + 256 ≤ 4096; omega
  · show 128 * g.val + 128 ≤ 512; omega

/-- The query rows of tile `r` and head `g`. -/
def qtile (x0 : Vec F S1x4096x512 .bf16) (r : Fin 16) (g : Fin 4) : Vec F S1x256x128 .bf16 :=
  View.ld x0 (Rect.unit (s := S1x4096x512) (qoff r g) S1x256x128.size (qoff_inb r g))

/-- The scores of tile `r` and head `g` against all keys. -/
def Sc (x0 : Vec F S1x4096x512 .bf16) (x1 : Vec F S1x4096x128 .bf16) (r : Fin 16) (g : Fin 4) : FVec F S1x4096x256 .f32 :=
  k0_pay3 (qtile x0 r g) x1

/-- The tile of the result for tile `r` and head `g`. -/
def Ob (x0 : Vec F S1x4096x512 .bf16) (x1 : Vec F S1x4096x128 .bf16) (x2 : Vec F S1x1x144x4096 .bf16) (r : Fin 16) (g : Fin 4) :
    FVec F S1x256x128 .bf16 :=
  k0_pay11 x2 (Sc x0 x1 r g) (k0_pay4 (Sc x0 x1 r g))

/-- The tile an index of the output block lies in, and its head. -/
def tileOf (y : S1x4096x512.Idx) : Fin 16 := ⟨(y 1).val / 256, by have : (y 1).val < 4096 := (y 1).isLt; omega⟩
def headOf (y : S1x4096x512.Idx) : Fin 4 := ⟨(y 2).val / 128, by have : (y 2).val < 512 := (y 2).isLt; omega⟩

theorem mem_tile (y : S1x4096x512.Idx) :
    ∀ a, qoff (tileOf y) (headOf y) a ≤ (y a).val ∧ (y a).val < qoff (tileOf y) (headOf y) a + S1x256x128.size a := by
  have h0 : (y 0).val < 1 := (y 0).isLt
  intro a; fin_cases a
  · show 0 ≤ (y 0).val ∧ (y 0).val < 0 + 1; omega
  · show 256 * ((y 1).val / 256) ≤ (y 1).val ∧ (y 1).val < 256 * ((y 1).val / 256) + 256; omega
  · show 128 * ((y 2).val / 128) ≤ (y 2).val ∧ (y 2).val < 128 * ((y 2).val / 128) + 128; omega

/-- The whole output block of a grid point, as a function of its input blocks. -/
def OUT (x0 : Vec F S1x4096x512 .bf16) (x1 : Vec F S1x4096x128 .bf16) (x2 : Vec F S1x1x144x4096 .bf16) : Vec F S1x4096x512 .bf16 :=
  fun y => Ob x0 x1 x2 (tileOf y) (headOf y) (Rect.unitLocal (s := S1x4096x512) y (mem_tile y))

theorem OUT_of_mem (x0 : Vec F S1x4096x512 .bf16) (x1 : Vec F S1x4096x128 .bf16) (x2 : Vec F S1x1x144x4096 .bf16)
    (y : S1x4096x512.Idx) (r : Fin 16) (g : Fin 4)
    (h : ∀ a, qoff r g a ≤ (y a).val ∧ (y a).val < qoff r g a + S1x256x128.size a) :
    OUT x0 x1 x2 y = Ob x0 x1 x2 r g (Rect.unitLocal (s := S1x4096x512) y h) := by
  have h1 : 256 * r.val ≤ (y 1).val ∧ (y 1).val < 256 * r.val + 256 := h 1
  have h2 : 128 * g.val ≤ (y 2).val ∧ (y 2).val < 128 * g.val + 128 := h 2
  have er : r = tileOf y := Fin.ext (by show r.val = (y 1).val / 256; omega)
  have eg : g = headOf y := Fin.ext (by show g.val = (y 2).val / 128; omega)
  subst er eg; rfl

/-! ## Loads and stores at a rectangle -/

section Mem
variable {sig : RefSig} {κ : Kind} {sp : Space} {s : Shape} {e : EltTy} {Val : EltTy → Type}

/-- A load through the rectangle just written reads what was written. -/
theorem load_hit (v : View sig κ sp s e) (f : v.ty.Contents Val) (R : Rect s) (w : R.shape.Idx → Val e) (L : List (View.Piece Val s e)) :
    v.readAt Val R.toLoadRect (v.writes Val f (⟨R, w⟩ :: L)) = w :=
  funext fun x => View.read_writes_cons_emb v f R w L x

/-- A load through a slot other than the one just written reads what was there before. -/
theorem load_miss (v : View sig κ sp s e) (f : v.ty.Contents Val) {off off' size size' : Fin s.rank → ℕ}
    (inb : ∀ a, off a + size a ≤ s.size a) (inb' : ∀ a, off' a + size' a ≤ s.size a)
    (w : (Rect.unit off' size' inb').shape.Idx → Val e) (L : List (View.Piece Val s e)) (a : Fin s.rank)
    (h : off a + size a ≤ off' a ∨ off' a + size' a ≤ off a) :
    v.readAt Val (Rect.unit off size inb).toLoadRect (v.writes Val f (⟨Rect.unit off' size' inb', w⟩ :: L))
      = v.readAt Val (Rect.unit off size inb).toLoadRect (v.writes Val f L) :=
  funext fun x => View.read_writes_cons_unit_of_not_mem v f inb' w L _ rfl a (by
    have hx : (x a).val < size a := (x a).isLt
    have : (((Rect.unit off size inb).idx x) a).val = off a + 1 * (x a).val := rfl
    show (((Rect.unit off size inb).idx x) a).val < off' a ∨ off' a + size' a ≤ (((Rect.unit off size inb).idx x) a).val
    omega)

theorem load_congr (v : View sig κ sp s e) (f : v.ty.Contents Val) {off off' size : Fin s.rank → ℕ}
    (inb : ∀ a, off a + size a ≤ s.size a) (inb' : ∀ a, off' a + size a ≤ s.size a) (h : off = off') :
    v.readAt Val (Rect.unit off size inb).toLoadRect f = View.ld (v.read Val f) (Rect.unit off' size inb') := by
  subst h; rfl

theorem load_whole (v : View sig κ sp s e) (f : v.ty.Contents Val) {off : Fin s.rank → ℕ} (h0 : off = fun _ => 0)
    (inb : ∀ a, off a + s.size a ≤ s.size a) :
    v.readAt Val (Rect.unit off s.size inb).toLoadRect f = v.read Val f := by
  subst h0
  funext x
  show v.read Val f ((Rect.unit (fun _ => 0) s.size inb).idx x) = v.read Val f x
  congr 1
  funext a; apply Fin.ext
  show 0 + 1 * (x a).val = (x a).val
  omega

/-- A covered load through the rectangle written last. -/
theorem cov_hit [∀ e, Nonempty (Val e)] (v : View sig κ sp s e) (R : Rect s) (w : R.shape.Idx → Val e) (L : List (View.Piece Val s e)) :
    v.readCov (⟨R, w⟩ :: L) R.toLoadRect = w := View.readCov_cons_toLoadRect v R w L

theorem cov_miss [∀ e, Nonempty (Val e)] (v : View sig κ sp s e) {off off' size size' : Fin s.rank → ℕ}
    (inb : ∀ a, off a + size a ≤ s.size a) (inb' : ∀ a, off' a + size' a ≤ s.size a)
    (w : (Rect.unit off' size' inb').shape.Idx → Val e) (L : List (View.Piece Val s e)) (a : Fin s.rank)
    (h : off a + size a ≤ off' a ∨ off' a + size' a ≤ off a) :
    v.readCov (⟨Rect.unit off' size' inb', w⟩ :: L) (Rect.unit off size inb).toLoadRect
      = v.readCov L (Rect.unit off size inb).toLoadRect := load_miss v _ inb inb' w L a h

end Mem

/-! ## What the loop keeps -/

section Inv
variable (arg5 : Memref sig .tc .vmem S1x4096x512 .bf16) (arg6 : Memref sig .tc .vmem S4x4096x256 .f32) (arg7 : Memref sig .tc .vmem S4x1x256 .f32)
variable (x0 : Vec F S1x4096x512 .bf16) (x1 : Vec F S1x4096x128 .bf16) (x2 : Vec F S1x1x144x4096 .bf16)

/-- The last tile is computed ahead of itself once more. -/
def nxt (k : ℕ) : Fin 16 := ⟨min k 15, by omega⟩

/-- Before trip `k`: the first two score slots and the first maximum are those of tile `k`, and the output rows of the earlier
    tiles are done. -/
structure Held (k : ℕ) (f5 : BufTy.Contents (Elt F) arg5.view.ty) (f6 : BufTy.Contents (Elt F) arg6.view.ty)
    (f7 : BufTy.Contents (Elt F) arg7.view.ty) : Prop where
  s0 : arg6.view.readAt (Elt F) (Rect.unit (s := S4x4096x256) ![0, 0, 0] S1x4096x256.size inb_S4x4096x256_S1x4096x256_0_0_0).toLoadRect f6 = Sc x0 x1 (nxt k) 0
  s1 : arg6.view.readAt (Elt F) (Rect.unit (s := S4x4096x256) ![1, 0, 0] S1x4096x256.size inb_S4x4096x256_S1x4096x256_1_0_0).toLoadRect f6 = Sc x0 x1 (nxt k) 1
  m0 : arg7.view.readAt (Elt F) (Rect.unit (s := S4x1x256) ![0, 0, 0] S1x1x256.size inb_S4x1x256_S1x1x256_0_0_0).toLoadRect f7 = k0_pay4 (Sc x0 x1 (nxt k) 0)
  out : ∀ y : S1x4096x512.Idx, (y 1).val < 256 * k → arg5.view.read (Elt F) f5 y = OUT x0 x1 x2 y

end Inv

end Cert.KernelIdeal.Att

end
-- ==== Proof.Att.Step.lean ====
/- One trip of the attention's loop keeps what the loop keeps, so every trip does. -/
module

public import proofs.«01_k».proof.Proof.Att.Trip

@[expose] public section

set_option maxRecDepth 8192
set_option maxHeartbeats 1000000

noncomputable section

namespace Cert.KernelIdeal.Att

open Cert.KernelIdeal Cert.KernelIdeal.Gen
open Idealize.ShloMosaic Idealize.ShloMosaic.TcCoe Idealize.SL.Sem

variable {F : FTy → Type} [FloatOps F] [Named F]
section
variable (𝒱 : Variants) (c : Dev nD) (bd : Option 𝒱.V) (i : grid0.Coords) (arg2 : Memref sig .tc .vmem S1x4096x512 .bf16) (harg2 : arg2.IsWhole) (arg3 : Memref sig .tc .vmem S1x4096x128 .bf16) (harg3 : arg3.IsWhole) (arg4 : Memref sig .tc .vmem S1x1x144x4096 .bf16) (harg4 : arg4.IsWhole) (arg5 : Memref sig .tc .vmem S1x4096x512 .bf16) (harg5 : arg5.IsWhole) (arg6 : Memref sig .tc .vmem S4x4096x256 .f32) (harg6 : arg6.IsWhole) (arg7 : Memref sig .tc .vmem S4x1x256 .f32) (harg7 : arg7.IsWhole) (X2 : BufTy.Contents (Elt F) arg2.view.ty) (X3 : BufTy.Contents (Elt F) arg3.view.ty) (X4 : BufTy.Contents (Elt F) arg4.view.ty)

theorem step (k : Fin k0_t1_loop.trips) (f5 f6 f7)
    (h : Held arg5 arg6 arg7 (arg2.view.read (Elt F) X2) (arg3.view.read (Elt F) X3) (arg4.view.read (Elt F) X4) k.val f5 f6 f7) :
    Held arg5 arg6 arg7 (arg2.view.read (Elt F) X2) (arg3.view.read (Elt F) X3) (arg4.view.read (Elt F) X4) (k.val + 1)
      (arg5.view.writes (Elt F) f5 (tripL_k0_t1 (F := F) 𝒱 c bd i arg2 harg2 arg3 harg3 arg4 harg4 arg5 harg5 arg6 harg6 arg7 harg7 X2 X3 X4 k f5 f6 f7).1)
      (arg6.view.writes (Elt F) f6 (tripL_k0_t1 (F := F) 𝒱 c bd i arg2 harg2 arg3 harg3 arg4 harg4 arg5 harg5 arg6 harg6 arg7 harg7 X2 X3 X4 k f5 f6 f7).2.1)
      (arg7.view.writes (Elt F) f7 (tripL_k0_t1 (F := F) 𝒱 c bd i arg2 harg2 arg3 harg3 arg4 harg4 arg5 harg5 arg6 harg6 arg7 harg7 X2 X3 X4 k f5 f6 f7).2.2) := by
  have hk : k.val < 16 := Nat.lt_of_lt_of_le k.isLt k0_t1_abs.2.1
  simp only [tripL_k0_t1]
  unfold trip_k0_t1
  dsimp only
  have hn : nxt k.val = ⟨k.val, hk⟩ := Fin.ext (by show min k.val 15 = k.val; omega)
  -- the loads of the query rows, the keys and the values
  have q1 : ∀ hb, arg2.view.readAt (Elt F) (Rect.unit (s := S1x4096x512) (k0_off1 k) S1x256x128.size hb).toLoadRect X2
      = qtile (arg2.view.read (Elt F) X2) ⟨k.val, hk⟩ 2 := fun hb => load_congr _ _ _ _ (k0_off1_eq k)
  have q3 : ∀ hb, arg2.view.readAt (Elt F) (Rect.unit (s := S1x4096x512) (k0_off3 k) S1x256x128.size hb).toLoadRect X2
      = qtile (arg2.view.read (Elt F) X2) ⟨k.val, hk⟩ 3 := fun hb => load_congr _ _ _ _ (k0_off3_eq k)
  have q5 : ∀ hb, arg2.view.readAt (Elt F) (Rect.unit (s := S1x4096x512) (k0_off5 k) S1x256x128.size hb).toLoadRect X2
      = qtile (arg2.view.read (Elt F) X2) (nxt (k.val + 1)) 0 := fun hb => load_congr _ _ _ _ (k0_off5_eq k)
  have q6 : ∀ hb, arg2.view.readAt (Elt F) (Rect.unit (s := S1x4096x512) (k0_off6 k) S1x256x128.size hb).toLoadRect X2
      = qtile (arg2.view.read (Elt F) X2) (nxt (k.val + 1)) 1 := fun hb => load_congr _ _ _ _ (k0_off6_eq k)
  have kk : arg3.view.readAt (Elt F) (Rect.unit (s := S1x4096x128) ![0, 0, 0] S1x4096x128.size inb_S1x4096x128_S1x4096x128_0_0_0).toLoadRect X3
      = arg3.view.read (Elt F) X3 := load_whole _ _ (by funext a; fin_cases a <;> rfl) _
  have vv : arg4.view.readAt (Elt F) (Rect.unit (s := S1x1x144x4096) ![0, 0, 0, 0] S1x1x144x4096.size inb_S1x1x144x4096_S1x1x144x4096_0_0_0_0).toLoadRect X4
      = arg4.view.read (Elt F) X4 := load_whole _ _ (by funext a; fin_cases a <;> rfl) _
  obtain ⟨s0, s1, m0, out⟩ := h
  rw [hn] at s0 s1 m0
  generalize arg2.view.read (Elt F) X2 = x0 at *
  generalize hx1 : arg3.view.read (Elt F) X3 = x1 at *
  generalize hx2 : arg4.view.read (Elt F) X4 = x2 at *
  have e6 : trip_k0_t1.sl.HW_arg6_4 arg2 arg3 X2 X3 k = [
      ⟨Rect.unit (s := S4x4096x256) ![1, 0, 0] S1x4096x256.size inb_S4x4096x256_S1x4096x256_1_0_0, Sc x0 x1 (nxt (k.val + 1)) 1⟩,
      ⟨Rect.unit (s := S4x4096x256) ![0, 0, 0] S1x4096x256.size inb_S4x4096x256_S1x4096x256_0_0_0, Sc x0 x1 (nxt (k.val + 1)) 0⟩,
      ⟨Rect.unit (s := S4x4096x256) ![3, 0, 0] S1x4096x256.size inb_S4x4096x256_S1x4096x256_3_0_0, Sc x0 x1 ⟨k.val, hk⟩ 3⟩,
      ⟨Rect.unit (s := S4x4096x256) ![2, 0, 0] S1x4096x256.size inb_S4x4096x256_S1x4096x256_2_0_0, Sc x0 x1 ⟨k.val, hk⟩ 2⟩] := by
    simp only [trip_k0_t1.sl.HW_arg6_4, trip_k0_t1.sl.HW_arg6_3, trip_k0_t1.sl.HW_arg6_2, trip_k0_t1.sl.v142, trip_k0_t1.sl.v139, trip_k0_t1.sl.v138, trip_k0_t1.sl.r_3, trip_k0_t1.sl.cst_93, q1, q3, q5, q6, kk]
    rfl
  -- the loads of the scratch buffers within the trip
  have l98 : trip_k0_t1.sl.v98 arg2 arg3 arg6 X2 X3 k = Sc x0 x1 ⟨k.val, hk⟩ 2 := by
    simp only [trip_k0_t1.sl.v98, trip_k0_t1.sl.HW_arg6_2, q1, q3, kk]
    refine (cov_miss _ _ _ _ _ 0 ?_).trans (cov_hit _ _ _ _)
    decide
  have l143 : trip_k0_t1.sl.v143 arg2 arg3 arg6 X2 X3 k = Sc x0 x1 ⟨k.val, hk⟩ 3 := by
    simp only [trip_k0_t1.sl.v143, trip_k0_t1.sl.HW_arg6_3, trip_k0_t1.sl.HW_arg6_2, q1, q3, q5, kk]
    refine (cov_miss _ _ _ _ _ 0 ?_).trans (cov_hit _ _ _ _)
    decide
  have l152 : trip_k0_t1.sl.v152 arg2 arg3 arg6 X2 X3 k = Sc x0 x1 ⟨k.val, hk⟩ 2 := by
    simp only [trip_k0_t1.sl.v152, trip_k0_t1.sl.HW_arg6_3, trip_k0_t1.sl.HW_arg6_2, q1, q3, q5, kk]
    refine (cov_miss _ _ _ _ _ 0 ?_).trans ((cov_miss _ _ _ _ _ 0 ?_).trans (cov_hit _ _ _ _)) <;> decide
  have l188 : trip_k0_t1.sl.v188 arg2 arg3 arg6 X2 X3 k = Sc x0 x1 (nxt (k.val + 1)) 0 := by
    simp only [trip_k0_t1.sl.v188, e6]
    refine (cov_miss _ _ _ _ _ 0 ?_).trans (cov_hit _ _ _ _)
    decide
  have l197 : trip_k0_t1.sl.v197 arg2 arg3 arg6 X2 X3 k = Sc x0 x1 ⟨k.val, hk⟩ 3 := by
    simp only [trip_k0_t1.sl.v197, e6]
    refine (cov_miss _ _ _ _ _ 0 ?_).trans ((cov_miss _ _ _ _ _ 0 ?_).trans (cov_hit _ _ _ _)) <;> decide
  have l53 : trip_k0_t1.sl.v53 arg6 f6 = Sc x0 x1 ⟨k.val, hk⟩ 1 := by
    simp only [trip_k0_t1.sl.v53]; exact s1
  have e7 : trip_k0_t1.sl.HW_arg7_4 arg2 arg3 arg6 X2 X3 k f6 = [
      ⟨Rect.unit (s := S4x1x256) ![0, 0, 0] S1x1x256.size inb_S4x1x256_S1x1x256_0_0_0, k0_pay4 (Sc x0 x1 (nxt (k.val + 1)) 0)⟩,
      ⟨Rect.unit (s := S4x1x256) ![3, 0, 0] S1x1x256.size inb_S4x1x256_S1x1x256_3_0_0, k0_pay4 (Sc x0 x1 ⟨k.val, hk⟩ 3)⟩,
      ⟨Rect.unit (s := S4x1x256) ![2, 0, 0] S1x1x256.size inb_S4x1x256_S1x1x256_2_0_0, k0_pay4 (Sc x0 x1 ⟨k.val, hk⟩ 2)⟩,
      ⟨Rect.unit (s := S4x1x256) ![1, 0, 0] S1x1x256.size inb_S4x1x256_S1x1x256_1_0_0, k0_pay4 (Sc x0 x1 ⟨k.val, hk⟩ 1)⟩] := by
    simp only [trip_k0_t1.sl.HW_arg7_4, trip_k0_t1.sl.HW_arg7_3, trip_k0_t1.sl.HW_arg7_2, trip_k0_t1.sl.v149, trip_k0_t1.sl.v146, trip_k0_t1.sl.v145, trip_k0_t1.sl.v144, trip_k0_t1.sl.r_2, l188, l143, l98, l53]
    rfl
  have l109 : trip_k0_t1.sl.v109 arg2 arg3 arg6 arg7 X2 X3 k f6 = k0_pay4 (Sc x0 x1 ⟨k.val, hk⟩ 1) := by
    simp only [trip_k0_t1.sl.v109, trip_k0_t1.sl.HW_arg7_2, l98, l53]
    refine (cov_miss _ _ _ _ _ 0 ?_).trans (cov_hit _ _ _ _)
    decide
  have l154 : trip_k0_t1.sl.v154 arg2 arg3 arg6 arg7 X2 X3 k f6 = k0_pay4 (Sc x0 x1 ⟨k.val, hk⟩ 2) := by
    simp only [trip_k0_t1.sl.v154, trip_k0_t1.sl.HW_arg7_3, trip_k0_t1.sl.HW_arg7_2, trip_k0_t1.sl.r_2, l98, l53]
    refine (cov_miss _ _ _ _ _ 0 ?_).trans (cov_hit _ _ _ _)
    decide
  have l199 : trip_k0_t1.sl.v199 arg2 arg3 arg6 arg7 X2 X3 k f6 = k0_pay4 (Sc x0 x1 ⟨k.val, hk⟩ 3) := by
    simp only [trip_k0_t1.sl.v199, e7]
    refine (cov_miss _ _ _ _ _ 0 ?_).trans (cov_hit _ _ _ _)
    decide
  -- the four tiles of the result
  have o0 : k0_pay7 (trip_k0_t1.sl.r arg4 X4) (trip_k0_t1.sl.r_1 arg6 f6) (trip_k0_t1.sl.v64 arg7 f7) = Ob x0 x1 x2 ⟨k.val, hk⟩ 0 := by
    simp only [trip_k0_t1.sl.r, trip_k0_t1.sl.r_1, trip_k0_t1.sl.v62, trip_k0_t1.sl.v64, vv, s0, m0]
    rfl
  have o2 : k0_pay16 (trip_k0_t1.sl.v166 arg2 arg3 arg4 arg6 arg7 X2 X3 X4 k f6) = Ob x0 x1 x2 ⟨k.val, hk⟩ 2 := by
    simp only [trip_k0_t1.sl.v166, trip_k0_t1.sl.v165, trip_k0_t1.sl.v164, trip_k0_t1.sl.v163, trip_k0_t1.sl.v162, trip_k0_t1.sl.v161, trip_k0_t1.sl.v160,
      trip_k0_t1.sl.v159, trip_k0_t1.sl.v158, trip_k0_t1.sl.v157, trip_k0_t1.sl.v156, trip_k0_t1.sl.v155, trip_k0_t1.sl.v153, trip_k0_t1.sl.v151,
      trip_k0_t1.sl.cst_114, l152, l154, vv]
    rfl
  have o3 : k0_pay2 (trip_k0_t1.sl.r_4 arg4 X4) (trip_k0_t1.sl.r_5 arg2 arg3 arg6 X2 X3 k) (trip_k0_t1.sl.v199 arg2 arg3 arg6 arg7 X2 X3 k f6) = Ob x0 x1 x2 ⟨k.val, hk⟩ 3 := by
    simp only [trip_k0_t1.sl.r_4, trip_k0_t1.sl.r_5, l197, l199, vv]
    rfl
  simp only [o0, o2, o3, e6, e7, l53, l109]
  refine ⟨?_, ?_, ?_, fun y hy => ?_⟩
  · refine (load_miss _ _ _ _ _ _ 0 ?_).trans (load_hit _ _ _ _ _)
    decide
  · exact load_hit _ _ _ _ _
  · exact load_hit _ _ _ _ _
  · have hv : arg4.view.readAt (Elt F) (Rect.unit (s := S1x1x144x4096) ![0, 0, 0, 0] ![1, 1, 144, 4096] inb_S1x1x144x4096_S1x1x144x4096_0_0_0_0).toLoadRect X4
      = x2 := vv
    rw [View.read_writes_cons_unit _ _ _ _ _ _ (k0_off3_eq k)]
    split
    · rename_i h
      exact (OUT_of_mem x0 x1 x2 y ⟨k.val, hk⟩ 3 h).symm
    rename_i n3
    rw [View.read_writes_cons_unit _ _ _ _ _ _ (k0_off1_eq k)]
    split
    · rename_i h
      exact (OUT_of_mem x0 x1 x2 y ⟨k.val, hk⟩ 2 h).symm
    rename_i n2
    rw [View.read_writes_cons_unit _ _ _ _ _ _ (k0_off4_eq k)]
    split
    · rename_i h
      rw [hv]
      exact (OUT_of_mem x0 x1 x2 y ⟨k.val, hk⟩ 1 h).symm
    rename_i n1
    rw [View.read_writes_cons_unit _ _ _ _ _ _ (k0_off2_eq k)]
    split
    · rename_i h
      exact (OUT_of_mem x0 x1 x2 y ⟨k.val, hk⟩ 0 h).symm
    rename_i n0
    refine out y ?_
    by_contra hc
    have h1 : tileOf y = ⟨k.val, hk⟩ := Fin.ext (by show (y 1).val / 256 = k.val; omega)
    have hm := mem_tile y
    rw [h1] at hm
    have hg : headOf y = 0 ∨ headOf y = 1 ∨ headOf y = 2 ∨ headOf y = 3 := by
      generalize headOf y = g; revert g; decide
    rcases hg with hg | hg | hg | hg <;> rw [hg] at hm
    · exact n0 hm
    · exact n1 hm
    · exact n2 hm
    · exact n3 hm

/-- What the loop keeps holds before every trip, from the contents at its start. -/
theorem held_all (f5 f6 f7)
    (h : Held arg5 arg6 arg7 (arg2.view.read (Elt F) X2) (arg3.view.read (Elt F) X3) (arg4.view.read (Elt F) X4) 0 f5 f6 f7) :
    ∀ k : ℕ, k ≤ k0_t1_loop.trips → Held arg5 arg6 arg7 (arg2.view.read (Elt F) X2) (arg3.view.read (Elt F) X3) (arg4.view.read (Elt F) X4) k
      (arg5.view.writes (Elt F) f5 (pb_k0_t1 (F := F) 𝒱 c bd i arg2 harg2 arg3 harg3 arg4 harg4 arg5 harg5 arg6 harg6 arg7 harg7 X2 X3 X4 f5 f6 f7 k).1)
      (arg6.view.writes (Elt F) f6 (pb_k0_t1 (F := F) 𝒱 c bd i arg2 harg2 arg3 harg3 arg4 harg4 arg5 harg5 arg6 harg6 arg7 harg7 X2 X3 X4 f5 f6 f7 k).2.1)
      (arg7.view.writes (Elt F) f7 (pb_k0_t1 (F := F) 𝒱 c bd i arg2 harg2 arg3 harg3 arg4 harg4 arg5 harg5 arg6 harg6 arg7 harg7 X2 X3 X4 f5 f6 f7 k).2.2) := by
  intro k
  induction k with
  | zero => intro _; exact h
  | succ n ih =>
    intro hn
    have e := pb_k0_t1_succ (F := F) 𝒱 c bd i arg2 harg2 arg3 harg3 arg4 harg4 arg5 harg5 arg6 harg6 arg7 harg7 X2 X3 X4 f5 f6 f7 ⟨n, hn⟩
    simp only at e
    rw [e]
    simp only [View.writes_append]
    exact step 𝒱 c bd i arg2 harg2 arg3 harg3 arg4 harg4 arg5 harg5 arg6 harg6 arg7 harg7 X2 X3 X4 ⟨n, hn⟩ _ _ _ (ih (Nat.le_of_lt hn))
end
end Cert.KernelIdeal.Att

end
-- ==== Proof.Att.Run.lean ====
/- The attention's run: the body leaves the output block `OUT` of its input blocks, whatever the scratch buffers held, and the
   frame and the final array follow by the pipeline's library. -/
module

public import proofs.«01_k».proof.Proof.Att.Step
public import Idealize.ShloMosaic.Lib.Claim

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem trips_eq : k0_t1_loop.trips = 16 := by decide +kernel

/-- The body on whole staging buffers: the output's ends at `OUT` of the inputs', the scratch at something. -/
theorem kernelRun (c : Dev nD) (i : grid0.Coords) (arg2 : Memref sig .tc .vmem S1x4096x512 .bf16) (harg2 : arg2.IsWhole) (arg3 : Memref sig .tc .vmem S1x4096x128 .bf16) (harg3 : arg3.IsWhole) (arg4 : Memref sig .tc .vmem S1x1x144x4096 .bf16) (harg4 : arg4.IsWhole) (arg5 : Memref sig .tc .vmem S1x4096x512 .bf16) (harg5 : arg5.IsWhole) (arg6 : Memref sig .tc .vmem S4x4096x256 .f32) (harg6 : arg6.IsWhole) (arg7 : Memref sig .tc .vmem S4x1x256 .f32) (harg7 : arg7.IsWhole)
    (x0 : Vec F S1x4096x512 .bf16) (x1 : Vec F S1x4096x128 .bf16) (x2 : Vec F S1x1x144x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (OUT x0 x1 x2) ∗ (∃ d, owns (c : Thread nD τ) arg6 fullShare d) ∗ (∃ d, owns (c : Thread nD τ) arg7 fullShare d)) -∗ K ⟨⟩))
      ⊢ wp frame (wpE (defs₀ (F := F)) Variants.none c none) E (cc0_attn i arg2 harg2 arg3 harg3 arg4 harg4 arg5 harg5 arg6 harg6 arg7 harg7) K := by
  simp only [cc0_attn_eq_skeleton]; unfold cc0_attn_skel
  simp only [k0_part6_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
  subst hf0 hf1 hf2
  sl_exec
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro
    have q0 : arg2.view.readAt (Elt F) (Rect.unit (s := S1x4096x512) ![0, 0, 0] S1x256x128.size inb_S1x4096x512_S1x256x128_0_0_0).toLoadRect f0
        = qtile (arg2.view.read (Elt F) f0) (nxt 0) 0 := load_congr _ _ _ _ (by decide)
    have q1 : arg2.view.readAt (Elt F) (Rect.unit (s := S1x4096x512) ![0, 0, 128] S1x256x128.size inb_S1x4096x512_S1x256x128_0_0_128).toLoadRect f0
        = qtile (arg2.view.read (Elt F) f0) (nxt 0) 1 := load_congr _ _ _ _ (by decide)
    have kk : arg3.view.readAt (Elt F) (Rect.unit (s := S1x4096x128) ![0, 0, 0] S1x4096x128.size inb_S1x4096x128_S1x4096x128_0_0_0).toLoadRect f1
        = arg3.view.read (Elt F) f1 := load_whole _ _ (by funext a; fin_cases a <;> rfl) _
    have e6 : kernelRun.sl.HS0_2 c arg2 arg3 f0 f1 = [
        ⟨Rect.unit (s := S4x4096x256) ![1, 0, 0] S1x4096x256.size inb_S4x4096x256_S1x4096x256_1_0_0, Sc (arg2.view.read (Elt F) f0) (arg3.view.read (Elt F) f1) (nxt 0) 1⟩,
        ⟨Rect.unit (s := S4x4096x256) ![0, 0, 0] S1x4096x256.size inb_S4x4096x256_S1x4096x256_0_0_0, Sc (arg2.view.read (Elt F) f0) (arg3.view.read (Elt F) f1) (nxt 0) 0⟩] := by
      delta kernelRun.sl.HS0_2
      simp only [q0, q1, kk]
      rfl
    have l28 : kernelRun.sl.v28 c arg2 arg3 arg6 f0 f1 = Sc (arg2.view.read (Elt F) f0) (arg3.view.read (Elt F) f1) (nxt 0) 0 := by
      delta kernelRun.sl.v28
      rw [e6]
      refine (cov_miss _ _ _ _ _ 0 ?_).trans (cov_hit _ _ _ _)
      decide
    have start : Held arg5 arg6 arg7 (arg2.view.read (Elt F) f0) (arg3.view.read (Elt F) f1) (arg4.view.read (Elt F) f2) 0 f3
        (arg6.view.writes (Elt F) fs0 (kernelRun.sl.HS0_2 c arg2 arg3 f0 f1))
        (arg7.view.writes (Elt F) fs1 [⟨Rect.unit ![0, 0, 0] S1x1x256.size inb_S4x1x256_S1x1x256_0_0_0,
          k0_pay18 (kernelRun.sl.v28 c arg2 arg3 arg6 f0 f1)⟩]) := by
      rw [e6, l28]
      refine ⟨?_, ?_, ?_, fun y hy => absurd hy (by omega)⟩
      · refine (load_miss _ _ _ _ _ _ 0 ?_).trans (load_hit _ _ _ _ _)
        decide
      · exact load_hit _ _ _ _ _
      · exact load_hit _ _ _ _ _
    have done := held_all Variants.none c none i arg2 harg2 arg3 harg3 arg4 harg4 arg5 harg5 arg6 harg6 arg7 harg7 f0 f1 f2 _ _ _ start
      k0_t1_loop.trips le_rfl
    funext y
    exact done.out y (by rw [trips_eq]; exact (y 1).isLt)
  isplitl [HS0]
  · iexists _, _; isplitr; swap; · iexact HS0
    ipureintro; rfl
  iexists _, _; isplitr; swap; · iexact HS1
  ipureintro; rfl

/-! ## The pipeline's data -/

abbrev ms0 (t : Fin cfg0.N) : Memref sig .tc .vmem S1x4096x512 .bf16 := win0_0.stage (cfg0.slots t 0)
abbrev ms1 (t : Fin cfg0.N) : Memref sig .tc .vmem S1x4096x128 .bf16 := win0_1.stage (cfg0.slots t 1)
abbrev ms2 (t : Fin cfg0.N) : Memref sig .tc .vmem S1x1x144x4096 .bf16 := win0_2.stage (cfg0.slots t 2)
abbrev ms3 (t : Fin cfg0.N) : Memref sig .tc .vmem S1x4096x512 .bf16 := win0_3.stage (cfg0.slots t 3)
abbrev scS : Memref sig .tc .vmem S4x4096x256 .f32 := Memref.whole cc0_scratch0
abbrev scM : Memref sig .tc .vmem S4x1x256 .f32 := Memref.whole cc0_scratch1

/-- Between points the two scratch buffers hold something, and so does the generator's register. -/
theorem Phi_eq (c : Dev nD) :
    (Pipeline.ΦA spec0 c : sProp 𝕄)
      = iprop(iprop((∃ d, owns (c : Thread nD τ) scS fullShare d) ∗ (∃ d, owns (c : Thread nD τ) scM fullShare d)) ∗ (∃ r, prngReg c r)) := by
  unfold Pipeline.ΦA; rw [scopedRest0_eq]; simp only [scS, scM, owns_whole]; try rfl

/-- The output block of point `t`. -/
def outAt (c : Dev nD) (t : Fin cfg0.N) : Vec F S1x4096x512 .bf16 := OUT (iblk m c 0 t) (iblk m c 1 t) (iblk m c 2 t)

/-- What each window's buffer holds after a point: an input its block, the output `OUT` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem dats_A (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

theorem before0 (c : Dev nD) (t : Fin cfg0.N) (d) : (dats m 0 c).before 0 t d = iblk m c 0 t :=
  before0_0_of m (dats m 0 c) (dats_A m c 0) (after0 m c) t d
theorem before1 (c : Dev nD) (t : Fin cfg0.N) (d) : (dats m 0 c).before 1 t d = iblk m c 1 t :=
  before0_1_of m (dats m 0 c) (dats_A m c 1) (after1 m c) t d
theorem before2 (c : Dev nD) (t : Fin cfg0.N) (d) : (dats m 0 c).before 2 t d = iblk m c 2 t :=
  before0_2_of m (dats m 0 c) (dats_A m c 2) (after2 m c) t d

/-- The body at a point, from what the pipeline hands it to what it hands back. -/
theorem sound_body (c : Dev nD) (t : Fin cfg0.N) :
    iprop((dats m 0 c).Φ t.castSucc ∗ (dats m 0 c).owesAt () t.castSucc
      ∗ (∃ d, owns (c : Thread nD τ) (ms0 t) fullShare ((dats m 0 c).before 0 t d))
      ∗ (∃ d, owns (c : Thread nD τ) (ms1 t) fullShare ((dats m 0 c).before 1 t d))
      ∗ (∃ d, owns (c : Thread nD τ) (ms2 t) fullShare ((dats m 0 c).before 2 t d))
      ∗ (∃ d, owns (c : Thread nD τ) (ms3 t) fullShare ((dats m 0 c).before 3 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (ms0 t) fullShare ((dats m 0 c).after 0 t)
        ∗ owns (c : Thread nD τ) (ms1 t) fullShare ((dats m 0 c).after 1 t)
        ∗ owns (c : Thread nD τ) (ms2 t) fullShare ((dats m 0 c).after 2 t)
        ∗ owns (c : Thread nD τ) (ms3 t) fullShare ((dats m 0 c).after 3 t))) := by
  unfold bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  rw [show (dats m 0 c).Φ t.castSucc = Pipeline.ΦA spec0 c from rfl, Phi_eq]
  unfold outAt
  iintro ⟨⟨⟨HS0, HS1⟩, Hg⟩, Ho, ⟨%d0, H0⟩, ⟨%d1, H1⟩, ⟨%d2, H2⟩, ⟨%d3, H3⟩⟩
  iapply (kernelRun c (grid0.coords t) _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexact H3

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- Every run ends with the arrays at what the data says and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

theorem run_post : θ_run defs (onTc (τ := τ) (main (F := F))) (s₀ m ρ) (Pipeline.FramePost cfgs (dats m) 0 (V m)) :=
  (θ_run defs _ _).mono (fun _ h => h.1) (run_quiet m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (dats_A m) (run_post m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_quiet m ρ))

end Cert.KernelIdeal.Att

end
-- ==== Proof.Frames.lean ====
/- The frames of the programs, and what the named constant states. -/
module

public import proofs.«01_k».proof.Defs
public import proofs.«01_k».proof.Proof.Att.Run
public import proofs.«01_k».proof.Proof.KAtt.Run
public import proofs.«01_k».proof.Proof.Gen.Kernel2.Frame
public import proofs.«01_k».proof.Proof.Gen.Kernel2Ideal.Value
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Pre_finite_qk
public import proofs.«01_k».proof.Proof.Gen.Pre_finite_gates

@[expose] public section

noncomputable section

namespace Cert.Proof

open Idealize.ShloMosaic Idealize.SL.Sem

attribute [local instance] Cert.Kernel.Gen.facts Cert.KernelIdeal.Gen.facts Cert.ReferenceIdeal.Gen.facts Cert.Kernel2.Gen.facts
  Cert.Kernel2Ideal.Gen.facts Cert.Reference2Ideal.Gen.facts Cert.Kernel3.Gen.facts Cert.Kernel3Ideal.Gen.facts
  Cert.Reference3Ideal.Gen.facts Cert.Kernel4.Gen.facts Cert.Kernel4Ideal.Gen.facts Cert.Reference4Ideal.Gen.facts Cert.Kernel5.Gen.facts Cert.Kernel5Ideal.Gen.facts Cert.Reference5Ideal.Gen.facts
  Cert.Kernel6.Gen.facts Cert.Kernel6Ideal.Gen.facts Cert.Reference6Ideal.Gen.facts Cert.Pre_finite_qk.Gen.facts

theorem frame_p : Cert.quiescent_Kernel := fun m ρ _ => Cert.Kernel.Att.frame m ρ
theorem frame_pi : Cert.quiescent_KernelIdeal := fun m ρ _ => Cert.KernelIdeal.Att.frame m ρ
theorem frame_pi_pre : Cert.quiescent_KernelIdeal_pre_finite_qk := fun m ρ _ => Cert.KernelIdeal.Att.frame m ρ
theorem frame_ri : Cert.quiescent_ReferenceIdeal := fun m ρ _ =>
  (θ_run _ _ _).mono (fun r h => ⟨fun c => (h c).2, Idealize.ShloMosaic.sem_eq_zero_of_no_sems (by decide) r.2⟩) (Cert.ReferenceIdeal.Value.run (F := Ideal) m ρ)
theorem frame_ri_pre : Cert.quiescent_ReferenceIdeal_pre_finite_qk := fun m ρ _ => frame_ri m ρ trivial
theorem frame_p2 : Cert.quiescent_Kernel2 := fun m ρ _ => Cert.Kernel2.Gen.frame m ρ
theorem frame_pi2 : Cert.quiescent_Kernel2Ideal := fun m ρ _ => Cert.Kernel2Ideal.Gen.frame m ρ
theorem frame_ri2 : Cert.quiescent_Reference2Ideal := fun m ρ _ =>
  (θ_run _ _ _).mono (fun r h => ⟨fun c => (h c).2, Idealize.ShloMosaic.sem_eq_zero_of_no_sems (by decide) r.2⟩) (Cert.Reference2Ideal.Value.run (F := Ideal) m ρ)
theorem frame_p3 : Cert.quiescent_Kernel3 := fun m ρ _ => Cert.Kernel3.Gen.frame m ρ
theorem frame_pi3 : Cert.quiescent_Kernel3Ideal := fun m ρ _ => Cert.Kernel3Ideal.Gen.frame m ρ
theorem frame_ri3 : Cert.quiescent_Reference3Ideal := fun m ρ _ =>
  (θ_run _ _ _).mono (fun r h => ⟨fun c => (h c).2, Idealize.ShloMosaic.sem_eq_zero_of_no_sems (by decide) r.2⟩) (Cert.Reference3Ideal.Value.run (F := Ideal) m ρ)
theorem frame_p4 : Cert.quiescent_Kernel4 := fun m ρ _ => Cert.Kernel4.Gen.frame m ρ
theorem frame_pi4 : Cert.quiescent_Kernel4Ideal := fun m ρ _ => Cert.Kernel4Ideal.Gen.frame m ρ
theorem frame_ri4 : Cert.quiescent_Reference4Ideal := fun m ρ _ =>
  (θ_run _ _ _).mono (fun r h => ⟨fun c => (h c).2, Idealize.ShloMosaic.sem_eq_zero_of_no_sems (by decide) r.2⟩) (Cert.Reference4Ideal.Value.run (F := Ideal) m ρ)
theorem frame_p5 : Cert.quiescent_Kernel5 := fun m ρ _ => Cert.Kernel5.Gen.frame m ρ
theorem frame_pi5 : Cert.quiescent_Kernel5Ideal := fun m ρ _ => Cert.Kernel5Ideal.Gen.frame m ρ
theorem frame_pi5_pre : Cert.quiescent_Kernel5Ideal_pre_finite_gates := fun m ρ _ => Cert.Kernel5Ideal.Gen.frame m ρ
theorem frame_ri5 : Cert.quiescent_Reference5Ideal := fun m ρ _ =>
  (θ_run _ _ _).mono (fun r h => ⟨fun c => (h c).2.2.2.2.2.2.2, Idealize.ShloMosaic.sem_eq_zero_of_no_sems (by decide) r.2⟩) (Cert.Reference5Ideal.Value.run (F := Ideal) m ρ)
theorem frame_ri5_pre : Cert.quiescent_Reference5Ideal_pre_finite_gates := fun m ρ _ => frame_ri5 m ρ trivial

theorem frame_p6 : Cert.quiescent_Kernel6 := fun m ρ _ => Cert.Kernel6.Gen.frame m ρ
theorem frame_pi6 : Cert.quiescent_Kernel6Ideal := fun m ρ _ => Cert.Kernel6Ideal.Gen.frame m ρ
theorem frame_ri6 : Cert.quiescent_Reference6Ideal := fun m ρ _ =>
  (θ_run _ _ _).mono (fun r h => ⟨fun c => (h c).2.2.2, Idealize.ShloMosaic.sem_eq_zero_of_no_sems (by decide) r.2⟩) (Cert.Reference6Ideal.Value.run (F := Ideal) m ρ)

theorem pres : Cert.preserves_Kernel_KernelIdeal :=
  IdealRules.named_const.statement Cert.KernelIdeal.κ "scale_log2e" .f32 0x3E0293EE#32 (((Real.sqrt 128)⁻¹ * (Real.log 2)⁻¹ : ℝ) : EReal) rfl

end Cert.Proof

end
-- ==== Proof.Att.Index.lean ====
/- The attention's tile read at an index, over the extended reals. -/
module

public import proofs.«01_k».proof.Proof.Att.Trip
public import Idealize.ShloMosaic.PureOps.Ideal.Laws
public import Idealize.ShloMosaic.Lib.ValueIdx
public import Idealize.ShloMosaic.Lib.Pointwise.Index
public import Idealize.ShloMosaic.Lib.Pipeline.Value

@[expose] public section

set_option maxRecDepth 8192

noncomputable section

namespace Cert.KernelIdeal.Att

open Cert.KernelIdeal Cert.KernelIdeal.Gen
open Idealize.ShloMosaic Idealize.ShloMosaic.TcCoe Idealize.SL.Sem
open Idealize.ShloMosaic.ValueIdx (contrEquiv1)

/-- The scale of the scores, as a real. -/
def scale : ℝ := (Real.sqrt 128)⁻¹ * (Real.log 2)⁻¹

theorem named_scale : (Named.named κ "scale_log2e" 0x3E0293EE#32 : Ideal .f32) = ((scale : ℝ) : EReal) := rfl

theorem cast_drop3 {a b : ℕ} {α : Type} (x : (⟨3, ![1, a, b]⟩ : Shape).Idx → α) (h : (⟨3, ![1, a, b]⟩ : Shape).ShapeCasts ⟨2, ![a, b]⟩)
    (i : Fin a) (j : Fin b) : shapeCast ⟨2, ![a, b]⟩ x h (ix2 i j) = x (ix3 0 i j) :=
  shapeCast_apply x h _ _ (by
    rw [Shape.rowMajor_val_two, Shape.rowMajor_val_three]
    show (0 * a + i.val) * b + j.val = i.val * b + j.val
    rw [Nat.zero_mul, Nat.zero_add])

theorem cast_add3 {a b : ℕ} {α : Type} (x : (⟨2, ![a, b]⟩ : Shape).Idx → α) (h : (⟨2, ![a, b]⟩ : Shape).ShapeCasts ⟨3, ![1, a, b]⟩)
    (i : Fin a) (j : Fin b) : shapeCast ⟨3, ![1, a, b]⟩ x h (ix3 0 i j) = x (ix2 i j) :=
  shapeCast_apply x h _ _ (by
    rw [Shape.rowMajor_val_two, Shape.rowMajor_val_three]
    show i.val * b + j.val = (0 * a + i.val) * b + j.val
    rw [Nat.zero_mul, Nat.zero_add])

/-- A product contracting the second axis of both operands, into zero. -/
theorem scores_apply (k : FVec Ideal S4096x128 .bf16) (q : FVec Ideal S256x128 .bf16) (t : Fin 4096) (x : Fin 256) :
    (matmul dot_S4096x128_S256x128_S4096x256_1_1_0_0_n_n none k q (constant S4096x256 .f32 0x00000000#32) : FVec Ideal S4096x256 .f32) (ix2 t x)
      = ∑ d : Fin 128, k (ix2 t d) * q (ix2 x d) := by
  rw [matmul, Ideal.matmul_constant_zero_apply,
    ← Equiv.sum_comp (contrEquiv1 dot_S4096x128_S256x128_S4096x256_1_1_0_0_n_n 128 rfl rfl).symm]
  refine Finset.sum_congr rfl fun d _ => ?_
  congr 1 <;> congr 1 <;> funext a <;> fin_cases a <;> rfl

theorem pay3_apply (q : Vec Ideal S1x256x128 .bf16) (k : Vec Ideal S1x4096x128 .bf16) (t : Fin 4096) (x : Fin 256) :
    k0_pay3 (F := Ideal) q k (ix3 0 t x) = ∑ d : Fin 128, k (ix3 0 t d) * (q (ix3 0 x d) * ((scale : ℝ) : EReal)) := by
  unfold k0_pay3
  refine (cast_add3 _ _ t x).trans ((scores_apply _ _ t x).trans (Finset.sum_congr rfl fun d _ => ?_))
  rw [cast_drop3]
  congr 1
  show (shapeCast S256x128 q _ (ix2 x d) : EReal) * _ = _
  rw [cast_drop3]
  rfl

/-- The largest score of a column. -/
theorem pay4_apply (s : Vec Ideal S1x4096x256 .f32) (x : Fin 256) :
    k0_pay4 (F := Ideal) s (ix3 0 0 x) = Finset.univ.fold max (⊥ : EReal) (fun t : Fin 4096 => s (ix3 0 t x)) := by
  unfold k0_pay4
  refine (cast_add3 _ _ 0 x).trans ?_
  refine (shapeCast_apply (k := ix1 x) (hk := ?_) ..).trans ?_
  · rw [Shape.rowMajor_val_one, Shape.rowMajor_val_two]; simp
  refine (Ideal.multiReduction_maximumf_single ..).trans ?_
  have hb : (FloatOps.ofBits .f32 0xFF800000#32 : Ideal .f32) = (⊥ : EReal) := by
    show Ideal.ofBits .f32 0xFF800000#32 = _
    simp [Ideal.ofBits, Ideal.ieee]
  rw [hb]
  refine congrArg (Finset.fold max (⊥ : EReal) · Finset.univ) (funext fun t => ?_)
  show shapeCast S4096x256 s _ _ = _
  refine Eq.trans (congrArg _ ?_) (cast_drop3 s _ t x)
  funext a; fin_cases a <;> rfl

theorem values_apply (v : FVec Ideal S144x4096 .bf16) (p : FVec Ideal S4096x256 .bf16) (e : Fin 144) (x : Fin 256) :
    (matmul dot_S144x4096_S4096x256_S144x256_1_0_0_1_n_n none v p (constant S144x256 .f32 0x00000000#32) : FVec Ideal S144x256 .f32) (ix2 e x)
      = ∑ t : Fin 4096, v (ix2 e t) * p (ix2 t x) := by
  rw [matmul, Ideal.matmul_constant_zero_apply,
    ← Equiv.sum_comp (contrEquiv1 dot_S144x4096_S4096x256_S144x256_1_0_0_1_n_n 4096 rfl rfl).symm]
  refine Finset.sum_congr rfl fun d _ => ?_
  congr 1 <;> congr 1 <;> funext a <;> fin_cases a <;> rfl

theorem pay11_apply (v : Vec Ideal S1x1x144x4096 .bf16) (s : Vec Ideal S1x4096x256 .f32) (mx : Vec Ideal S1x1x256 .f32)
    (x : Fin 256) (d : Fin 128) :
    k0_pay11 (F := Ideal) v s mx (ix3 0 x d)
      = Ideal.div (∑ t : Fin 4096, v (ix4 0 0 (Fin.castLE (by decide) d) t) * Ideal.exp2 (s (ix3 0 t x) - mx (ix3 0 0 x)))
          (∑ t : Fin 4096, v (ix4 0 0 128 t) * Ideal.exp2 (s (ix3 0 t x) - mx (ix3 0 0 x))) := by
  have hv : ∀ (e : Fin 144) (t : Fin 4096), shapeCast S144x4096 v shapeCasts_S1x1x144x4096_S144x4096 (ix2 e t) = v (ix4 0 0 e t) := fun e t =>
    shapeCast_apply _ _ _ _ (by rw [Shape.rowMajor_val_two, Shape.rowMajor_val_four]; simp)
  unfold k0_pay11
  generalize hP : (truncf .bf16 (exp2 _) _ : FVec Ideal S4096x256 .bf16) = P
  have hp : ∀ t : Fin 4096, P (ix2 t x) = Ideal.exp2 (s (ix3 0 t x) - mx (ix3 0 0 x)) := fun t => by
    subst hP
    have hb := broadcastTo_apply (t := S4096x256) (shapeCast S1x256 mx shapeCasts_S1x1x256_S1x256) broadcasts_S1x256_S4096x256 (ix2 t x) (ix2 0 x)
      (by intro a; fin_cases a <;> rfl)
    show Ideal.exp2 ((shapeCast S4096x256 s _ (ix2 t x) : EReal) - broadcastTo S4096x256 (shapeCast S1x256 mx shapeCasts_S1x1x256_S1x256) broadcasts_S1x256_S4096x256 (ix2 t x)) = _
    rw [cast_drop3, hb, cast_drop3]
  clear hP
  have hm : ∀ e : Fin 144, (matmul dot_S144x4096_S4096x256_S144x256_1_0_0_1_n_n none (shapeCast S144x4096 v shapeCasts_S1x1x144x4096_S144x4096 : FVec Ideal S144x4096 .bf16) P (constant S144x256 .f32 0x00000000#32) : FVec Ideal S144x256 .f32) (ix2 e x)
      = ∑ t : Fin 4096, v (ix4 0 0 e t) * Ideal.exp2 (s (ix3 0 t x) - mx (ix3 0 0 x)) := fun e =>
    (values_apply _ _ e x).trans (Finset.sum_congr rfl fun t _ => by rw [hv, hp])
  generalize (matmul dot_S144x4096_S4096x256_S144x256_1_0_0_1_n_n none (shapeCast S144x4096 v shapeCasts_S1x1x144x4096_S144x4096 : FVec Ideal S144x4096 .bf16) P (constant S144x256 .f32 0x00000000#32) : FVec Ideal S144x256 .f32) = Q at hm ⊢
  refine (cast_add3 _ _ x d).trans ?_
  have ht : ∀ y : FVec Ideal S128x256 .f32, transpose S256x128 [1, 0] y transposes_S128x256_p1_0_S256x128 (ix2 x d) = y (ix2 d x) := fun y =>
    transpose_apply _ _ _ _ _ (by intro b; fin_cases b <;> rfl)
  have hr : ∀ y : FVec Ideal S1x256 .f32, broadcastTo S128x256 y broadcasts_S1x256_S128x256 (ix2 d x) = y (ix2 0 x) := fun y =>
    broadcastTo_apply _ _ _ _ (by intro a; fin_cases a <;> rfl)
  have h0 : extractStridedSlice S128x256 ![0, 0] Q slices_S144x256_o0_0_S128x256 (ix2 d x) = Q (ix2 (Fin.castLE (by decide) d) x) :=
    extractStridedSlice_apply _ _ _ _ _ (by intro a; fin_cases a <;> simp)
  have h1 : extractStridedSlice S1x256 ![128, 0] Q slices_S144x256_o128_0_S1x256 (ix2 0 x) = Q (ix2 128 x) :=
    extractStridedSlice_apply _ _ _ _ _ (by intro a; fin_cases a <;> simp)
  show transpose S256x128 [1, 0] (divf (extractStridedSlice S128x256 ![0, 0] Q slices_S144x256_o0_0_S128x256)
    (broadcastTo S128x256 (extractStridedSlice S1x256 ![128, 0] Q slices_S144x256_o128_0_S1x256) broadcasts_S1x256_S128x256))
    transposes_S128x256_p1_0_S256x128 (ix2 x d) = _
  rw [ht]
  show Ideal.div (extractStridedSlice S128x256 ![0, 0] Q slices_S144x256_o0_0_S128x256 (ix2 d x))
    (broadcastTo S128x256 (extractStridedSlice S1x256 ![128, 0] Q slices_S144x256_o128_0_S1x256) broadcasts_S1x256_S128x256 (ix2 d x)) = _
  rw [hr, h0, h1, hm, hm]

/-- A query row of a tile. -/
theorem qtile_apply (x0 : Vec Ideal S1x4096x512 .bf16) (r : Fin 16) (g : Fin 4) (x : Fin 256) (d : Fin 128) :
    qtile x0 r g (ix3 0 x d) = x0 (ix3 0 ⟨256 * r.val + x.val, by omega⟩ ⟨128 * g.val + d.val, by omega⟩) := by
  show x0 _ = _
  congr 1
  funext a; apply Fin.ext; fin_cases a
  · rfl
  · show 256 * r.val + 1 * x.val = _; simp
  · show 128 * g.val + 1 * d.val = _; simp

/-- One score: key row `t` against query row `n` of head `g`. -/
def score (x0 : Vec Ideal S1x4096x512 .bf16) (x1 : Vec Ideal S1x4096x128 .bf16) (n : Fin 4096) (g : Fin 4) (t : Fin 4096) : EReal :=
  ∑ d : Fin 128, x1 (ix3 0 t d) * (x0 (ix3 0 n ⟨128 * g.val + d.val, by omega⟩) * ((scale : ℝ) : EReal))

/-- The output block at row `n`, head `g`, feature `d`. -/
theorem OUT_apply (x0 : Vec Ideal S1x4096x512 .bf16) (x1 : Vec Ideal S1x4096x128 .bf16) (x2 : Vec Ideal S1x1x144x4096 .bf16)
    (n : Fin 4096) (g : Fin 4) (d : Fin 128) :
    OUT (F := Ideal) x0 x1 x2 (ix3 0 n ⟨128 * g.val + d.val, by omega⟩)
      = Ideal.div (∑ t : Fin 4096, x2 (ix4 0 0 (Fin.castLE (by decide) d) t)
            * Ideal.exp2 (score x0 x1 n g t - Finset.univ.fold max (⊥ : EReal) (score x0 x1 n g)))
          (∑ t : Fin 4096, x2 (ix4 0 0 128 t)
            * Ideal.exp2 (score x0 x1 n g t - Finset.univ.fold max (⊥ : EReal) (score x0 x1 n g))) := by
  have hn := n.isLt
  have hx : n.val % 256 < 256 := Nat.mod_lt _ (by norm_num)
  have hmem : ∀ a, qoff ⟨n.val / 256, by omega⟩ g a ≤ ((ix3 0 n ⟨128 * g.val + d.val, by omega⟩ : S1x4096x512.Idx) a).val
      ∧ ((ix3 0 n ⟨128 * g.val + d.val, by omega⟩ : S1x4096x512.Idx) a).val < qoff ⟨n.val / 256, by omega⟩ g a + S1x256x128.size a := by
    intro a; fin_cases a
    · exact ⟨le_rfl, Nat.one_pos⟩
    · show 256 * (n.val / 256) ≤ n.val ∧ n.val < 256 * (n.val / 256) + 256; omega
    · show 128 * g.val ≤ 128 * g.val + d.val ∧ 128 * g.val + d.val < 128 * g.val + 128; omega
  rw [OUT_of_mem x0 x1 x2 _ ⟨n.val / 256, by omega⟩ g hmem]
  have hu : Rect.unitLocal (s := S1x4096x512) (ix3 0 n ⟨128 * g.val + d.val, by omega⟩) hmem = (ix3 0 ⟨n.val % 256, hx⟩ d : S1x256x128.Idx) := by
    funext a; apply Fin.ext; fin_cases a
    · rfl
    · show n.val - 256 * (n.val / 256) = n.val % 256; omega
    · show 128 * g.val + d.val - 128 * g.val = d.val; omega
  have hs : ∀ t : Fin 4096, Sc (F := Ideal) x0 x1 ⟨n.val / 256, by omega⟩ g (ix3 0 t ⟨n.val % 256, hx⟩) = score x0 x1 n g t := fun t => by
    have e : (⟨256 * (n.val / 256) + n.val % 256, by omega⟩ : Fin 4096) = n := Fin.ext (Nat.div_add_mod n.val 256)
    unfold Sc score
    rw [pay3_apply]
    refine Finset.sum_congr rfl fun d _ => ?_
    rw [qtile_apply, e]
  rw [show Rect.unitLocal (s := S1x4096x512) (ix3 0 n ⟨128 * g.val + d.val, by omega⟩) hmem = (ix3 0 ⟨n.val % 256, hx⟩ d : S1x256x128.Idx) from hu]
  unfold Ob
  rw [pay11_apply, pay4_apply]
  simp only [hs]

end Cert.KernelIdeal.Att

end
-- ==== Proof.Att.Value.lean ====
/- The attention kernel's result array as one function of its arguments, over the extended reals. -/
module

public import proofs.«01_k».proof.Proof.Att.Run
public import proofs.«01_k».proof.Proof.Att.Index
public import Idealize.ShloMosaic.Lib.Pipeline.ValueKit
public import Idealize.ShloMosaic.Lib.Claim

@[expose] public section

set_option maxRecDepth 16384

noncomputable section

namespace Cert.KernelIdeal.Att

open Cert.KernelIdeal Cert.KernelIdeal.Gen
open Idealize.ShloMosaic Idealize.ShloMosaic.TcCoe Idealize.SL.Sem

/-- The score of key row `t` for query row `n` of head `4 j + g` in batch `b`. -/
def escore (Q : S8x4096x8x128.Idx → EReal) (K : S8x4096x2x128.Idx → EReal) (b : Fin 8) (n : Fin 4096) (j : Fin 2) (g : Fin 4) (t : Fin 4096) : EReal :=
  ∑ d : Fin 128, K (ix4 b t j d) * (Q (ix4 b n ⟨4 * j.val + g.val, by omega⟩ d) * ((scale : ℝ) : EReal))

/-- The attention's result at batch `b`, row `n`, head `4 j + g`, feature `d`: numerator over denominator. -/
def val (Q : S8x4096x8x128.Idx → EReal) (K Vv : S8x4096x2x128.Idx → EReal) (b : Fin 8) (n : Fin 4096) (j : Fin 2) (g : Fin 4) (d : Fin 128) : EReal :=
  Ideal.div (∑ t : Fin 4096, Vv (ix4 b t j d) * Ideal.exp2 (escore Q K b n j g t - Finset.univ.fold max (⊥ : EReal) (escore Q K b n j g)))
    (∑ t : Fin 4096, 1 * Ideal.exp2 (escore Q K b n j g t - Finset.univ.fold max (⊥ : EReal) (escore Q K b n j g)))

/-- The whole result array. -/
def G (Q : S8x4096x8x128.Idx → EReal) (K Vv : S8x4096x2x128.Idx → EReal) : S8x4096x1024.Idx → EReal := fun i =>
  val Q K Vv (i 0) (i 1) ⟨(i 2).val / 512, by have : (i 2).val < 1024 := (i 2).isLt; omega⟩
    ⟨(i 2).val % 512 / 128, by omega⟩ ⟨(i 2).val % 128, by omega⟩

section
variable (m : (ℓ : Loc nD τ sig) → Buf (Elt Ideal) ℓ) (ρ : Dev nD → PrngReg)

abbrev Qa (c : Dev nD) : S8x4096x8x128.Idx → EReal := m ((c.tc : Thread nD τ).loc main_arg0)
abbrev Ka (c : Dev nD) : S8x4096x2x128.Idx → EReal := m ((c.tc : Thread nD τ).loc main_arg1)
abbrev Va (c : Dev nD) : S8x4096x2x128.Idx → EReal := m ((c.tc : Thread nD τ).loc main_arg2)

/-! ## The operands as the kernel finds them -/

theorem q_apply (c : Dev nD) (b : Fin 8) (n : Fin 4096) (h : Fin 8) (d : Fin 128) :
    (V m c main_v1 : S8x4096x1024.Idx → EReal) (ix3 b n ⟨128 * h.val + d.val, by omega⟩) = Qa m c (ix4 b n h d) := by
  have e : (V m c main_v1 : S8x4096x1024.Idx → EReal) = shapeCast S8x4096x1024 (Qa m c) shapeCasts_S8x4096x8x128_S8x4096x1024 := by
    entry_read
    rfl
  rw [e]
  exact shapeCast_apply _ _ _ _ (by
    rw [Shape.rowMajor_val_three, Shape.rowMajor_val_four]
    show ((b.val * 4096 + n.val) * 8 + h.val) * 128 + d.val = (b.val * 4096 + n.val) * 1024 + (128 * h.val + d.val)
    omega)

theorem k_apply (c : Dev nD) (b : Fin 8) (n : Fin 4096) (h : Fin 2) (d : Fin 128) :
    (V m c main_v3 : S8x4096x256.Idx → EReal) (ix3 b n ⟨128 * h.val + d.val, by omega⟩) = Ka m c (ix4 b n h d) := by
  have e : (V m c main_v3 : S8x4096x256.Idx → EReal) = shapeCast S8x4096x256 (Ka m c) shapeCasts_S8x4096x2x128_S8x4096x256 := by
    entry_read
    rfl
  rw [e]
  exact shapeCast_apply _ _ _ _ (by
    rw [Shape.rowMajor_val_three, Shape.rowMajor_val_four]
    show ((b.val * 4096 + n.val) * 2 + h.val) * 128 + d.val = (b.val * 4096 + n.val) * 256 + (128 * h.val + d.val)
    omega)

theorem v_eq (c : Dev nD) : (V m c main_v7 : S8x2x144x4096.Idx → EReal)
    = concatenate S8x2x144x4096 2 [⟨S8x2x128x4096, (transpose S8x2x128x4096 [0, 2, 3, 1] (Va m c) transposes_S8x4096x2x128_S8x2x128x4096_0_2_3_1 : S8x2x128x4096.Idx → EReal)⟩,
        ⟨S8x2x16x4096, (broadcastInDim S8x2x16x4096 ![] bcast_S_S8x2x16x4096 (constant (F := Ideal) S_ .bf16 0x3F80#16) : S8x2x16x4096.Idx → EReal)⟩]
      concatenates_S8x2x128x4096_S8x2x16x4096_S8x2x144x4096_d2 := by
  entry_read
  rfl

theorem v_apply (c : Dev nD) (b : Fin 8) (j : Fin 2) (d : Fin 128) (t : Fin 4096) :
    (V m c main_v7 : S8x2x144x4096.Idx → EReal) (ix4 b j (Fin.castLE (by decide) d) t) = Va m c (ix4 b t j d) := by
  rw [v_eq]
  refine (concatenate_pair_apply_left (t := S8x2x144x4096) (s₁ := S8x2x128x4096) (s₂ := S8x2x16x4096) 2 _ _ _ _ rfl (ix4 b j d t) (by intro a; fin_cases a <;> rfl)).trans ?_
  exact transpose_apply _ _ _ _ _ (by intro a; fin_cases a <;> rfl)

theorem one_apply (c : Dev nD) (b : Fin 8) (j : Fin 2) (t : Fin 4096) :
    @Eq EReal ((V m c main_v7 : S8x2x144x4096.Idx → EReal) (ix4 b j 128 t)) 1 := by
  rw [v_eq]
  refine (concatenate_pair_apply_right (t := S8x2x144x4096) (s₁ := S8x2x128x4096) (s₂ := S8x2x16x4096) 2 _ _ _ _ rfl rfl (ix4 b j 0 t) (by intro a; fin_cases a <;> first | (intro _; rfl) | (intro h; exact absurd rfl h)) rfl).trans ?_
  show Ideal.ofBits .bf16 0x3F80#16 = 1
  simp [Ideal.ofBits, Ideal.ieee]
  rw [← EReal.coe_mul]
  norm_num

/-! ## The windows' blocks -/

theorem idx : ∀ t : Fin grid0.N, (cfg0.win 0).index t = ![(grid0.coords t 0).val, 0, (grid0.coords t 1).val]
    ∧ (cfg0.win 1).index t = ![(grid0.coords t 0).val, 0, (grid0.coords t 1).val]
    ∧ (cfg0.win 2).index t = ![(grid0.coords t 0).val, (grid0.coords t 1).val, 0, 0]
    ∧ (cfg0.win 3).index t = ![(grid0.coords t 0).val, 0, (grid0.coords t 1).val] := by decide +kernel

/-- A grid point's batch and its pair of heads. -/
def bt (t : Fin cfg0.N) : Fin 8 := grid0.coords t 0
def jt (t : Fin cfg0.N) : Fin 2 := grid0.coords t 1

theorem q_blk (c : Dev nD) (t : Fin cfg0.N) (n : Fin 4096) (g : Fin 4) (d : Fin 128) :
    (iblk m c 0 t : S1x4096x512.Idx → EReal) (ix3 0 n ⟨128 * g.val + d.val, by omega⟩)
      = Qa m c (ix4 (bt t) n ⟨4 * (jt t).val + g.val, by omega⟩ d) := by
  refine Eq.trans ?_ (q_apply m c (bt t) n ⟨4 * (jt t).val + g.val, by omega⟩ d)
  have e := (idx t).1
  have hb : (bt t).val = (grid0.coords t 0).val := rfl
  have hj : (jt t).val = (grid0.coords t 1).val := rfl
  blk_ext [iblk, e]

theorem k_blk (c : Dev nD) (t : Fin cfg0.N) (n : Fin 4096) (d : Fin 128) :
    (iblk m c 1 t : S1x4096x128.Idx → EReal) (ix3 0 n d) = Ka m c (ix4 (bt t) n (jt t) d) := by
  refine Eq.trans ?_ (k_apply m c (bt t) n (jt t) d)
  have e := (idx t).2.1
  have hb : (bt t).val = (grid0.coords t 0).val := rfl
  have hj : (jt t).val = (grid0.coords t 1).val := rfl
  blk_ext [iblk, e]

theorem v_blk (c : Dev nD) (t : Fin cfg0.N) (f : Fin 144) (s : Fin 4096) :
    (iblk m c 2 t : S1x1x144x4096.Idx → EReal) (ix4 0 0 f s) = (V m c main_v7 : S8x2x144x4096.Idx → EReal) (ix4 (bt t) (jt t) f s) := by
  have e := (idx t).2.2.1
  have hb : (bt t).val = (grid0.coords t 0).val := rfl
  have hj : (jt t).val = (grid0.coords t 1).val := rfl
  blk_ext [iblk, e]

/-! ## The result -/

theorem score_blk (c : Dev nD) (t : Fin cfg0.N) (n : Fin 4096) (g : Fin 4) :
    score (iblk m c 0 t) (iblk m c 1 t) n g = escore (Qa m c) (Ka m c) (bt t) n (jt t) g := by
  funext s
  refine Finset.sum_congr rfl fun d _ => ?_
  exact congrArg₂ (· * ·) (k_blk m c t s d) (congrArg (· * ((scale : ℝ) : EReal)) (q_blk m c t n g d))

theorem out_apply (c : Dev nD) (t : Fin cfg0.N) (n : Fin 4096) (g : Fin 4) (d : Fin 128) :
    outAt m c t (ix3 0 n ⟨128 * g.val + d.val, by omega⟩) = val (Qa m c) (Ka m c) (Va m c) (bt t) n (jt t) g d := by
  refine (OUT_apply (iblk m c 0 t) (iblk m c 1 t) (iblk m c 2 t) n g d).trans ?_
  rw [score_blk]
  unfold val
  refine congrArg₂ Ideal.div (Finset.sum_congr rfl fun s _ => ?_) (Finset.sum_congr rfl fun s _ => ?_)
  · exact congrArg (· * _) ((v_blk m c t _ s).trans (v_apply m c _ _ d s))
  · exact congrArg (· * _) ((v_blk m c t _ s).trans (one_apply m c _ _ s))

theorem final (c : Dev nD) : (dats m 0 c).arrAt 3 cfg0.N = (G (Qa m c) (Ka m c) (Va m c) : S8x4096x1024.Idx → EReal) := by
  refine (dats m 0 c).arrAt_eq_of_covers 3 _ (by decide +kernel) fun t hf y => ?_
  have e := (idx t).2.2.2
  have y0 : (y 0).val < 1 := (y 0).isLt
  have y1 : (y 1).val < 4096 := (y 1).isLt
  have y2 : (y 2).val < 512 := (y 2).isLt
  have hj := (jt t).isLt
  have hy : y = (ix3 0 ⟨(y 1).val, y1⟩ ⟨128 * ((y 2).val / 128) + (y 2).val % 128, by omega⟩ : S1x4096x512.Idx) := by
    funext a; apply Fin.ext; fin_cases a
    · show (y 0).val = 0; omega
    · rfl
    · show (y 2).val = 128 * ((y 2).val / 128) + (y 2).val % 128; omega
  refine Eq.trans (b := outAt m c t y) ?_ ?_
  · blk_simp
    rw [after3]
  refine (congrArg (outAt m c t) hy).trans ?_
  refine (out_apply m c t ⟨(y 1).val, y1⟩ ⟨(y 2).val / 128, by omega⟩ ⟨(y 2).val % 128, by omega⟩).trans ?_
  have p0 : (((((cfg0.win 3).blk t).view.emb y) 0 : Fin _) : ℕ) = (bt t).val := by
    blk_simp [e]; rfl
  have p1 : (((((cfg0.win 3).blk t).view.emb y) 1 : Fin _) : ℕ) = (y 1).val := by
    blk_simp [e]
  have p2 : (((((cfg0.win 3).blk t).view.emb y) 2 : Fin _) : ℕ) = (jt t).val * 512 + (y 2).val := by
    blk_simp [e]; rfl
  generalize ((cfg0.win 3).blk t).view.emb y = z at p0 p1 p2
  show _ = G (Qa m c) (Ka m c) (Va m c) z
  unfold G
  congr 1
  · exact Fin.ext p0.symm
  · exact Fin.ext p1.symm
  · apply Fin.ext; show (jt t).val = _ / 512; rw [p2]; omega
  · apply Fin.ext; show (y 2).val / 128 = _ % 512 / 128; rw [p2]; omega
  · apply Fin.ext; show (y 2).val % 128 = _ % 128; rw [p2]; omega

/-- The run: the result array, the arguments unchanged. -/
theorem run : θ_run defs (onTc (τ := τ) (main (F := Ideal))) ⟨m, fun _ => 0, ρ⟩ (fun r => ∀ c : Dev nD,
      r.2.mem ((c.tc : Thread nD τ).loc main_v8) = (G (Qa m c) (Ka m c) (Va m c) : S8x4096x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final m c), h.2 c⟩) (θ_run_and (run_post m ρ) (unchanged m ρ))

end

end Cert.KernelIdeal.Att

end
-- ==== Proof.Att.Softmax.lean ====
module

public import Idealize.ShloMosaic.PureOps.Ideal.Laws
public import Mathlib.Analysis.SpecialFunctions.Pow.Real

@[expose] public section

open Idealize.ShloMosaic

namespace Cert.Softmax

/-- A finite sum of extended reals times a nonnegative real. -/
theorem sum_mul_coe {ι : Type} (s : Finset ι) (f : ι → EReal) {c : ℝ} (hc : 0 ≤ c) :
    (∑ t ∈ s, f t) * (c : EReal) = ∑ t ∈ s, f t * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- A finite sum of reals, as an extended real. -/
theorem coe_sum {ι : Type} (s : Finset ι) (f : ι → ℝ) : ((∑ t ∈ s, f t : ℝ) : EReal) = ∑ t ∈ s, (f t : EReal) := by
  classical
  induction s using Finset.induction_on with
  | empty => simp
  | insert a s ha ih => rw [Finset.sum_insert ha, Finset.sum_insert ha, EReal.coe_add, ih]

/-- The maximum of finitely many reals is attained. -/
theorem fold_max {n : ℕ} (f : Fin n → ℝ) (t0 : Fin n) (h : ∀ t, f t ≤ f t0) :
    (Finset.univ : Finset (Fin n)).fold max (⊥ : EReal) (fun t => (f t : EReal)) = (f t0 : EReal) := by
  apply le_antisymm
  · rw [Finset.fold_max_le]
    exact ⟨bot_le, fun t _ => EReal.coe_le_coe_iff.mpr (h t)⟩
  · rw [Finset.le_fold_max]
    exact Or.inr ⟨t0, Finset.mem_univ _, le_rfl⟩

/-- Softmax-weighted averages: numerator over denominator in base two, the scores divided by `log 2`, is the sum of the
    normalised weights in base e. -/
theorem average {n : ℕ} (hn : 0 < n) (r s : Fin n → ℝ) (hs : ∀ t, s t = r t * (Real.log 2)⁻¹) (v : Fin n → EReal) :
    Ideal.div (∑ t, v t * Ideal.exp2 ((s t : EReal) - Finset.univ.fold max (⊥ : EReal) (fun t => (s t : EReal))))
        (∑ t, 1 * Ideal.exp2 ((s t : EReal) - Finset.univ.fold max (⊥ : EReal) (fun t => (s t : EReal))))
      = ∑ t, v t * Ideal.div (Ideal.exp ((r t : EReal) - max ⊥ (Finset.univ.fold max (⊥ : EReal) (fun t => (r t : EReal)))))
          (0 + ∑ t, Ideal.exp ((r t : EReal) - max ⊥ (Finset.univ.fold max (⊥ : EReal) (fun t => (r t : EReal))))) := by
  have hl : 0 < Real.log 2 := Real.log_pos (by norm_num)
  obtain ⟨t0, -, h0⟩ := Finset.exists_max_image (Finset.univ : Finset (Fin n)) r ⟨⟨0, hn⟩, Finset.mem_univ _⟩
  have hr0 : ∀ t, r t ≤ r t0 := fun t => h0 t (Finset.mem_univ t)
  have hs0 : ∀ t, s t ≤ s t0 := fun t => by
    rw [hs, hs]; exact mul_le_mul_of_nonneg_right (hr0 t) (inv_nonneg.mpr hl.le)
  rw [fold_max s t0 hs0, fold_max r t0 hr0, max_eq_right bot_le, zero_add]
  have h2 : ∀ t, Ideal.exp2 ((s t : EReal) - (s t0 : EReal)) = ((Real.exp (r t - r t0) : ℝ) : EReal) := fun t => by
    rw [← EReal.coe_sub, Ideal.exp2_coe]
    congr 1
    show (2 : ℝ) ^ (s t - s t0) = _
    rw [Real.rpow_def_of_pos (by norm_num), hs, hs]
    congr 1
    field_simp
  have he : ∀ t, Ideal.exp ((r t : EReal) - (r t0 : EReal)) = ((Real.exp (r t - r t0) : ℝ) : EReal) := fun t => by
    rw [← EReal.coe_sub, Ideal.exp_coe]
  simp only [h2, he, one_mul]
  have hL : 0 < ∑ t, Real.exp (r t - r t0) := Finset.sum_pos (fun t _ => Real.exp_pos _) ⟨t0, Finset.mem_univ _⟩
  rw [← coe_sum]
  simp only [Ideal.div_coe hL.ne']
  rw [sum_mul_coe _ _ (one_div_nonneg.mpr hL.le)]
  simp only [mul_assoc]

end Cert.Softmax
-- ==== Proof.Att.Ref.lean ====
/- The reference of the attention read at an index, and that the two results agree where queries and keys are finite. -/
module

public import proofs.«01_k».proof.Defs
public import proofs.«01_k».proof.Proof.Att.Value
public import proofs.«01_k».proof.Proof.Att.Softmax
public import proofs.«01_k».proof.Proof.Gen.ReferenceIdeal.Run
public import proofs.«01_k».proof.Proof.Gen.ReferenceIdeal.Read
public import proofs.«01_k».proof.Proof.Gen.Pre_finite_qk
public import Idealize.ShloMosaic.Lib.ReduceAll
public import Idealize.ShloMosaic.Lib.WordCmp

@[expose] public section

set_option maxRecDepth 16384

noncomputable section

namespace Cert.AttRef

open Idealize.ShloMosaic Idealize.ShloMosaic.TcCoe Idealize.SL.Sem
open Cert.KernelIdeal.Att (scale escore val G)
open Cert.ReferenceIdeal Cert.ReferenceIdeal.Read

attribute [local instance] Cert.Pre_finite_qk.Gen.facts

/-! ## The precondition -/

theorem real_of_abs_lt (x : EReal) (h : max x (-x) < ⊤) : ∃ r : ℝ, x = (r : EReal) := by
  have h1 : x ≠ ⊤ := fun e => by subst e; simp at h
  have h2 : x ≠ ⊥ := fun e => by subst e; simp at h
  exact ⟨x.toReal, (EReal.coe_toReal h1 h2).symm⟩

theorem inf_f32 : Ideal.ofBits .f32 0x7F800000#32 = (⊤ : EReal) := by simp [Ideal.ofBits, Ideal.ieee]

instance : Subsingleton Cert.Pre_finite_qk.S_.Idx := ⟨fun a b => funext fun i => i.elim0⟩

theorem finite (Q : S8x4096x8x128.Idx → EReal) (K Vv : S8x4096x2x128.Idx → EReal)
    (h : Cert.Pre_finite_qk.fn (F := Ideal) Q K Vv = fun _ => 1#1) :
    (∀ i, ∃ r : ℝ, Q i = (r : EReal)) ∧ ∀ i, ∃ r : ℝ, K i = (r : EReal) := by
  have e := congrFun h (fun a => a.elim0)
  unfold Cert.Pre_finite_qk.fn at e
  obtain ⟨e1, e2⟩ := IntOp.andi_eq_one.1 e
  refine ⟨fun i => ?_, fun i => ?_⟩
  · have := Host.reduce_andi_all _ _ _ _ _ e1 i
    refine real_of_abs_lt _ ?_
    rw [← inf_f32]
    exact (WordCmp.ofBool_decide_eq_one_iff _).1 this
  · have := Host.reduce_andi_all _ _ _ _ _ e2 i
    refine real_of_abs_lt _ ?_
    rw [← inf_f32]
    exact (WordCmp.ofBool_decide_eq_one_iff _).1 this

/-! ## The reference at an index -/

variable (Q : S8x4096x8x128.Idx → EReal) (K Vv : S8x4096x2x128.Idx → EReal)

/-- The reference's score: key row `t` against query row `n` of head `4 j + g`. -/
def rscore (b : Fin 8) (n : Fin 4096) (j : Fin 2) (g : Fin 4) (t : Fin 4096) : EReal :=
  Ideal.div (∑ d : Fin 128, K (ix4 b t j d) * Q (ix4 b n ⟨4 * j.val + g.val, by omega⟩ d)) ((Real.sqrt 128 : ℝ) : EReal)

theorem sqrt128 : Ideal.sqrt (Ideal.ofBits .f32 0x43000000#32) = ((Real.sqrt 128 : ℝ) : EReal) := by
  have : Ideal.ofBits .f32 0x43000000#32 = ((128 : ℝ) : EReal) := by
    simp [Ideal.ofBits, Ideal.ieee]
    rw [← EReal.coe_mul]
    norm_num
  rw [this, Ideal.sqrt_coe, if_neg (by norm_num)]

theorem v5_apply (b : Fin 8) (j : Fin 2) (g : Fin 4) (n t : Fin 4096) :
    @Eq EReal (val_main_v5 (F := Ideal) Q K (ix5 b j g n t)) (rscore Q K b n j g t) := by
  rw [val_main_v5_apply, val_main_v4_apply, val_main_v3_apply, val_main_cst_apply, val_main_v2_apply, val_main_v1_apply]
  show Ideal.div _ (Ideal.sqrt (Ideal.ofBits .f32 0x43000000#32)) = _
  rw [sqrt128]
  unfold rscore
  refine congrArg (Ideal.div · _) (Finset.sum_congr rfl fun d _ => ?_)
  rw [val_main_v0_apply]
  refine congrArg₂ (fun x y => K x * Q y) ?_ ?_
  · funext a; fin_cases a <;> rfl
  · have hb := b.isLt; have hn := n.isLt; have hj := j.isLt; have hg := g.isLt; have hd := d.isLt
    funext a; apply Fin.ext; fin_cases a
    · show ((((b.val * 4096 + n.val) * 2 + j.val) * 4 + g.val) * 128 + d.val) / 4194304 = b.val; omega
    · show ((((b.val * 4096 + n.val) * 2 + j.val) * 4 + g.val) * 128 + d.val) / 1024 % 4096 = n.val; omega
    · show ((((b.val * 4096 + n.val) * 2 + j.val) * 4 + g.val) * 128 + d.val) / 128 % 8 = 4 * j.val + g.val; omega
    · show ((((b.val * 4096 + n.val) * 2 + j.val) * 4 + g.val) * 128 + d.val) % 128 = d.val; omega

/-- The largest score of a row. -/
theorem v6_apply (b : Fin 8) (j : Fin 2) (g : Fin 4) (n : Fin 4096) :
    @Eq EReal (val_main_v6 (F := Ideal) Q K (ix4 b j g n)) (Finset.univ.fold max (⊥ : EReal) (rscore Q K b n j g)) := by
  have hr : S8x2x4x4096x4096.Reduces [4] S8x2x4x4096 := by decide
  have hl : ∀ t : Fin 4096, hr.lift (ix4 b j g n) t = ix5 b j g n t := fun t => by
    funext a; fin_cases a <;> rfl
  have hv := v5_apply Q K b j g n
  unfold val_main_v6
  generalize val_main_v5 (F := Ideal) Q K = x at hv ⊢
  refine (Host.reduce_eq_fold_single (α := EReal) max _ _ _ hr _ _).trans ?_
  have hb : @Eq EReal (val_main_cst_0 (F := Ideal) (Shape.Idx.first Cert.ReferenceIdeal.Facts₀.h_S_)) (⊥ : EReal) := by
    show Ideal.ofBits .f32 0xFF800000#32 = _
    simp [Ideal.ofBits, Ideal.ieee]
  rw [hb]
  exact congrArg (Finset.fold max (⊥ : EReal) · Finset.univ) (funext fun t => (congrArg x (hl t)).trans (hv t))

/-- One weight before normalisation. -/
theorem v12_apply (b : Fin 8) (j : Fin 2) (g : Fin 4) (n t : Fin 4096) :
    @Eq EReal (val_main_v12 (F := Ideal) Q K (ix5 b j g n t))
      (Ideal.exp (rscore Q K b n j g t - max ⊥ (Finset.univ.fold max (⊥ : EReal) (rscore Q K b n j g)))) := by
  have hb : Ideal.ofBits .f32 0xFF800000#32 = (⊥ : EReal) := by simp [Ideal.ofBits, Ideal.ieee]
  have hi : idx_main_v9 (idx_main_v10 (ix5 b j g n t)) = ix4 b j g n := by
    funext a; fin_cases a <;> rfl
  have h5 := v5_apply Q K b j g n t
  have h6 := v6_apply Q K b j g n
  rw [val_main_v12_apply, val_main_v11_apply, val_main_v10_apply, val_main_v9_apply, val_main_v8_apply, val_main_v7_apply, val_main_cst_1_apply, hi]
  generalize val_main_v5 (F := Ideal) Q K = x at h5 ⊢
  generalize val_main_v6 (F := Ideal) Q K = y at h6 ⊢
  show Ideal.exp (x (ix5 b j g n t) - max (Ideal.ofBits .f32 0xFF800000#32) (y (ix4 b j g n))) = _
  rw [h5, h6, hb]

/-- The reference's result at an index. -/
theorem v20_apply (b : Fin 8) (n : Fin 4096) (j : Fin 2) (g : Fin 4) (d : Fin 128) :
    @Eq EReal (val_main_v20 (F := Ideal) Q K Vv (ix3 b n ⟨512 * j.val + 128 * g.val + d.val, by omega⟩))
      (∑ t, Vv (ix4 b t j d) * Ideal.div (Ideal.exp (rscore Q K b n j g t - max ⊥ (Finset.univ.fold max (⊥ : EReal) (rscore Q K b n j g))))
          (0 + ∑ t, Ideal.exp (rscore Q K b n j g t - max ⊥ (Finset.univ.fold max (⊥ : EReal) (rscore Q K b n j g))))) := by
  have hi : idx_main_v18 (idx_main_v19 (ix3 b n ⟨512 * j.val + 128 * g.val + d.val, by omega⟩)) = ix5 b j d g n := by
    have hb := b.isLt; have hn := n.isLt; have hj := j.isLt; have hg := g.isLt; have hd := d.isLt
    funext a; apply Fin.ext; fin_cases a
    · show ((b.val * 4096 + n.val) * 1024 + (512 * j.val + 128 * g.val + d.val)) / 4194304 = b.val; omega
    · show ((b.val * 4096 + n.val) * 1024 + (512 * j.val + 128 * g.val + d.val)) / 512 % 2 = j.val; omega
    · show ((b.val * 4096 + n.val) * 1024 + (512 * j.val + 128 * g.val + d.val)) % 128 = d.val; omega
    · show ((b.val * 4096 + n.val) * 1024 + (512 * j.val + 128 * g.val + d.val)) / 128 % 4 = g.val; omega
    · show ((b.val * 4096 + n.val) * 1024 + (512 * j.val + 128 * g.val + d.val)) / 1024 % 4096 = n.val; omega
  have h0 : Ideal.ofBits .f32 0x00000000#32 = (0 : EReal) := Ideal.ofBits_zero_f32
  rw [val_main_v20_apply, val_main_v19_apply, val_main_v18_apply, hi]
  show val_main_v17 (F := Ideal) Q K Vv (ix5 b j d g n) = _
  rw [val_main_v17_apply]
  refine Finset.sum_congr rfl fun t _ => ?_
  have hl : lidx_main_v17 (ix5 b j d g n) t = ix4 b t j d := by funext a; fin_cases a <;> rfl
  have hr : ridx_main_v17 (ix5 b j d g n) t = ix5 b j g n t := by funext a; fin_cases a <;> rfl
  rw [hl, hr, val_main_v16_apply, val_main_v15_apply, val_main_v14_apply, val_main_v13_apply, val_main_cst_2_apply]
  refine congrArg (Vv (ix4 b t j d) * ·) ?_
  show Ideal.div (val_main_v12 (F := Ideal) Q K (ix5 b j g n t)) (Ideal.ofBits .f32 0x00000000#32 + _) = _
  rw [v12_apply, h0]
  refine congrArg (fun z => Ideal.div _ (0 + z)) (Finset.sum_congr rfl fun s _ => ?_)
  refine (congrArg _ ?_).trans (v12_apply Q K b j g n s)
  funext a; fin_cases a <;> rfl

/-! ## The two results agree -/

theorem scores (q : S8x4096x8x128.Idx → ℝ) (k : S8x4096x2x128.Idx → ℝ) (hQ : ∀ i, Q i = (q i : EReal)) (hK : ∀ i, K i = (k i : EReal))
    (b : Fin 8) (n : Fin 4096) (j : Fin 2) (g : Fin 4) (t : Fin 4096) :
    rscore Q K b n j g t = (((∑ d : Fin 128, k (ix4 b t j d) * q (ix4 b n ⟨4 * j.val + g.val, by omega⟩ d)) * (Real.sqrt 128)⁻¹ : ℝ) : EReal)
    ∧ escore Q K b n j g t = (((∑ d : Fin 128, k (ix4 b t j d) * q (ix4 b n ⟨4 * j.val + g.val, by omega⟩ d)) * (Real.sqrt 128)⁻¹ * (Real.log 2)⁻¹ : ℝ) : EReal) := by
  have h0 : Real.sqrt 128 ≠ 0 := by positivity
  constructor
  · unfold rscore
    rw [Ideal.div_coe h0]
    simp only [hQ, hK, ← EReal.coe_mul, ← Cert.Softmax.coe_sum, one_div]
  · unfold escore scale
    simp only [hQ, hK, ← EReal.coe_mul, ← Cert.Softmax.coe_sum, Finset.sum_mul]
    congr 1
    exact Finset.sum_congr rfl fun d _ => by ring

theorem agree (h : Cert.Pre_finite_qk.fn (F := Ideal) Q K Vv = fun _ => 1#1) :
    (G Q K Vv : S8x4096x1024.Idx → EReal) = val_main_v20 (F := Ideal) Q K Vv := by
  obtain ⟨hq, hk⟩ := finite Q K Vv h
  choose q hQ using hq
  choose k hK using hk
  funext i
  have i2 : (i 2).val < 1024 := (i 2).isLt
  obtain ⟨b, n, j, g, d, hi⟩ : ∃ (b : Fin 8) (n : Fin 4096) (j : Fin 2) (g : Fin 4) (d : Fin 128), i = ix3 b n ⟨512 * j.val + 128 * g.val + d.val, by omega⟩ :=
    ⟨i 0, i 1, ⟨(i 2).val / 512, by omega⟩, ⟨(i 2).val % 512 / 128, by omega⟩, ⟨(i 2).val % 128, by omega⟩, by
      funext a; apply Fin.ext; fin_cases a
      · rfl
      · rfl
      · show (i 2).val = 512 * ((i 2).val / 512) + 128 * ((i 2).val % 512 / 128) + (i 2).val % 128; omega⟩
  rw [hi]
  refine Eq.trans ?_ (v20_apply Q K Vv b n j g d).symm
  have hG : G Q K Vv (ix3 b n ⟨512 * j.val + 128 * g.val + d.val, by omega⟩) = val Q K Vv b n j g d := by
    have hj := j.isLt; have hg := g.isLt; have hd := d.isLt
    unfold G
    congr 1
    · apply Fin.ext; show (512 * j.val + 128 * g.val + d.val) / 512 = j.val; omega
    · apply Fin.ext; show (512 * j.val + 128 * g.val + d.val) % 512 / 128 = g.val; omega
    · apply Fin.ext; show (512 * j.val + 128 * g.val + d.val) % 128 = d.val; omega
  rw [hG]
  unfold val
  have hs := fun t => scores Q K q k hQ hK b n j g t
  rw [show escore Q K b n j g = _ from funext fun t => (hs t).2, show rscore Q K b n j g = _ from funext fun t => (hs t).1]
  exact Cert.Softmax.average (by norm_num) _ _ (fun t => rfl) _

theorem alg : Cert.algebraic_KernelIdeal_ReferenceIdeal_pre_finite_qk := by
  intro m g m' g' hpre hagree
  refine ⟨fun c => (G (Cert.KernelIdeal.Att.Qa m c) (Cert.KernelIdeal.Att.Ka m c) (Cert.KernelIdeal.Att.Va m c) : S8x4096x1024.Idx → EReal),
    Cert.KernelIdeal.Att.run m g, ?_⟩
  refine (θ_run _ _ _).mono (fun r h c => ⟨?_, (h c).2⟩) (Cert.ReferenceIdeal.Value.run (F := Ideal) m' g')
  refine (h c).1.trans ?_
  rw [val_main_v20_eq, (hagree c).1, (hagree c).2.1, (hagree c).2.2]
  exact (agree _ _ _ (hpre c)).symm

end Cert.AttRef

end
-- ==== Proof.Rows.Spec.lean ====
/- The feed-forward part row by row: root-mean-square norm, gated activation and the residual sum, over the extended
   reals; and the vector operations that compute them, read at an index, for any number of rows. -/
module

public import Idealize.ShloMosaic.PureOps.Ideal.Laws
public import Idealize.ShloMosaic.Lib.ValueIdx
public import Idealize.ShloMosaic.Lib.Pointwise.Index
public import Idealize.ShloMosaic.Lib.Pipeline.Value

@[expose] public section

set_option maxRecDepth 8192

noncomputable section

namespace Cert.Rows

open Idealize.ShloMosaic
open Idealize.ShloMosaic.ValueIdx (contrEquiv1)

/-- The norm's small summand. -/
def eps : EReal := Ideal.ofBits .f32 0x358637BD#32

/-- A row over the root of its mean square (`cnt` the row's length as a constant), times the gain. -/
def rms {n : ℕ} (cnt : EReal) (x g : Fin n → EReal) (k : Fin n) : EReal :=
  x k * Ideal.rsqrt (Ideal.div (∑ j, x j * x j) cnt + eps) * g k

/-- The row against one column of a matrix. -/
def dot {n p : ℕ} (x : Fin n → EReal) (w : Fin n → Fin p → EReal) (f : Fin p) : EReal := ∑ k, x k * w k f

/-- The gated activation at one hidden column. -/
def act {n p : ℕ} (h : Fin n → EReal) (wg wu : Fin n → Fin p → EReal) (f : Fin p) : EReal :=
  dot h wg f * Ideal.logistic (dot h wg f) * dot h wu f

/-- The feed-forward part of one row, the residual added. -/
def ffn (x g : Fin 1024 → EReal) (wg wu : Fin 1024 → Fin 2816 → EReal) (wd : Fin 2816 → Fin 1024 → EReal) (j : Fin 1024) : EReal :=
  x j + dot (act (rms (Ideal.ofBits .f32 0x44800000#32) x g) wg wu) wd j

/-- The hidden columns taken in two parts, of 1536 and 1280. -/
theorem ffn_split (x h : Fin 1024 → EReal) (wg wu : Fin 1024 → Fin 2816 → EReal) (wd : Fin 2816 → Fin 1024 → EReal) (j : Fin 1024) :
    x j + dot (act h (fun k (f : Fin 1536) => wg k ⟨f.val, by omega⟩) (fun k f => wu k ⟨f.val, by omega⟩)) (fun f k => wd ⟨f.val, by omega⟩ k) j
      + dot (act h (fun k (f : Fin 1280) => wg k ⟨1536 + f.val, by omega⟩) (fun k f => wu k ⟨1536 + f.val, by omega⟩)) (fun f k => wd ⟨1536 + f.val, by omega⟩ k) j
    = x j + dot (act h wg wu) wd j := by
  rw [add_assoc]
  exact congrArg (x j + ·) (Fin.sum_univ_add (a := 1536) (b := 1280) fun f : Fin 2816 => act h wg wu f * wd f j).symm

/-! ## The vector operations -/

variable {M K N J : ℕ} {φ : FTy}

/-- A product into zero. -/
theorem matmul_apply (lhs : FVec Ideal ⟨2, ![M, K]⟩ .bf16) (rhs : FVec Ideal ⟨2, ![K, N]⟩ .bf16) (r : Fin M) (c : Fin N) :
    (matmul (DotDims.plain M K N) none lhs rhs (constant ⟨2, ![M, N]⟩ .f32 0x00000000#32) : FVec Ideal ⟨2, ![M, N]⟩ .f32) (ix2 r c)
      = dot (fun k => lhs (ix2 r k)) (fun k f => rhs (ix2 k f)) c := by
  rw [matmul, Ideal.matmul_constant_zero_apply, ← Equiv.sum_comp (contrEquiv1 (DotDims.plain M K N) K rfl rfl).symm]
  refine Finset.sum_congr rfl fun d _ => ?_
  congr 1 <;> congr 1 <;> funext a <;> fin_cases a <;> rfl

/-- One part of the hidden columns: gate and up products, activation, down product, added on. -/
theorem part_apply (h : FVec Ideal ⟨2, ![M, K]⟩ .bf16) (g u : FVec Ideal ⟨2, ![K, N]⟩ .bf16) (d : FVec Ideal ⟨2, ![N, J]⟩ .bf16)
    (y : FVec Ideal ⟨2, ![M, J]⟩ .f32) (hb : FTy.bf16.bits < FTy.f32.bits) (r : Fin M) (c : Fin J) :
    (addf y (matmul (DotDims.plain M N J) none
      (truncf .bf16 (mulf (mulf (matmul (DotDims.plain M K N) none h g (constant ⟨2, ![M, N]⟩ .f32 0x00000000#32) : FVec Ideal ⟨2, ![M, N]⟩ .f32)
          (logistic (matmul (DotDims.plain M K N) none h g (constant ⟨2, ![M, N]⟩ .f32 0x00000000#32) : FVec Ideal ⟨2, ![M, N]⟩ .f32)))
        (matmul (DotDims.plain M K N) none h u (constant ⟨2, ![M, N]⟩ .f32 0x00000000#32) : FVec Ideal ⟨2, ![M, N]⟩ .f32)) hb : FVec Ideal ⟨2, ![M, N]⟩ .bf16)
      d (constant ⟨2, ![M, J]⟩ .f32 0x00000000#32)) : FVec Ideal ⟨2, ![M, J]⟩ .f32) (ix2 r c)
    = y (ix2 r c) + dot (act (fun k => h (ix2 r k)) (fun k f => g (ix2 k f)) (fun k f => u (ix2 k f))) (fun f k => d (ix2 f k)) c := by
  refine congrArg (y (ix2 r c) + ·) ((matmul_apply _ _ r c).trans (congrArg (dot · _ c) (funext fun f => ?_)))
  have hg := matmul_apply h g r f
  have hu := matmul_apply h u r f
  unfold act
  rw [← hg, ← hu]
  rfl

/-- The norm's vector operations at an index. -/
theorem rms_apply (x : FVec Ideal ⟨2, ![M, K]⟩ .f32) (g : FVec Ideal ⟨2, ![1, K]⟩ .f32) (cnt : BitVec 32)
    (h1 : (⟨2, ![M, K]⟩ : Shape).Reduces [1] ⟨1, ![M]⟩) (hφ : FKind.Formats .f32) (hacc : (0x00000000#32 : BitVec FTy.f32.bits) = FKind.add.neutral .f32 hφ)
    (h2 : (⟨1, ![M]⟩ : Shape).ShapeCasts ⟨2, ![M, 1]⟩) (h3 : (⟨2, ![M, 1]⟩ : Shape).Broadcasts ⟨2, ![M, K]⟩)
    (h4 : (⟨2, ![1, K]⟩ : Shape).Broadcasts ⟨2, ![M, K]⟩) (r : Fin M) (k : Fin K) :
    (mulf (mulf x (broadcastTo ⟨2, ![M, K]⟩ (rsqrt (addf (divf
        (shapeCast ⟨2, ![M, 1]⟩ (multiReduction .add [1] ⟨1, ![M]⟩ (mulf x x) 0x00000000#32 h1 hφ hacc) h2 : FVec Ideal ⟨2, ![M, 1]⟩ .f32)
        (broadcast ⟨2, ![M, 1]⟩ (Scalar.ofBits .f32 cnt))) (broadcast ⟨2, ![M, 1]⟩ (Scalar.ofBits .f32 0x358637BD#32)))) h3))
      (broadcastTo ⟨2, ![M, K]⟩ g h4) : FVec Ideal ⟨2, ![M, K]⟩ .f32) (ix2 r k)
    = rms (Ideal.ofBits .f32 cnt) (fun j => x (ix2 r j)) (fun j => g (ix2 0 j)) k := by
  have hM := r.isLt
  have hK := k.isLt
  have hs : (shapeCast ⟨2, ![M, 1]⟩ (multiReduction .add [1] ⟨1, ![M]⟩ (mulf x x) 0x00000000#32 h1 hφ hacc) h2 : FVec Ideal ⟨2, ![M, 1]⟩ .f32) (ix2 r 0)
      = ∑ j, x (ix2 r j) * x (ix2 r j) := by
    refine (shapeCast_apply _ h2 (ix2 r 0) (ix1 r) (by rw [Shape.rowMajor_val_one, Shape.rowMajor_val_two]; simp)).trans ?_
    refine (Ideal.multiReduction_add_single ..).trans ?_
    refine Finset.sum_congr rfl fun j _ => ?_
    show x _ * x _ = _
    have e : h1.lift (ix1 r) j = ix2 r j := by funext a; fin_cases a <;> rfl
    rw [e]
    rfl
  generalize (shapeCast ⟨2, ![M, 1]⟩ (multiReduction .add [1] ⟨1, ![M]⟩ (mulf x x) 0x00000000#32 h1 hφ hacc) h2 : FVec Ideal ⟨2, ![M, 1]⟩ .f32) = s at hs ⊢
  have hb : ∀ v : FVec Ideal ⟨2, ![M, 1]⟩ .f32, broadcastTo ⟨2, ![M, K]⟩ v h3 (ix2 r k) = v (ix2 r 0) := fun v =>
    broadcastTo_apply v h3 _ _ (by
      intro a; fin_cases a
      · show r.val = if M = 1 then 0 else r.val; split <;> omega
      · rfl)
  have hg : broadcastTo ⟨2, ![M, K]⟩ g h4 (ix2 r k) = g (ix2 0 k) :=
    broadcastTo_apply g h4 _ _ (by
      intro a; fin_cases a
      · rfl
      · show k.val = if K = 1 then 0 else k.val; split <;> omega)
  show x (ix2 r k) * broadcastTo ⟨2, ![M, K]⟩ _ h3 (ix2 r k) * broadcastTo ⟨2, ![M, K]⟩ g h4 (ix2 r k) = _
  rw [hb, hg]
  show x (ix2 r k) * Ideal.rsqrt (Ideal.div (s (ix2 r 0)) _ + _) * _ = _
  rw [hs]
  rfl

/-! ## The host's preparation of the operands -/

/-- Rows of all batches, one after another. -/
theorem rows_apply {t u n : ℕ} (x : (⟨3, ![8, t, n]⟩ : Shape).Idx → EReal) (h : (⟨3, ![8, t, n]⟩ : Shape).ShapeCasts ⟨2, ![u, n]⟩)
    (i : Fin u) (k : Fin n) (h8 : i.val / t < 8) (ht : i.val % t < t) :
    shapeCast ⟨2, ![u, n]⟩ x h (ix2 i k) = x (ix3 ⟨i.val / t, h8⟩ ⟨i.val % t, ht⟩ k) :=
  shapeCast_apply x h _ _ (by
    rw [Shape.rowMajor_val_two, Shape.rowMajor_val_three]
    show (i.val / t * t + i.val % t) * n + k.val = i.val * n + k.val
    rw [Nat.div_add_mod'])

/-- A leading axis of one dropped. -/
theorem drop_apply {a b : ℕ} {α : Type} (x : (⟨3, ![1, a, b]⟩ : Shape).Idx → α) (h : (⟨3, ![1, a, b]⟩ : Shape).ShapeCasts ⟨2, ![a, b]⟩)
    (i : Fin a) (j : Fin b) : shapeCast ⟨2, ![a, b]⟩ x h (ix2 i j) = x (ix3 0 i j) :=
  shapeCast_apply x h _ _ (by
    rw [Shape.rowMajor_val_two, Shape.rowMajor_val_three]
    show (0 * a + i.val) * b + j.val = i.val * b + j.val
    rw [Nat.zero_mul, Nat.zero_add])

/-- One layer's matrix. -/
theorem layer_apply {a b : ℕ} {α : Type} (l : Fin 2) (x : (⟨3, ![2, a, b]⟩ : Shape).Idx → α) (hs : (⟨3, ![2, a, b]⟩ : Shape).Slices ![l.val, 0, 0] ⟨3, ![1, a, b]⟩)
    (h : (⟨3, ![1, a, b]⟩ : Shape).ShapeCasts ⟨2, ![a, b]⟩) (i : Fin a) (j : Fin b) :
    shapeCast ⟨2, ![a, b]⟩ (extractStridedSlice ⟨3, ![1, a, b]⟩ ![l.val, 0, 0] x hs) h (ix2 i j) = x (ix3 l i j) :=
  (drop_apply _ h i j).trans (extractStridedSlice_apply _ _ _ _ _ (by intro a; fin_cases a <;> simp))

/-- One layer's gain, as a row. -/
theorem gain_apply {b : ℕ} {α : Type} (l : Fin 2) (x : (⟨2, ![2, b]⟩ : Shape).Idx → α) (hs : (⟨2, ![2, b]⟩ : Shape).Slices ![l.val, 0] ⟨2, ![1, b]⟩)
    (h : (⟨2, ![1, b]⟩ : Shape).ShapeCasts ⟨1, ![b]⟩) (hb : (⟨1, ![b]⟩ : Shape).BroadcastsInDim ⟨2, ![1, b]⟩ ![1]) (k : Fin b) :
    broadcastInDim ⟨2, ![1, b]⟩ ![1] hb (shapeCast ⟨1, ![b]⟩ (extractStridedSlice ⟨2, ![1, b]⟩ ![l.val, 0] x hs) h) (ix2 0 k) = x (ix2 l k) := by
  have hk := k.isLt
  refine (broadcastInDim_apply _ hb _ (ix2 0 k) (ix1 k) (by
    intro a; fin_cases a
    show k.val = if b = 1 then 0 else k.val; split <;> omega)).trans ?_
  refine (shapeCast_apply _ h (ix1 k) (ix2 0 k) (by rw [Shape.rowMajor_val_one, Shape.rowMajor_val_two]; simp)).trans ?_
  exact extractStridedSlice_apply _ _ _ _ _ (by intro a; fin_cases a <;> simp)

end Cert.Rows

end
-- ==== Proof.Out.Tile.lean ====
/- The attention layer's output and feed-forward part: one block of rows read at an index, over the extended reals. -/
module

public import proofs.«01_k».proof.Proof.Gen.Kernel2Ideal.Value
public import proofs.«01_k».proof.Proof.Rows.Spec
public import Idealize.ShloMosaic.Lib.Pipeline.ValueKit

@[expose] public section

set_option maxRecDepth 16384

noncomputable section

namespace Cert.Kernel2Ideal.Out

open Cert.Kernel2Ideal Cert.Kernel2Ideal.Gen
open Idealize.ShloMosaic Idealize.ShloMosaic.TcCoe Idealize.SL.Sem
open Cert.Rows (dot act rms ffn)

/-- A row of the residual stream after the output projection. -/
theorem pay3_apply (v0 : Vec Ideal S256x1024 .f32) (v2 : Vec Ideal S256x1024 .bf16) (v4 : Vec Ideal S1024x1024 .bf16) (r : Fin 256) (c : Fin 1024) :
    k0_pay3 (F := Ideal) v0 v2 v4 (ix2 r c) = v0 (ix2 r c) + dot (fun k => v2 (ix2 r k)) (fun k f => v4 (ix2 k f)) c := by
  unfold k0_pay3
  rw [shapeCast_self, shapeCast_self, shapeCast_self]
  exact congrArg (v0 (ix2 r c) + ·) (Cert.Rows.matmul_apply v2 v4 r c)

/-- Its norm. -/
theorem pay5_apply (v0 : Vec Ideal S256x1024 .f32) (v2 : Vec Ideal S256x1024 .bf16) (v4 : Vec Ideal S1024x1024 .bf16) (v16 : Vec Ideal S1x1024 .f32)
    (r : Fin 256) (c : Fin 1024) :
    k0_pay5 (F := Ideal) v0 v2 v4 v16 (ix2 r c)
      = rms (Ideal.ofBits .f32 0x44800000#32) (fun j => k0_pay3 (F := Ideal) v0 v2 v4 (ix2 r j)) (fun j => v16 (ix2 0 j)) c := by
  unfold k0_pay5
  rw [shapeCast_self]
  exact Cert.Rows.rms_apply (k0_pay3 (F := Ideal) v0 v2 v4) v16 0x44800000#32 _ _ _ _ _ _ r c

/-- One group of 256 rows of the result: `v0` the residual rows, `v2` the attention's, the rest the weights. -/
def tile (v0 : Vec Ideal S256x1024 .f32) (v2 : Vec Ideal S256x1024 .bf16) (x2 : Vec Ideal S1024x1024 .bf16) (x3 : Vec Ideal S1x1024 .f32)
    (x4 x5 : Vec Ideal S1024x2816 .bf16) (x6 : Vec Ideal S2816x1024 .bf16) : FVec Ideal S256x1024 .f32 :=
  k0_pay1 (k0_pay5 v0 v2 (View.ld x2 r0_1) (View.ld x3 r0_3))
    (k0_pay9 (k0_pay3 v0 v2 (View.ld x2 r0_1)) (k0_pay5 v0 v2 (View.ld x2 r0_1) (View.ld x3 r0_3)) (View.ld x4 r0_4) (View.ld x5 r0_4) (View.ld x6 r0_5))
    (View.ld x4 r0_6) (View.ld x5 r0_6) (View.ld x6 r0_7)

/-- The two groups of a block are the same function of their rows. -/
theorem out_eq (x0 : Vec Ideal S512x1024 .bf16) (x1 : Vec Ideal S512x1024 .f32) (x2 : Vec Ideal S1024x1024 .bf16) (x3 : Vec Ideal S1x1024 .f32)
    (x4 x5 : Vec Ideal S1024x2816 .bf16) (x6 : Vec Ideal S2816x1024 .bf16) :
    out0_7 (F := Ideal) x0 x1 x2 x3 x4 x5 x6
      = View.canon [⟨r0_2, tile (View.ld x1 r0_2) (View.ld x0 r0_2) x2 x3 x4 x5 x6⟩, ⟨r0_0, tile (View.ld x1 r0_0) (View.ld x0 r0_0) x2 x3 x4 x5 x6⟩] := rfl

theorem tile_apply (v0 : Vec Ideal S256x1024 .f32) (v2 : Vec Ideal S256x1024 .bf16) (x2 : Vec Ideal S1024x1024 .bf16) (x3 : Vec Ideal S1x1024 .f32)
    (x4 x5 : Vec Ideal S1024x2816 .bf16) (x6 : Vec Ideal S2816x1024 .bf16) (r : Fin 256) (c : Fin 1024) :
    tile v0 v2 x2 x3 x4 x5 x6 (ix2 r c)
      = ffn (fun j => v0 (ix2 r j) + dot (fun k => v2 (ix2 r k)) (fun k f => x2 (ix2 k f)) j) (fun j => x3 (ix2 0 j))
          (fun k f => x4 (ix2 k f)) (fun k f => x5 (ix2 k f)) (fun f k => x6 (ix2 f k)) c := by
  have l2 : ∀ (k f : Fin 1024), View.ld x2 r0_1 (ix2 k f) = x2 (ix2 k f) := fun k f => by
    show x2 _ = _; congr 1; funext a; apply Fin.ext; fin_cases a <;> simp [r0_1]
  have l3 : ∀ (k : Fin 1024), View.ld x3 r0_3 (ix2 0 k) = x3 (ix2 0 k) := fun k => by
    show x3 _ = _; congr 1; funext a; apply Fin.ext; fin_cases a <;> simp [r0_3]
  have l4 : ∀ (x : Vec Ideal S1024x2816 .bf16) (k : Fin 1024) (f : Fin 1536), View.ld x r0_4 (ix2 k f) = x (ix2 k ⟨f.val, by omega⟩) := fun x k f => by
    show x _ = _; congr 1; funext a; apply Fin.ext; fin_cases a <;> simp [r0_4]
  have l5 : ∀ (f : Fin 1536) (k : Fin 1024), View.ld x6 r0_5 (ix2 f k) = x6 (ix2 ⟨f.val, by omega⟩ k) := fun f k => by
    show x6 _ = _; congr 1; funext a; apply Fin.ext; fin_cases a <;> simp [r0_5]
  have l6 : ∀ (x : Vec Ideal S1024x2816 .bf16) (k : Fin 1024) (f : Fin 1280), View.ld x r0_6 (ix2 k f) = x (ix2 k ⟨1536 + f.val, by omega⟩) := fun x k f => by
    show x _ = _; congr 1; funext a; apply Fin.ext; fin_cases a <;> simp [r0_6]
  have l7 : ∀ (f : Fin 1280) (k : Fin 1024), View.ld x6 r0_7 (ix2 f k) = x6 (ix2 ⟨1536 + f.val, by omega⟩ k) := fun f k => by
    show x6 _ = _; congr 1; funext a; apply Fin.ext; fin_cases a <;> simp [r0_7]
  have hx : ∀ j, k0_pay3 (F := Ideal) v0 v2 (View.ld x2 r0_1) (ix2 r j) = v0 (ix2 r j) + dot (fun k => v2 (ix2 r k)) (fun k f => x2 (ix2 k f)) j := fun j => by
    rw [pay3_apply]; simp only [l2]
  have hh : ∀ j, k0_pay5 (F := Ideal) v0 v2 (View.ld x2 r0_1) (View.ld x3 r0_3) (ix2 r j)
      = rms (Ideal.ofBits .f32 0x44800000#32) (fun j => v0 (ix2 r j) + dot (fun k => v2 (ix2 r k)) (fun k f => x2 (ix2 k f)) j) (fun j => x3 (ix2 0 j)) j := fun j => by
    rw [pay5_apply]; simp only [hx, l3]
  have h9 := Cert.Rows.part_apply (k0_pay5 (F := Ideal) v0 v2 (View.ld x2 r0_1) (View.ld x3 r0_3)) (View.ld x4 r0_4) (View.ld x5 r0_4) (View.ld x6 r0_5)
    (k0_pay3 v0 v2 (View.ld x2 r0_1)) bitsLt_bf16_f32 r c
  unfold tile k0_pay1 k0_pay9
  simp only [shapeCast_self]
  refine (Cert.Rows.part_apply (k0_pay5 (F := Ideal) v0 v2 (View.ld x2 r0_1) (View.ld x3 r0_3)) (View.ld x4 r0_6) (View.ld x5 r0_6) (View.ld x6 r0_7) _ bitsLt_bf16_f32 r c).trans ?_
  refine (congrArg (· + _) h9).trans ?_
  simp only [hx, hh, l4 x4, l4 x5, l5, l6 x4, l6 x5, l7]
  exact Cert.Rows.ffn_split (fun j => v0 (ix2 r j) + dot (fun k => v2 (ix2 r k)) (fun k f => x2 (ix2 k f)) j) (rms _ _ (fun j => x3 (ix2 0 j))) (fun k f => x4 (ix2 k f)) (fun k f => x5 (ix2 k f)) (fun f k => x6 (ix2 f k)) c

/-- The block at an index: the feed-forward part of that row. -/
theorem out_apply (x0 : Vec Ideal S512x1024 .bf16) (x1 : Vec Ideal S512x1024 .f32) (x2 : Vec Ideal S1024x1024 .bf16) (x3 : Vec Ideal S1x1024 .f32)
    (x4 x5 : Vec Ideal S1024x2816 .bf16) (x6 : Vec Ideal S2816x1024 .bf16) (r : Fin 512) (c : Fin 1024) :
    out0_7 (F := Ideal) x0 x1 x2 x3 x4 x5 x6 (ix2 r c)
      = ffn (fun j => x1 (ix2 r j) + dot (fun k => x0 (ix2 r k)) (fun k f => x2 (ix2 k f)) j) (fun j => x3 (ix2 0 j))
          (fun k f => x4 (ix2 k f)) (fun k f => x5 (ix2 k f)) (fun f k => x6 (ix2 f k)) c := by
  rw [out_eq]
  have l0 : ∀ (z : Fin 256) (k : Fin 1024), View.ld x0 r0_0 (ix2 z k) = x0 (ix2 ⟨z.val, by omega⟩ k) ∧ View.ld x1 r0_0 (ix2 z k) = x1 (ix2 ⟨z.val, by omega⟩ k) := fun z k => by
    constructor
    · show x0 _ = _; congr 1; funext a; apply Fin.ext; fin_cases a <;> simp [r0_0]
    · show x1 _ = _; congr 1; funext a; apply Fin.ext; fin_cases a <;> simp [r0_0]
  have l1 : ∀ (z : Fin 256) (k : Fin 1024), View.ld x0 r0_2 (ix2 z k) = x0 (ix2 ⟨256 + z.val, by omega⟩ k) ∧ View.ld x1 r0_2 (ix2 z k) = x1 (ix2 ⟨256 + z.val, by omega⟩ k) := fun z k => by
    constructor
    · show x0 _ = _; congr 1; funext a; apply Fin.ext; fin_cases a <;> simp [r0_2]
    · show x1 _ = _; congr 1; funext a; apply Fin.ext; fin_cases a <;> simp [r0_2]
  canon_tiles x h
  all_goals
    have hx : x = ix2 (⟨(x 0).val, x0_lt⟩ : Fin 256) (⟨(x 1).val, x1_lt⟩ : Fin 1024) := by funext a; fin_cases a <;> rfl
    have hc : (⟨(x 1).val, x1_lt⟩ : Fin 1024) = c := Fin.ext h1.symm
    refine (congrArg _ hx).trans ((tile_apply ..).trans ?_)
    rw [hc]
  · have hr : (⟨256 + (x 0).val, by omega⟩ : Fin 512) = r := Fin.ext h0.symm
    simp only [fun k => (l1 ⟨(x 0).val, x0_lt⟩ k).1, fun k => (l1 ⟨(x 0).val, x0_lt⟩ k).2, hr]
  · have hr : (⟨(x 0).val, by omega⟩ : Fin 512) = r := Fin.ext h0.symm
    simp only [fun k => (l0 ⟨(x 0).val, x0_lt⟩ k).1, fun k => (l0 ⟨(x 0).val, x0_lt⟩ k).2, hr]

end Cert.Kernel2Ideal.Out

end
-- ==== Proof.Out.Value.lean ====
/- The result of the attention layer's output and feed-forward call as one function of its arguments. -/
module

public import proofs.«01_k».proof.Defs
public import proofs.«01_k».proof.Proof.Out.Tile
public import proofs.«01_k».proof.Proof.Gen.Reference2Ideal.Run
public import proofs.«01_k».proof.Proof.Gen.Reference2Ideal.Read

@[expose] public section

set_option maxRecDepth 16384

noncomputable section

namespace Cert.Kernel2Ideal.Out

open Cert.Kernel2Ideal Cert.Kernel2Ideal.Gen
open Idealize.ShloMosaic Idealize.ShloMosaic.TcCoe Idealize.SL.Sem
open Cert.Rows (dot act rms ffn)

/-- The result at token `(b, n)`, for any number `t` of tokens: the attention's row through the output projection, the residual added, the
    feed-forward part of that. -/
def G {t : ℕ} (O X : (⟨3, ![8, t, 1024]⟩ : Shape).Idx → EReal) (W : S1x1024x1024.Idx → EReal) (N : S2x1024.Idx → EReal)
    (A B : S2x1024x2816.Idx → EReal) (D : S2x2816x1024.Idx → EReal) (b : Fin 8) (n : Fin t) (c : Fin 1024) : EReal :=
  ffn (fun j => X (ix3 b n j) + dot (fun k => O (ix3 b n k)) (fun k f => W (ix3 0 k f)) j) (fun j => N (ix2 1 j))
    (fun k f => A (ix3 1 k f)) (fun k f => B (ix3 1 k f)) (fun f k => D (ix3 1 f k)) c

/-- The whole array. -/
def GA (O : S8x4096x1024.Idx → EReal) (X : S8x4096x1024.Idx → EReal) (W : S1x1024x1024.Idx → EReal) (N : S2x1024.Idx → EReal)
    (A B : S2x1024x2816.Idx → EReal) (D : S2x2816x1024.Idx → EReal) : S32768x1024.Idx → EReal := fun i =>
  G O X W N A B D ⟨(i 0).val / 4096, by have : (i 0).val < 32768 := (i 0).isLt; omega⟩ ⟨(i 0).val % 4096, by omega⟩ (i 1)

section
variable (m : (ℓ : Loc nD τ sig) → Buf (Elt Ideal) ℓ) (ρ : Dev nD → PrngReg)

abbrev Oa (c : Dev nD) : S8x4096x1024.Idx → EReal := m ((c.tc : Thread nD τ).loc main_arg0)
abbrev Xa (c : Dev nD) : S8x4096x1024.Idx → EReal := m ((c.tc : Thread nD τ).loc main_arg1)
abbrev Wa (c : Dev nD) : S1x1024x1024.Idx → EReal := m ((c.tc : Thread nD τ).loc main_arg2)
abbrev Na (c : Dev nD) : S2x1024.Idx → EReal := m ((c.tc : Thread nD τ).loc main_arg3)
abbrev Aa (c : Dev nD) : S2x1024x2816.Idx → EReal := m ((c.tc : Thread nD τ).loc main_arg4)
abbrev Ba (c : Dev nD) : S2x1024x2816.Idx → EReal := m ((c.tc : Thread nD τ).loc main_arg5)
abbrev Da (c : Dev nD) : S2x2816x1024.Idx → EReal := m ((c.tc : Thread nD τ).loc main_arg6)

/-! ## The operands as the kernel finds them -/

theorem o_apply (c : Dev nD) (i : Fin 32768) (k : Fin 1024) :
    (V m c main_v0 : S32768x1024.Idx → EReal) (ix2 i k) = Oa m c (ix3 ⟨i.val / 4096, by omega⟩ ⟨i.val % 4096, by omega⟩ k) := by
  have e : (V m c main_v0 : S32768x1024.Idx → EReal) = shapeCast S32768x1024 (Oa m c) shapeCasts_S8x4096x1024_S32768x1024 := by
    entry_read
    rfl
  rw [e]
  exact Cert.Rows.rows_apply _ _ i k _ _

theorem x_apply (c : Dev nD) (i : Fin 32768) (k : Fin 1024) :
    (V m c main_v1 : S32768x1024.Idx → EReal) (ix2 i k) = Xa m c (ix3 ⟨i.val / 4096, by omega⟩ ⟨i.val % 4096, by omega⟩ k) := by
  have e : (V m c main_v1 : S32768x1024.Idx → EReal) = shapeCast S32768x1024 (Xa m c) shapeCasts_S8x4096x1024_S32768x1024 := by
    entry_read
    rfl
  rw [e]
  exact Cert.Rows.rows_apply _ _ i k _ _

theorem w_apply (c : Dev nD) (k f : Fin 1024) : (V m c main_v3 : S1024x1024.Idx → EReal) (ix2 k f) = Wa m c (ix3 0 k f) := by
  have e : (V m c main_v3 : S1024x1024.Idx → EReal) = shapeCast S1024x1024 (Wa m c) shapeCasts_S1x1024x1024_S1024x1024 := by
    entry_read
    rfl
  rw [e]
  exact Cert.Rows.drop_apply _ _ k f

theorem n_apply (c : Dev nD) (k : Fin 1024) : (V m c main_v6 : S1x1024.Idx → EReal) (ix2 0 k) = Na m c (ix2 1 k) := by
  have e : (V m c main_v6 : S1x1024.Idx → EReal) = broadcastInDim S1x1024 ![1] bcast_S1024_S1x1024_1
      (shapeCast S1024 (extractStridedSlice S1x1024 ![1, 0] (Na m c) slices_S2x1024_S1x1024_1_0) shapeCasts_S1x1024_S1024) := by
    entry_read
    rfl
  rw [e]
  exact Cert.Rows.gain_apply 1 _ _ _ _ k

theorem a_apply (c : Dev nD) (k : Fin 1024) (f : Fin 2816) : (V m c main_v9 : S1024x2816.Idx → EReal) (ix2 k f) = Aa m c (ix3 1 k f) := by
  have e : (V m c main_v9 : S1024x2816.Idx → EReal) = shapeCast S1024x2816
      (extractStridedSlice S1x1024x2816 ![1, 0, 0] (Aa m c) slices_S2x1024x2816_S1x1024x2816_1_0_0) shapeCasts_S1x1024x2816_S1024x2816 := by
    entry_read
    rfl
  rw [e]
  exact Cert.Rows.layer_apply 1 _ _ _ k f

theorem b_apply (c : Dev nD) (k : Fin 1024) (f : Fin 2816) : (V m c main_v12 : S1024x2816.Idx → EReal) (ix2 k f) = Ba m c (ix3 1 k f) := by
  have e : (V m c main_v12 : S1024x2816.Idx → EReal) = shapeCast S1024x2816
      (extractStridedSlice S1x1024x2816 ![1, 0, 0] (Ba m c) slices_S2x1024x2816_S1x1024x2816_1_0_0) shapeCasts_S1x1024x2816_S1024x2816 := by
    entry_read
    rfl
  rw [e]
  exact Cert.Rows.layer_apply 1 _ _ _ k f

theorem d_apply (c : Dev nD) (k : Fin 2816) (f : Fin 1024) : (V m c main_v15 : S2816x1024.Idx → EReal) (ix2 k f) = Da m c (ix3 1 k f) := by
  have e : (V m c main_v15 : S2816x1024.Idx → EReal) = shapeCast S2816x1024
      (extractStridedSlice S1x2816x1024 ![1, 0, 0] (Da m c) slices_S2x2816x1024_S1x2816x1024_1_0_0) shapeCasts_S1x2816x1024_S2816x1024 := by
    entry_read
    rfl
  rw [e]
  exact Cert.Rows.layer_apply 1 _ _ _ k f

/-! ## The windows' blocks -/

theorem idx : ∀ t : Fin grid0.N, (cfg0.win 0).index t = ![(grid0.coords t 0).val, 0] ∧ (cfg0.win 1).index t = ![(grid0.coords t 0).val, 0]
    ∧ (cfg0.win 2).index t = ![0, 0] ∧ (cfg0.win 3).index t = ![0, 0] ∧ (cfg0.win 4).index t = ![0, 0] ∧ (cfg0.win 5).index t = ![0, 0]
    ∧ (cfg0.win 6).index t = ![0, 0] ∧ (cfg0.win 7).index t = ![(grid0.coords t 0).val, 0] := by decide +kernel

/-- A grid point's block of rows. -/
def bt (t : Fin cfg0.N) : Fin 64 := grid0.coords t 0

theorem o_blk (c : Dev nD) (t : Fin cfg0.N) (r : Fin 512) (k : Fin 1024) :
    (iblk m c 0 t : S512x1024.Idx → EReal) (ix2 r k) = (V m c main_v0 : S32768x1024.Idx → EReal) (ix2 ⟨512 * (bt t).val + r.val, by omega⟩ k) := by
  have e := (idx t).1
  have hb : (bt t).val = (grid0.coords t 0).val := rfl
  blk_ext [iblk, e]

theorem x_blk (c : Dev nD) (t : Fin cfg0.N) (r : Fin 512) (k : Fin 1024) :
    (iblk m c 1 t : S512x1024.Idx → EReal) (ix2 r k) = (V m c main_v1 : S32768x1024.Idx → EReal) (ix2 ⟨512 * (bt t).val + r.val, by omega⟩ k) := by
  have e := (idx t).2.1
  have hb : (bt t).val = (grid0.coords t 0).val := rfl
  blk_ext [iblk, e]

theorem w_blk (c : Dev nD) (t : Fin cfg0.N) (k f : Fin 1024) :
    (iblk m c 2 t : S1024x1024.Idx → EReal) (ix2 k f) = (V m c main_v3 : S1024x1024.Idx → EReal) (ix2 k f) := by
  have e := (idx t).2.2.1
  blk_ext [iblk, e]

theorem n_blk (c : Dev nD) (t : Fin cfg0.N) (k : Fin 1024) :
    (iblk m c 3 t : S1x1024.Idx → EReal) (ix2 0 k) = (V m c main_v6 : S1x1024.Idx → EReal) (ix2 0 k) := by
  have e := (idx t).2.2.2.1
  blk_ext [iblk, e]

theorem a_blk (c : Dev nD) (t : Fin cfg0.N) (k : Fin 1024) (f : Fin 2816) :
    (iblk m c 4 t : S1024x2816.Idx → EReal) (ix2 k f) = (V m c main_v9 : S1024x2816.Idx → EReal) (ix2 k f) := by
  have e := (idx t).2.2.2.2.1
  blk_ext [iblk, e]

theorem b_blk (c : Dev nD) (t : Fin cfg0.N) (k : Fin 1024) (f : Fin 2816) :
    (iblk m c 5 t : S1024x2816.Idx → EReal) (ix2 k f) = (V m c main_v12 : S1024x2816.Idx → EReal) (ix2 k f) := by
  have e := (idx t).2.2.2.2.2.1
  blk_ext [iblk, e]

theorem d_blk (c : Dev nD) (t : Fin cfg0.N) (k : Fin 2816) (f : Fin 1024) :
    (iblk m c 6 t : S2816x1024.Idx → EReal) (ix2 k f) = (V m c main_v15 : S2816x1024.Idx → EReal) (ix2 k f) := by
  have e := (idx t).2.2.2.2.2.2.1
  blk_ext [iblk, e]

/-! ## The result -/

theorem blk_apply (c : Dev nD) (t : Fin cfg0.N) (r : Fin 512) (k : Fin 1024) :
    out0_7 (F := Ideal) (iblk m c 0 t) (iblk m c 1 t) (iblk m c 2 t) (iblk m c 3 t) (iblk m c 4 t) (iblk m c 5 t) (iblk m c 6 t) (ix2 r k)
      = G (Oa m c) (Xa m c) (Wa m c) (Na m c) (Aa m c) (Ba m c) (Da m c) ⟨(512 * (bt t).val + r.val) / 4096, by omega⟩
          ⟨(512 * (bt t).val + r.val) % 4096, by omega⟩ k := by
  refine (out_apply (iblk m c 0 t) (iblk m c 1 t) (iblk m c 2 t) (iblk m c 3 t) (iblk m c 4 t) (iblk m c 5 t) (iblk m c 6 t) r k).trans ?_
  unfold G
  congr 1
  · funext j
    refine congrArg₂ (· + ·) ((x_blk m c t r j).trans (x_apply m c _ j)) (congrArg₂ (dot · · j) ?_ ?_)
    · funext k; exact (o_blk m c t r k).trans (o_apply m c _ k)
    · funext k f; exact (w_blk m c t k f).trans (w_apply m c k f)
  · funext j; exact (n_blk m c t j).trans (n_apply m c j)
  · funext k f; exact (a_blk m c t k f).trans (a_apply m c k f)
  · funext k f; exact (b_blk m c t k f).trans (b_apply m c k f)
  · funext k f; exact (d_blk m c t k f).trans (d_apply m c k f)

theorem final (c : Dev nD) : (dats m 0 c).arrAt 7 cfg0.N
    = (GA (Oa m c) (Xa m c) (Wa m c) (Na m c) (Aa m c) (Ba m c) (Da m c) : S32768x1024.Idx → EReal) := by
  refine (dats m 0 c).arrAt_eq_of_covers 7 _ (by decide +kernel) fun t hf y => ?_
  have e := (idx t).2.2.2.2.2.2.2
  have y0 : (y 0).val < 512 := (y 0).isLt
  have y1 : (y 1).val < 1024 := (y 1).isLt
  have hy : y = (ix2 ⟨(y 0).val, y0⟩ ⟨(y 1).val, y1⟩ : S512x1024.Idx) := by
    funext a; fin_cases a <;> rfl
  refine Eq.trans (b := out0_7 (F := Ideal) (iblk m c 0 t) (iblk m c 1 t) (iblk m c 2 t) (iblk m c 3 t) (iblk m c 4 t) (iblk m c 5 t) (iblk m c 6 t) y) ?_ ?_
  · blk_simp
    rw [after0_7]
  refine (congrArg _ hy).trans ?_
  refine (blk_apply m c t ⟨(y 0).val, y0⟩ ⟨(y 1).val, y1⟩).trans ?_
  have p0 : (((((cfg0.win 7).blk t).view.emb y) 0 : Fin _) : ℕ) = 512 * (bt t).val + (y 0).val := by
    have hb : (bt t).val = (grid0.coords t 0).val := rfl
    blk_simp [e]; omega
  have p1 : (((((cfg0.win 7).blk t).view.emb y) 1 : Fin _) : ℕ) = (y 1).val := by
    blk_simp [e]
  generalize ((cfg0.win 7).blk t).view.emb y = z at p0 p1
  show _ = GA (Oa m c) (Xa m c) (Wa m c) (Na m c) (Aa m c) (Ba m c) (Da m c) z
  unfold GA
  congr 1
  · apply Fin.ext; show (512 * (bt t).val + (y 0).val) / 4096 = _ / 4096; rw [p0]
  · apply Fin.ext; show (512 * (bt t).val + (y 0).val) % 4096 = _ % 4096; rw [p0]
  · exact Fin.ext p1.symm

end

end Cert.Kernel2Ideal.Out

end
-- ==== Proof.Rows.Host.lean ====
/- The feed-forward part as the reference writes it, over `(batch, token, column)`, for any number of tokens: each operation read at an index, and
   the whole as `Cert.Rows.ffn` of one token's row. -/
module

public import proofs.«01_k».proof.Proof.Rows.Spec

@[expose] public section

set_option maxRecDepth 8192

noncomputable section

namespace Cert.Rows

open Idealize.ShloMosaic
open Idealize.ShloMosaic.ValueIdx (contrEquiv1)

/-- Tokens' rows. -/
abbrev T3 (t n : ℕ) : Shape := ⟨3, ![8, t, n]⟩

/-- A product of every token's row with a matrix. -/
abbrev hd {t : ℕ} (K N : ℕ) (wf : DotDims.WF (T3 t K) ⟨2, ![K, N]⟩ (T3 t N) [2] [0] [0, 1] [1] [] []) : DotDims (T3 t K) ⟨2, ![K, N]⟩ (T3 t N) where
  lhsContracting := [2]
  rhsContracting := [0]
  lhsNonContracting := [0, 1]
  rhsNonContracting := [1]
  lhsBatch := []
  rhsBatch := []
  wf := wf

variable {t K N : ℕ}

theorem hdot_apply (wf : DotDims.WF (T3 t K) ⟨2, ![K, N]⟩ (T3 t N) [2] [0] [0, 1] [1] [] []) (x : FVec Ideal (T3 t K) .f32) (w : FVec Ideal ⟨2, ![K, N]⟩ .f32)
    (b : Fin 8) (n : Fin t) (c : Fin N) :
    (Host.dotGeneral (hd K N wf) none x w : FVec Ideal (T3 t N) .f32) (ix3 b n c) = dot (fun k => x (ix3 b n k)) (fun k f => w (ix2 k f)) c := by
  simp only [Host.dotGeneral]
  rw [Ideal.dotGeneral_apply, ← Equiv.sum_comp (contrEquiv1 (hd K N wf) K rfl rfl).symm]
  refine Finset.sum_congr rfl fun d _ => ?_
  congr 1 <;> congr 1 <;> funext a <;> fin_cases a <;> rfl

/-- One over one plus the exponential of the negative, with the constant one: the logistic function. -/
theorem one_word : Ideal.ofBits .f32 0x3F800000#32 = (1 : EReal) := by
  simp [Ideal.ofBits, Ideal.ieee]
  rw [← EReal.coe_mul]
  norm_num

/-- The norm over a token's row at an index. -/
theorem hrms_apply (x : FVec Ideal (T3 t K) .f32) (g : FVec Ideal ⟨1, ![K]⟩ .f32) (cnt : BitVec 32)
    (h1 : (T3 t K).ReducesTo [2] ⟨2, ![8, t]⟩) (hr : (T3 t K).Reduces [2] ⟨2, ![8, t]⟩) (h0 : 0 < (⟨0, ![]⟩ : Shape).numel)
    (h2 : (⟨2, ![8, t]⟩ : Shape).BroadcastsInDim (T3 t 1) ![0, 1])
    (h3 : (⟨0, ![]⟩ : Shape).BroadcastsInDim (T3 t 1) ![]) (h4 : (T3 t 1).BroadcastsInDim (T3 t K) ![0, 1, 2])
    (h5 : (⟨1, ![K]⟩ : Shape).BroadcastsInDim ⟨3, ![1, 1, K]⟩ ![2]) (h6 : (⟨3, ![1, 1, K]⟩ : Shape).BroadcastsInDim (T3 t K) ![0, 1, 2])
    (b : Fin 8) (n : Fin t) (k : Fin K) :
    (mulf (mulf x (broadcastInDim (T3 t K) ![0, 1, 2] h4 (Host.rsqrt (addf (Host.divf
        (broadcastInDim (T3 t 1) ![0, 1] h2 (Host.reduceAdd (mulf x x) (constant ⟨0, ![]⟩ .f32 0x00000000#32) h1 h0 : FVec Ideal ⟨2, ![8, t]⟩ .f32) : FVec Ideal (T3 t 1) .f32)
        (broadcastInDim (T3 t 1) ![] h3 (constant ⟨0, ![]⟩ .f32 cnt : FVec Ideal ⟨0, ![]⟩ .f32)))
        (broadcastInDim (T3 t 1) ![] h3 (constant ⟨0, ![]⟩ .f32 0x358637BD#32 : FVec Ideal ⟨0, ![]⟩ .f32)) : FVec Ideal (T3 t 1) .f32))))
      (broadcastInDim (T3 t K) ![0, 1, 2] h6 (broadcastInDim ⟨3, ![1, 1, K]⟩ ![2] h5 g)) : FVec Ideal (T3 t K) .f32) (ix3 b n k)
    = rms (Ideal.ofBits .f32 cnt) (fun j => x (ix3 b n j)) (fun j => g (ix1 j)) k := by
  have hK := k.isLt
  have hn := n.isLt
  have hs : (Host.reduceAdd (mulf x x) (constant ⟨0, ![]⟩ .f32 0x00000000#32) h1 h0 : FVec Ideal ⟨2, ![8, t]⟩ .f32) (ix2 b n)
      = ∑ j, x (ix3 b n j) * x (ix3 b n j) := by
    simp only [Host.reduceAdd, Ideal.hostReduceAdd_def]
    rw [Ideal.hostReduceAdd_single h1 hr]
    have z : (constant ⟨0, ![]⟩ .f32 0x00000000#32 : FVec Ideal ⟨0, ![]⟩ .f32) (Shape.Idx.first h0) = (0 : EReal) := Ideal.ofBits_zero_f32
    refine (congrArg (· + _) z).trans ((zero_add _).trans (Finset.sum_congr rfl fun j _ => ?_))
    show x _ * x _ = _
    have e : hr.lift (ix2 b n) j = ix3 b n j := by funext a; fin_cases a <;> rfl
    rw [e]
    rfl
  generalize (Host.reduceAdd (mulf x x) (constant ⟨0, ![]⟩ .f32 0x00000000#32) h1 h0 : FVec Ideal ⟨2, ![8, t]⟩ .f32) = s at hs ⊢
  have hb : ∀ v : FVec Ideal (T3 t 1) .f32, broadcastInDim (T3 t K) ![0, 1, 2] h4 v (ix3 b n k) = v (ix3 b n 0) := fun v =>
    broadcastInDim_apply _ h4 v _ _ (by
      intro a; fin_cases a
      · rfl
      · show n.val = if t = 1 then 0 else n.val; split <;> omega
      · rfl)
  have hg : broadcastInDim (T3 t K) ![0, 1, 2] h6 (broadcastInDim ⟨3, ![1, 1, K]⟩ ![2] h5 g) (ix3 b n k) = g (ix1 k) :=
    (broadcastInDim_apply _ h6 _ _ (ix3 0 0 k) (by
      intro a; fin_cases a
      · rfl
      · rfl
      · show k.val = if K = 1 then 0 else k.val; split <;> omega)).trans
    (broadcastInDim_apply _ h5 _ _ (ix1 k) (by
      intro a; fin_cases a
      show k.val = if K = 1 then 0 else k.val; split <;> omega))
  have hq : broadcastInDim (T3 t 1) ![0, 1] h2 s (ix3 b n 0) = s (ix2 b n) :=
    broadcastInDim_apply _ h2 _ _ _ (by
      intro a; fin_cases a
      · rfl
      · show n.val = if t = 1 then 0 else n.val; split <;> omega)
  refine congrArg₂ (· * ·) (congrArg (x (ix3 b n k) * ·) ((hb _).trans ?_)) hg
  exact congrArg (fun z => Ideal.rsqrt (Ideal.div z (Ideal.ofBits .f32 cnt) + eps)) (hq.trans hs)

/-- The gated activation at an index. -/
theorem hact_apply (wf : DotDims.WF (T3 t K) ⟨2, ![K, N]⟩ (T3 t N) [2] [0] [0, 1] [1] [] []) (h : FVec Ideal (T3 t K) .f32) (wg wu : FVec Ideal ⟨2, ![K, N]⟩ .f32)
    (h3 : (⟨0, ![]⟩ : Shape).BroadcastsInDim (T3 t N) ![]) (b : Fin 8) (n : Fin t) (f : Fin N) :
    (mulf (mulf (Host.dotGeneral (hd K N wf) none h wg : FVec Ideal (T3 t N) .f32)
        (Host.divf (broadcastInDim (T3 t N) ![] h3 (constant ⟨0, ![]⟩ .f32 0x3F800000#32 : FVec Ideal ⟨0, ![]⟩ .f32))
          (addf (broadcastInDim (T3 t N) ![] h3 (constant ⟨0, ![]⟩ .f32 0x3F800000#32 : FVec Ideal ⟨0, ![]⟩ .f32))
            (Host.exp (Host.negf (Host.dotGeneral (hd K N wf) none h wg : FVec Ideal (T3 t N) .f32))))))
      (Host.dotGeneral (hd K N wf) none h wu : FVec Ideal (T3 t N) .f32) : FVec Ideal (T3 t N) .f32) (ix3 b n f)
    = act (fun k => h (ix3 b n k)) (fun k f => wg (ix2 k f)) (fun k f => wu (ix2 k f)) f := by
  have hg := hdot_apply wf h wg b n f
  have hu := hdot_apply wf h wu b n f
  unfold act
  rw [← hg, ← hu]
  generalize (Host.dotGeneral (hd K N wf) none h wg : FVec Ideal (T3 t N) .f32) = y
  generalize (Host.dotGeneral (hd K N wf) none h wu : FVec Ideal (T3 t N) .f32) = z
  show y (ix3 b n f) * Ideal.div (Ideal.ofBits .f32 0x3F800000#32) (Ideal.ofBits .f32 0x3F800000#32 + Ideal.exp (-y (ix3 b n f))) * z (ix3 b n f) = _
  rw [one_word]
  rfl

/-- The feed-forward part of one token, the residual added, from the normed rows `h`. -/
theorem hffn_apply
    (wf' : DotDims.WF (T3 t 2816) ⟨2, ![2816, 1024]⟩ (T3 t 1024) [2] [0] [0, 1] [1] [] [])
    (x h : FVec Ideal (T3 t 1024) .f32) (a : FVec Ideal (T3 t 2816) .f32) (wg wu : FVec Ideal ⟨2, ![1024, 2816]⟩ .f32) (wd : FVec Ideal ⟨2, ![2816, 1024]⟩ .f32)
    (g : Fin 1024 → EReal) (b : Fin 8) (n : Fin t)
    (hh : ∀ k, h (ix3 b n k) = rms (Ideal.ofBits .f32 0x44800000#32) (fun j => x (ix3 b n j)) g k)
    (ha : ∀ f, a (ix3 b n f) = act (fun k => h (ix3 b n k)) (fun k f => wg (ix2 k f)) (fun k f => wu (ix2 k f)) f) (c : Fin 1024) :
    (addf x (Host.dotGeneral (hd 2816 1024 wf') none a wd : FVec Ideal (T3 t 1024) .f32) : FVec Ideal (T3 t 1024) .f32) (ix3 b n c)
    = ffn (fun j => x (ix3 b n j)) g (fun k f => wg (ix2 k f)) (fun k f => wu (ix2 k f)) (fun f k => wd (ix2 f k)) c := by
  refine congrArg (x (ix3 b n c) + ·) ((hdot_apply wf' a wd b n c).trans ?_)
  rw [show (fun k => a (ix3 b n k)) = _ from funext ha, show (fun k => h (ix3 b n k)) = _ from funext hh]

/-- A layer's gain. -/
theorem hgain_apply {p : ℕ} {α : Type} (l : Fin 2) (x : (⟨2, ![2, p]⟩ : Shape).Idx → α) (hs : (⟨2, ![2, p]⟩ : Shape).Slices ![l.val, 0] ⟨2, ![1, p]⟩)
    (h : (⟨2, ![1, p]⟩ : Shape).ShapeCasts ⟨1, ![p]⟩) (k : Fin p) :
    shapeCast ⟨1, ![p]⟩ (extractStridedSlice ⟨2, ![1, p]⟩ ![l.val, 0] x hs) h (ix1 k) = x (ix2 l k) :=
  (shapeCast_apply _ h (ix1 k) (ix2 0 k) (by rw [Shape.rowMajor_val_one, Shape.rowMajor_val_two]; simp)).trans
    (extractStridedSlice_apply _ _ _ _ _ (by intro a; fin_cases a <;> simp))

end Cert.Rows

end
-- ==== Proof.Out.Ref.lean ====
/- The reference of the attention layer's output and feed-forward call at an index, and that its result is the kernel's. -/
module

public import proofs.«01_k».proof.Proof.Out.Value
public import proofs.«01_k».proof.Proof.Rows.Host

@[expose] public section

set_option maxRecDepth 16384

noncomputable section

namespace Cert.OutRef

open Idealize.ShloMosaic Idealize.ShloMosaic.TcCoe Idealize.SL.Sem
open Cert.Reference2Ideal Cert.Reference2Ideal.Gen Cert.Reference2Ideal.Read
open Cert.Rows (dot act rms ffn)
open Cert.Kernel2Ideal.Out (G GA)

variable (x0 : FVec Ideal S8x4096x1024 .bf16) (x1 : FVec Ideal S8x4096x1024 .f32) (x2 : FVec Ideal S1x1024x1024 .f32)
  (x3 : FVec Ideal S2x1024 .f32) (x4 x5 : FVec Ideal S2x1024x2816 .f32) (x6 : FVec Ideal S2x2816x1024 .f32)

/-- The row the feed-forward part starts from. -/
theorem v3_apply (b : Fin 8) (n : Fin 4096) (j : Fin 1024) :
    @Eq EReal (val_main_v3 (F := Ideal) x0 x1 x2 (ix3 b n j)) (x1 (ix3 b n j) + dot (fun k => x0 (ix3 b n k)) (fun k f => x2 (ix3 0 k f)) j) := by
  refine congrArg (x1 (ix3 b n j) + ·) ((Cert.Rows.hdot_apply _ (val_main_v0 (F := Ideal) x0) (val_main_v1 (F := Ideal) x2) b n j).trans ?_)
  exact congrArg (dot (fun k => x0 (ix3 b n k)) · j) (funext fun k => funext fun f => Cert.Rows.drop_apply _ _ k f)

/-- The normed row. -/
theorem v24_apply (b : Fin 8) (n : Fin 4096) (k : Fin 1024) :
    @Eq EReal (val_main_v24 (F := Ideal) x0 x1 x2 x3 (ix3 b n k))
      (rms (Ideal.ofBits .f32 0x44800000#32) (fun j => val_main_v3 (F := Ideal) x0 x1 x2 (ix3 b n j)) (fun j => x3 (ix2 1 j)) k) := by
  unfold val_main_v24 val_main_v23 val_main_v22 val_main_v21 val_main_v20 val_main_v19 val_main_v18 val_main_v17 val_main_v16 val_main_v15 val_main_v14
    val_main_v13 val_main_v12 val_main_cst val_main_cst_0 val_main_cst_1
  refine (Cert.Rows.hrms_apply (val_main_v3 (F := Ideal) x0 x1 x2) (val_main_v5 (F := Ideal) x3) 0x44800000#32 _ (by decide) _ _ _ _ _ _ b n k).trans ?_
  exact congrArg (rms _ _ · k) (funext fun j => Cert.Rows.hgain_apply 1 x3 _ _ j)

/-- The gated activation. -/
theorem v28_apply (b : Fin 8) (n : Fin 4096) (f : Fin 2816) :
    @Eq EReal (val_main_v28 (F := Ideal) x0 x1 x2 x3 x4 x5 (ix3 b n f))
      (act (fun k => val_main_v24 (F := Ideal) x0 x1 x2 x3 (ix3 b n k)) (fun k f => val_main_v7 (F := Ideal) x4 (ix2 k f))
        (fun k f => val_main_v9 (F := Ideal) x5 (ix2 k f)) f) := by
  unfold val_main_v28 val_main_v27 val_main_v26 val_main_call0_v5 val_main_call0_v4 val_main_call0_v3 val_main_call0_v2 val_main_call0_v1
    val_main_call0_v0 val_main_call0_cst val_main_call0_cst_0 val_main_v25
  exact Cert.Rows.hact_apply _ (val_main_v24 (F := Ideal) x0 x1 x2 x3) (val_main_v7 (F := Ideal) x4) (val_main_v9 (F := Ideal) x5) _ b n f

/-- The reference's result at a token. -/
theorem v30_apply (b : Fin 8) (n : Fin 4096) (c : Fin 1024) :
    @Eq EReal (val_main_v30 (F := Ideal) x0 x1 x2 x3 x4 x5 x6 (ix3 b n c)) (G x0 x1 x2 x3 x4 x5 x6 b n c) := by
  unfold val_main_v30 val_main_v29
  refine (Cert.Rows.hffn_apply _ (val_main_v3 (F := Ideal) x0 x1 x2) (val_main_v24 (F := Ideal) x0 x1 x2 x3) (val_main_v28 (F := Ideal) x0 x1 x2 x3 x4 x5)
    (val_main_v7 (F := Ideal) x4) (val_main_v9 (F := Ideal) x5) (val_main_v11 (F := Ideal) x6) (fun j => x3 (ix2 1 j)) b n
    (v24_apply x0 x1 x2 x3 b n) (v28_apply x0 x1 x2 x3 x4 x5 b n) c).trans ?_
  unfold G
  congr 1
  · exact funext fun j => v3_apply x0 x1 x2 b n j
  · exact funext fun k => funext fun f => Cert.Rows.layer_apply 1 x4 _ _ k f
  · exact funext fun k => funext fun f => Cert.Rows.layer_apply 1 x5 _ _ k f
  · exact funext fun k => funext fun f => Cert.Rows.layer_apply 1 x6 _ _ k f

theorem agree : (GA x0 x1 x2 x3 x4 x5 x6 : S32768x1024.Idx → EReal) = val_main_v31 (F := Ideal) x0 x1 x2 x3 x4 x5 x6 := by
  funext i
  have hi : i = (ix2 ⟨(i 0).val, (i 0).isLt⟩ ⟨(i 1).val, (i 1).isLt⟩ : S32768x1024.Idx) := by
    funext a; fin_cases a <;> rfl
  rw [hi]
  unfold val_main_v31
  exact ((Cert.Rows.rows_apply (val_main_v30 (F := Ideal) x0 x1 x2 x3 x4 x5 x6) _ _ _ _ _).trans (v30_apply x0 x1 x2 x3 x4 x5 x6 _ _ _)).symm

theorem alg : Cert.algebraic_Kernel2Ideal_Reference2Ideal := by
  intro m g m' g' _ hagree
  refine ⟨fun c => (GA (Cert.Kernel2Ideal.Out.Oa m c) (Cert.Kernel2Ideal.Out.Xa m c) (Cert.Kernel2Ideal.Out.Wa m c) (Cert.Kernel2Ideal.Out.Na m c)
    (Cert.Kernel2Ideal.Out.Aa m c) (Cert.Kernel2Ideal.Out.Ba m c) (Cert.Kernel2Ideal.Out.Da m c) : S32768x1024.Idx → EReal), ?_, ?_⟩
  · exact (θ_run _ _ _).mono (fun r h c => ⟨(h c).1.trans (Cert.Kernel2Ideal.Out.final m c), (h c).2⟩) (Cert.Kernel2Ideal.Value.run_blocks m g)
  · refine (θ_run _ _ _).mono (fun r h c => ⟨?_, (h c).2⟩) (Cert.Reference2Ideal.Value.run (F := Ideal) m' g')
    refine (h c).1.trans ?_
    obtain ⟨h0, h1, h2, h3, h4, h5, h6⟩ := hagree c
    rw [val_main_v31_eq, h0, h1, h2, h3, h4, h5, h6]
    exact (agree _ _ _ _ _ _ _).symm

end Cert.OutRef

end
-- ==== Proof.Rows.Heads.lean ====
/- The recurrence's rows before the output projection: each head of 128 columns normed by itself, times the gate's
   activation; and the vector operations that compute them, read at an index. -/
module

public import proofs.«01_k».proof.Proof.Rows.Spec
public import Idealize.ShloMosaic.Lib.Pointwise.Sums

@[expose] public section

set_option maxRecDepth 8192

noncomputable section

namespace Cert.Rows

open Idealize.ShloMosaic

/-- The norm over the head that holds column `k`. -/
def heads (y : Fin 512 → EReal) (g : Fin 128 → EReal) (k : Fin 512) : EReal :=
  rms (Ideal.ofBits .f32 0x43000000#32) (fun j : Fin 128 => y ⟨128 * (k.val / 128) + j.val, by omega⟩) g ⟨k.val % 128, by omega⟩

/-- The gated row. -/
def gated (y : Fin 512 → EReal) (g : Fin 128 → EReal) (r : Fin 512 → EReal) (k : Fin 512) : EReal :=
  heads y g k * (r k * Ideal.logistic (r k))

/-- The residual stream after both mixers: `x` the stream before, `y` the recurrence's row, `r` its gate, `o` the other
    mixer's row, `wy` and `wo` their halves of the output projection. -/
def mixed (x : Fin 1024 → EReal) (y : Fin 512 → EReal) (g : Fin 128 → EReal) (r o : Fin 512 → EReal) (wy wo : Fin 512 → Fin 1024 → EReal)
    (j : Fin 1024) : EReal :=
  x j + (dot (gated y g r) wy j + dot o wo j)

/-- A sum over both halves of the projection's rows. -/
theorem dot_halves {p : ℕ} (z : Fin 1024 → EReal) (w : Fin 1024 → Fin p → EReal) (f : Fin p) :
    dot z w f = dot (fun k : Fin 512 => z ⟨k.val, by omega⟩) (fun k f => w ⟨k.val, by omega⟩ f) f
      + dot (fun k : Fin 512 => z ⟨512 + k.val, by omega⟩) (fun k f => w ⟨512 + k.val, by omega⟩ f) f :=
  Fin.sum_univ_two_halves 512 512 rfl fun k => z k * w k f

variable {M : ℕ}

/-- A head's columns. -/
theorem cols_apply (o : ℕ) (x : FVec Ideal ⟨2, ![M, 512]⟩ .f32) (hs : (⟨2, ![M, 512]⟩ : Shape).Slices ![0, o] ⟨2, ![M, 128]⟩) (ho : o + 128 ≤ 512)
    (r : Fin M) (j : Fin 128) : extractStridedSlice ⟨2, ![M, 128]⟩ ![0, o] x hs (ix2 r j) = x (ix2 r ⟨o + j.val, by omega⟩) :=
  extractStridedSlice_apply _ _ _ _ _ (by intro a; fin_cases a <;> simp)

/-- One head's norm, of the sum of both directions `a`, `b`. -/
theorem head_apply (o : ℕ) (a b : FVec Ideal ⟨2, ![M, 512]⟩ .f32) (g : FVec Ideal ⟨2, ![1, 128]⟩ .f32)
    (hs : (⟨2, ![M, 512]⟩ : Shape).Slices ![0, o] ⟨2, ![M, 128]⟩) (ho : o + 128 ≤ 512)
    (h1 : (⟨2, ![M, 128]⟩ : Shape).Reduces [1] ⟨1, ![M]⟩) (hφ : FKind.Formats .f32) (hacc : (0x00000000#32 : BitVec FTy.f32.bits) = FKind.add.neutral .f32 hφ)
    (h2 : (⟨1, ![M]⟩ : Shape).ShapeCasts ⟨2, ![M, 1]⟩) (h3 : (⟨2, ![M, 1]⟩ : Shape).Broadcasts ⟨2, ![M, 128]⟩)
    (h4 : (⟨2, ![1, 128]⟩ : Shape).Broadcasts ⟨2, ![M, 128]⟩) (r : Fin M) (d : Fin 128) (x : FVec Ideal ⟨2, ![M, 128]⟩ .f32)
    (hx : x = extractStridedSlice ⟨2, ![M, 128]⟩ ![0, o] (addf a b) hs) :
    (mulf (mulf x (broadcastTo ⟨2, ![M, 128]⟩ (rsqrt (addf (divf
        (shapeCast ⟨2, ![M, 1]⟩ (multiReduction .add [1] ⟨1, ![M]⟩ (mulf x x) 0x00000000#32 h1 hφ hacc) h2 : FVec Ideal ⟨2, ![M, 1]⟩ .f32)
        (broadcast ⟨2, ![M, 1]⟩ (Scalar.ofBits .f32 0x43000000#32))) (broadcast ⟨2, ![M, 1]⟩ (Scalar.ofBits .f32 0x358637BD#32)))) h3))
      (broadcastTo ⟨2, ![M, 128]⟩ g h4) : FVec Ideal ⟨2, ![M, 128]⟩ .f32) (ix2 r d)
    = rms (Ideal.ofBits .f32 0x43000000#32) (fun j : Fin 128 => a (ix2 r ⟨o + j.val, by omega⟩) + b (ix2 r ⟨o + j.val, by omega⟩)) (fun j => g (ix2 0 j)) d := by
  subst hx
  refine (rms_apply _ g 0x43000000#32 h1 hφ hacc h2 h3 h4 r d).trans ?_
  exact congrArg (fun y => rms (Ideal.ofBits .f32 0x43000000#32) y (fun j => g (ix2 0 j)) d) (funext fun j => cols_apply o (addf a b) hs ho r j)

/-- The four heads' norms side by side. -/
theorem heads_apply (y : Fin 512 → EReal) (g : Fin 128 → EReal) (v0 v1 v2 v3 : FVec Ideal ⟨2, ![M, 128]⟩ .f32) (r : Fin M)
    (h : Shape.Concatenates [⟨2, ![M, 128]⟩, ⟨2, ![M, 128]⟩, ⟨2, ![M, 128]⟩, ⟨2, ![M, 128]⟩] ⟨2, ![M, 512]⟩ 1)
    (h0 : ∀ d, v0 (ix2 r d) = rms (Ideal.ofBits .f32 0x43000000#32) (fun j : Fin 128 => y ⟨0 + j.val, by omega⟩) g d)
    (h1 : ∀ d, v1 (ix2 r d) = rms (Ideal.ofBits .f32 0x43000000#32) (fun j : Fin 128 => y ⟨128 + j.val, by omega⟩) g d)
    (h2 : ∀ d, v2 (ix2 r d) = rms (Ideal.ofBits .f32 0x43000000#32) (fun j : Fin 128 => y ⟨256 + j.val, by omega⟩) g d)
    (h3 : ∀ d, v3 (ix2 r d) = rms (Ideal.ofBits .f32 0x43000000#32) (fun j : Fin 128 => y ⟨384 + j.val, by omega⟩) g d) (k : Fin 512) :
    (concatenate ⟨2, ![M, 512]⟩ 1 [⟨⟨2, ![M, 128]⟩, v0⟩, ⟨⟨2, ![M, 128]⟩, v1⟩, ⟨⟨2, ![M, 128]⟩, v2⟩, ⟨⟨2, ![M, 128]⟩, v3⟩] h : FVec Ideal ⟨2, ![M, 512]⟩ .f32) (ix2 r k)
      = heads y g k := by
  have hk := k.isLt
  have hq : k.val / 128 < 4 := by omega
  refine (concatenate_ofFn_apply (t := ⟨2, ![M, 512]⟩) (s₁ := ⟨2, ![M, 128]⟩) 1 ![v0, v1, v2, v3] h rfl 128 rfl (ix2 r k) ⟨k.val / 128, hq⟩ rfl
    (ix2 r ⟨k.val % 128, by omega⟩) rfl (by intro b hb; fin_cases b <;> first | rfl | exact absurd rfl hb)).trans ?_
  unfold heads
  obtain e | e | e | e : k.val / 128 = 0 ∨ k.val / 128 = 1 ∨ k.val / 128 = 2 ∨ k.val / 128 = 3 := by omega
  · simp only [e]; exact h0 _
  · simp only [e]; exact h1 _
  · simp only [e]; exact h2 _
  · simp only [e]; exact h3 _

/-- The stream after both mixers, from the normed heads `n`. -/
theorem mixed_apply (x : FVec Ideal ⟨2, ![M, 1024]⟩ .f32) (n : FVec Ideal ⟨2, ![M, 512]⟩ .f32) (rr : FVec Ideal ⟨2, ![M, 512]⟩ .bf16) (o : FVec Ideal ⟨2, ![M, 512]⟩ .f32)
    (wy wo : FVec Ideal ⟨2, ![512, 1024]⟩ .bf16) (hb : FTy.bf16.bits < FTy.f32.bits) (y : Fin 512 → EReal) (g : Fin 128 → EReal) (r : Fin M)
    (hn : ∀ k, n (ix2 r k) = heads y g k) (c : Fin 1024) :
    (addf x (addf (matmul (DotDims.plain M 512 1024) none
        (truncf .bf16 (mulf n (mulf (extf .f32 rr hb) (logistic (extf .f32 rr hb : FVec Ideal ⟨2, ![M, 512]⟩ .f32)))) hb : FVec Ideal ⟨2, ![M, 512]⟩ .bf16) wy
        (constant ⟨2, ![M, 1024]⟩ .f32 0x00000000#32) : FVec Ideal ⟨2, ![M, 1024]⟩ .f32)
      (matmul (DotDims.plain M 512 1024) none (truncf .bf16 o hb : FVec Ideal ⟨2, ![M, 512]⟩ .bf16) wo
        (constant ⟨2, ![M, 1024]⟩ .f32 0x00000000#32) : FVec Ideal ⟨2, ![M, 1024]⟩ .f32)) : FVec Ideal ⟨2, ![M, 1024]⟩ .f32) (ix2 r c)
    = mixed (fun j => x (ix2 r j)) y g (fun k => rr (ix2 r k)) (fun k => o (ix2 r k)) (fun k f => wy (ix2 k f)) (fun k f => wo (ix2 k f)) c := by
  refine congrArg (x (ix2 r c) + ·) (congrArg₂ (· + ·) ((matmul_apply _ wy r c).trans (congrArg (dot · _ c) (funext fun k => ?_))) (matmul_apply _ wo r c))
  exact congrArg (· * (rr (ix2 r k) * Ideal.logistic (rr (ix2 r k)))) (hn k)

end Cert.Rows

end
-- ==== Proof.Mix.Tile.lean ====
/- The first layer's output and feed-forward part: one block of rows read at an index, over the extended reals. -/
module

public import proofs.«01_k».proof.Proof.Gen.Kernel3Ideal.Value
public import proofs.«01_k».proof.Proof.Rows.Heads
public import Idealize.ShloMosaic.Lib.Pipeline.ValueKit

@[expose] public section

set_option maxRecDepth 16384

noncomputable section

namespace Cert.Kernel3Ideal.Mix

open Cert.Kernel3Ideal Cert.Kernel3Ideal.Gen
open Idealize.ShloMosaic Idealize.ShloMosaic.TcCoe Idealize.SL.Sem
open Cert.Rows (dot act rms ffn heads gated mixed)

/-- A group of rows of the residual stream after both mixers: `a`, `b` the two directions of the recurrence. -/
def stream (a b : Vec Ideal S256x512 .f32) (rr : Vec Ideal S256x512 .bf16) (o : Vec Ideal S256x512 .f32) (x : Vec Ideal S256x1024 .f32)
    (g : Vec Ideal S1x128 .f32) (wy wo : Vec Ideal S512x1024 .bf16) : FVec Ideal S256x1024 .f32 :=
  k0_pay10 (k0_pay9 (k0_pay3 a b) (k0_pay4 a b g) (k0_pay5 a b g) (k0_pay6 a b) (k0_pay7 g) (k0_pay8 a b) (Scalar.ofBits .f32 0x43000000#32) g rr wy o wo) x

theorem stream_apply (a b : Vec Ideal S256x512 .f32) (rr : Vec Ideal S256x512 .bf16) (o : Vec Ideal S256x512 .f32) (x : Vec Ideal S256x1024 .f32)
    (g : Vec Ideal S1x128 .f32) (wy wo : Vec Ideal S512x1024 .bf16) (r : Fin 256) (c : Fin 1024) :
    stream a b rr o x g wy wo (ix2 r c)
      = mixed (fun j => x (ix2 r j)) (fun k => a (ix2 r k) + b (ix2 r k)) (fun d => g (ix2 0 d)) (fun k => rr (ix2 r k)) (fun k => o (ix2 r k))
          (fun k f => wy (ix2 k f)) (fun k f => wo (ix2 k f)) c := by
  unfold stream k0_pay10 k0_pay9 k0_pay8 k0_pay7 k0_pay6 k0_pay5 k0_pay4 k0_pay3
  simp only [shapeCast_self]
  refine Cert.Rows.mixed_apply x _ rr o wy wo bitsLt_bf16_f32 (fun k => a (ix2 r k) + b (ix2 r k)) (fun d => g (ix2 0 d)) r
    (Cert.Rows.heads_apply _ _ _ _ _ _ r _ (fun d => ?_) (fun d => ?_) (fun d => ?_) fun d => ?_) c
  · rw [shapeCast_self a, shapeCast_self b, shapeCast_self g]
    exact Cert.Rows.head_apply 0 a b g slices_S256x512_o0_0_S256x128 (by decide) _ _ _ _ _ _ r d _ rfl
  · rw [shapeCast_self a, shapeCast_self b, shapeCast_self g]
    exact Cert.Rows.head_apply 128 a b g slices_S256x512_o0_128_S256x128 (by decide) _ _ _ _ _ _ r d _ rfl
  · rw [shapeCast_self a, shapeCast_self b, shapeCast_self g]
    exact Cert.Rows.head_apply 256 a b g slices_S256x512_o0_256_S256x128 (by decide) _ _ _ _ _ _ r d _ rfl
  · rw [shapeCast_self a, shapeCast_self b, shapeCast_self g]
    exact Cert.Rows.head_apply 384 a b g slices_S256x512_o0_384_S256x128 (by decide) _ _ _ _ _ _ r d _ rfl

/-- The feed-forward part of a group of rows of the stream. -/
def tile (s : FVec Ideal S256x1024 .f32) (x8 : Vec Ideal S1x1024 .f32) (x9 x10 : Vec Ideal S1024x2816 .bf16) (x11 : Vec Ideal S2816x1024 .bf16) : FVec Ideal S256x1024 .f32 :=
  k0_pay1 (k0_pay23 s (k0_pay21 s (View.ld x8 r0_6) (View.ld x9 r0_7)) (k0_pay22 s (View.ld x8 r0_6) (View.ld x10 r0_7)) (View.ld x11 r0_8))
    (k0_pay27 (k0_pay19 s (View.ld x8 r0_6)) (View.ld x9 r0_9) (View.ld x10 r0_9)) (View.ld x11 r0_10)

/-- The two groups of a block are the same function of their rows. -/
theorem out_eq (x0 x1 : Vec Ideal S512x512 .f32) (x2 : Vec Ideal S512x512 .bf16) (x3 : Vec Ideal S512x512 .f32) (x4 : Vec Ideal S512x1024 .f32)
    (x5 : Vec Ideal S1x128 .f32) (x6 x7 : Vec Ideal S512x1024 .bf16) (x8 : Vec Ideal S1x1024 .f32) (x9 x10 : Vec Ideal S1024x2816 .bf16) (x11 : Vec Ideal S2816x1024 .bf16) :
    out0_12 (F := Ideal) x0 x1 x2 x3 x4 x5 x6 x7 x8 x9 x10 x11
      = View.canon [⟨r0_5, tile (stream (View.ld x0 r0_4) (View.ld x1 r0_4) (View.ld x2 r0_4) (View.ld x3 r0_4) (View.ld x4 r0_5) (View.ld x5 r0_1) (View.ld x6 r0_2) (View.ld x7 r0_2)) x8 x9 x10 x11⟩,
          ⟨r0_3, tile (stream (View.ld x0 r0_0) (View.ld x1 r0_0) (View.ld x2 r0_0) (View.ld x3 r0_0) (View.ld x4 r0_3) (View.ld x5 r0_1) (View.ld x6 r0_2) (View.ld x7 r0_2)) x8 x9 x10 x11⟩] := rfl

theorem norm_apply (s : FVec Ideal S256x1024 .f32) (g : Vec Ideal S1x1024 .f32) (r : Fin 256) (c : Fin 1024) :
    k0_pay19 (F := Ideal) s g (ix2 r c) = rms (Ideal.ofBits .f32 0x44800000#32) (fun j => s (ix2 r j)) (fun j => g (ix2 0 j)) c := by
  unfold k0_pay19
  rw [shapeCast_self]
  exact Cert.Rows.rms_apply s g 0x44800000#32 _ _ _ _ _ _ r c

theorem tile_apply (s : FVec Ideal S256x1024 .f32) (x8 : Vec Ideal S1x1024 .f32) (x9 x10 : Vec Ideal S1024x2816 .bf16) (x11 : Vec Ideal S2816x1024 .bf16)
    (r : Fin 256) (c : Fin 1024) :
    tile s x8 x9 x10 x11 (ix2 r c)
      = ffn (fun j => s (ix2 r j)) (fun j => x8 (ix2 0 j)) (fun k f => x9 (ix2 k f)) (fun k f => x10 (ix2 k f)) (fun f k => x11 (ix2 f k)) c := by
  have l8 : ∀ (k : Fin 1024), View.ld x8 r0_6 (ix2 0 k) = x8 (ix2 0 k) := fun k => by
    show x8 _ = _; congr 1; funext a; apply Fin.ext; fin_cases a <;> simp [r0_6]
  have l7 : ∀ (x : Vec Ideal S1024x2816 .bf16) (k : Fin 1024) (f : Fin 1536), View.ld x r0_7 (ix2 k f) = x (ix2 k ⟨f.val, by omega⟩) := fun x k f => by
    show x _ = _; congr 1; funext a; apply Fin.ext; fin_cases a <;> simp [r0_7]
  have l9 : ∀ (x : Vec Ideal S1024x2816 .bf16) (k : Fin 1024) (f : Fin 1280), View.ld x r0_9 (ix2 k f) = x (ix2 k ⟨1536 + f.val, by omega⟩) := fun x k f => by
    show x _ = _; congr 1; funext a; apply Fin.ext; fin_cases a <;> simp [r0_9]
  have l11 : ∀ (f : Fin 1536) (k : Fin 1024), View.ld x11 r0_8 (ix2 f k) = x11 (ix2 ⟨f.val, by omega⟩ k) := fun f k => by
    show x11 _ = _; congr 1; funext a; apply Fin.ext; fin_cases a <;> simp [r0_8]
  have l12 : ∀ (f : Fin 1280) (k : Fin 1024), View.ld x11 r0_10 (ix2 f k) = x11 (ix2 ⟨1536 + f.val, by omega⟩ k) := fun f k => by
    show x11 _ = _; congr 1; funext a; apply Fin.ext; fin_cases a <;> simp [r0_10]
  have hh : ∀ j, k0_pay19 (F := Ideal) s (View.ld x8 r0_6) (ix2 r j) = rms (Ideal.ofBits .f32 0x44800000#32) (fun j => s (ix2 r j)) (fun j => x8 (ix2 0 j)) j := fun j => by
    rw [norm_apply]; simp only [l8]
  have h9 := Cert.Rows.part_apply (k0_pay19 (F := Ideal) s (View.ld x8 r0_6)) (View.ld x9 r0_7) (View.ld x10 r0_7) (View.ld x11 r0_8) s bitsLt_bf16_f32 r c
  unfold tile k0_pay1 k0_pay23 k0_pay21 k0_pay22 k0_pay27
  simp only [shapeCast_self]
  refine (Cert.Rows.part_apply (k0_pay19 (F := Ideal) s (View.ld x8 r0_6)) (View.ld x9 r0_9) (View.ld x10 r0_9) (View.ld x11 r0_10) _ bitsLt_bf16_f32 r c).trans ?_
  refine (congrArg (· + _) h9).trans ?_
  simp only [hh, l7 x9, l7 x10, l11, l9 x9, l9 x10, l12]
  exact Cert.Rows.ffn_split (fun j => s (ix2 r j)) (rms _ _ (fun j => x8 (ix2 0 j))) (fun k f => x9 (ix2 k f)) (fun k f => x10 (ix2 k f)) (fun f k => x11 (ix2 f k)) c

/-- The block at an index: the feed-forward part of that row of the stream. -/
theorem out_apply (x0 x1 : Vec Ideal S512x512 .f32) (x2 : Vec Ideal S512x512 .bf16) (x3 : Vec Ideal S512x512 .f32) (x4 : Vec Ideal S512x1024 .f32)
    (x5 : Vec Ideal S1x128 .f32) (x6 x7 : Vec Ideal S512x1024 .bf16) (x8 : Vec Ideal S1x1024 .f32) (x9 x10 : Vec Ideal S1024x2816 .bf16) (x11 : Vec Ideal S2816x1024 .bf16)
    (r : Fin 512) (c : Fin 1024) :
    out0_12 (F := Ideal) x0 x1 x2 x3 x4 x5 x6 x7 x8 x9 x10 x11 (ix2 r c)
      = ffn (mixed (fun j => x4 (ix2 r j)) (fun k => x0 (ix2 r k) + x1 (ix2 r k)) (fun d => x5 (ix2 0 d)) (fun k => x2 (ix2 r k)) (fun k => x3 (ix2 r k))
          (fun k f => x6 (ix2 k f)) (fun k f => x7 (ix2 k f))) (fun j => x8 (ix2 0 j)) (fun k f => x9 (ix2 k f)) (fun k f => x10 (ix2 k f)) (fun f k => x11 (ix2 f k)) c := by
  rw [out_eq]
  have l5 : ∀ d : Fin 128, View.ld x5 r0_1 (ix2 0 d) = x5 (ix2 0 d) := fun d => by
    show x5 _ = _; congr 1; funext a; apply Fin.ext; fin_cases a <;> simp [r0_1]
  have lw : ∀ (x : Vec Ideal S512x1024 .bf16) (k : Fin 512) (f : Fin 1024), View.ld x r0_2 (ix2 k f) = x (ix2 k f) := fun x k f => by
    show x _ = _; congr 1; funext a; apply Fin.ext; fin_cases a <;> simp [r0_2]
  have l0 : ∀ {φ : EltTy} (x : Vec Ideal S512x512 φ) (z : Fin 256) (k : Fin 512), View.ld x r0_0 (ix2 z k) = x (ix2 ⟨z.val, by omega⟩ k) := fun x z k => by
    show x _ = _; congr 1; funext a; apply Fin.ext; fin_cases a <;> simp [r0_0]
  have l4 : ∀ {φ : EltTy} (x : Vec Ideal S512x512 φ) (z : Fin 256) (k : Fin 512), View.ld x r0_4 (ix2 z k) = x (ix2 ⟨256 + z.val, by omega⟩ k) := fun x z k => by
    show x _ = _; congr 1; funext a; apply Fin.ext; fin_cases a <;> simp [r0_4]
  have s0 : ∀ (z : Fin 256) (k : Fin 1024), View.ld x4 r0_3 (ix2 z k) = x4 (ix2 ⟨z.val, by omega⟩ k) := fun z k => by
    show x4 _ = _; congr 1; funext a; apply Fin.ext; fin_cases a <;> simp [r0_3]
  have s4 : ∀ (z : Fin 256) (k : Fin 1024), View.ld x4 r0_5 (ix2 z k) = x4 (ix2 ⟨256 + z.val, by omega⟩ k) := fun z k => by
    show x4 _ = _; congr 1; funext a; apply Fin.ext; fin_cases a <;> simp [r0_5]
  canon_tiles x h
  all_goals
    have hx : x = ix2 (⟨(x 0).val, x0_lt⟩ : Fin 256) (⟨(x 1).val, x1_lt⟩ : Fin 1024) := by funext a; fin_cases a <;> rfl
    have hc : (⟨(x 1).val, x1_lt⟩ : Fin 1024) = c := Fin.ext h1.symm
    refine (congrArg _ hx).trans ((tile_apply ..).trans ?_)
    rw [hc]
    refine congrArg (ffn · _ _ _ _ c) (funext fun j => (stream_apply ..).trans ?_)
  · have hr : (⟨256 + (x 0).val, by omega⟩ : Fin 512) = r := Fin.ext h0.symm
    simp only [l5, lw x6, lw x7, l4 x0, l4 x1, l4 x2, l4 x3, s4, hr]
  · have hr : (⟨(x 0).val, by omega⟩ : Fin 512) = r := Fin.ext h0.symm
    simp only [l5, lw x6, lw x7, l0 x0, l0 x1, l0 x2, l0 x3, s0, hr]

end Cert.Kernel3Ideal.Mix

end
-- ==== Proof.Mix.Value.lean ====
/- The result of the first layer's output and feed-forward call as one function of its arguments. -/
module

public import proofs.«01_k».proof.Defs
public import proofs.«01_k».proof.Proof.Mix.Tile
public import proofs.«01_k».proof.Proof.Gen.Reference3Ideal.Run
public import proofs.«01_k».proof.Proof.Gen.Reference3Ideal.Read

@[expose] public section

set_option maxRecDepth 16384

noncomputable section

namespace Cert.Kernel3Ideal.Mix

open Cert.Kernel3Ideal Cert.Kernel3Ideal.Gen
open Idealize.ShloMosaic Idealize.ShloMosaic.TcCoe Idealize.SL.Sem
open Cert.Rows (dot act rms ffn heads gated mixed)

/-- The result at token `(b, n)`: both directions of the recurrence summed, normed by heads and gated, that and the other
    mixer's row through the output projection's two halves, the residual added, the feed-forward part of that. -/
def G (P Q : S8x4096x512.Idx → EReal) (R O : S8x4096x512.Idx → EReal) (X : S8x4096x1024.Idx → EReal) (H : S1x128.Idx → EReal) (W : S1x1024x1024.Idx → EReal)
    (N : S2x1024.Idx → EReal) (A B : S2x1024x2816.Idx → EReal) (D : S2x2816x1024.Idx → EReal) (b : Fin 8) (n : Fin 4096) (c : Fin 1024) : EReal :=
  ffn (mixed (fun j => X (ix3 b n j)) (fun k => P (ix3 b n k) + Q (ix3 b n k)) (fun d => H (ix2 0 d)) (fun k => R (ix3 b n k)) (fun k => O (ix3 b n k))
      (fun k f => W (ix3 0 ⟨k.val, by omega⟩ f)) (fun k f => W (ix3 0 ⟨512 + k.val, by omega⟩ f)))
    (fun j => N (ix2 0 j)) (fun k f => A (ix3 0 k f)) (fun k f => B (ix3 0 k f)) (fun f k => D (ix3 0 f k)) c

/-- The whole array. -/
def GA (P Q : S8x4096x512.Idx → EReal) (R O : S8x4096x512.Idx → EReal) (X : S8x4096x1024.Idx → EReal) (H : S1x128.Idx → EReal) (W : S1x1024x1024.Idx → EReal)
    (N : S2x1024.Idx → EReal) (A B : S2x1024x2816.Idx → EReal) (D : S2x2816x1024.Idx → EReal) : S32768x1024.Idx → EReal := fun i =>
  G P Q R O X H W N A B D ⟨(i 0).val / 4096, by have : (i 0).val < 32768 := (i 0).isLt; omega⟩ ⟨(i 0).val % 4096, by omega⟩ (i 1)

section
variable (m : (ℓ : Loc nD τ sig) → Buf (Elt Ideal) ℓ) (ρ : Dev nD → PrngReg)

abbrev Pa (c : Dev nD) : S8x4096x512.Idx → EReal := m ((c.tc : Thread nD τ).loc main_arg0)
abbrev Qa (c : Dev nD) : S8x4096x512.Idx → EReal := m ((c.tc : Thread nD τ).loc main_arg1)
abbrev Ra (c : Dev nD) : S8x4096x512.Idx → EReal := m ((c.tc : Thread nD τ).loc main_arg2)
abbrev Oa (c : Dev nD) : S8x4096x512.Idx → EReal := m ((c.tc : Thread nD τ).loc main_arg3)
abbrev Xa (c : Dev nD) : S8x4096x1024.Idx → EReal := m ((c.tc : Thread nD τ).loc main_arg4)
abbrev Ha (c : Dev nD) : S1x128.Idx → EReal := m ((c.tc : Thread nD τ).loc main_arg5)
abbrev Wa (c : Dev nD) : S1x1024x1024.Idx → EReal := m ((c.tc : Thread nD τ).loc main_arg6)
abbrev Na (c : Dev nD) : S2x1024.Idx → EReal := m ((c.tc : Thread nD τ).loc main_arg7)
abbrev Aa (c : Dev nD) : S2x1024x2816.Idx → EReal := m ((c.tc : Thread nD τ).loc main_arg8)
abbrev Ba (c : Dev nD) : S2x1024x2816.Idx → EReal := m ((c.tc : Thread nD τ).loc main_arg9)
abbrev Da (c : Dev nD) : S2x2816x1024.Idx → EReal := m ((c.tc : Thread nD τ).loc main_arg10)

/-! ## The operands as the kernel finds them -/

theorem p_apply (c : Dev nD) (i : Fin 32768) (k : Fin 512) :
    (V m c main_v0 : S32768x512.Idx → EReal) (ix2 i k) = Pa m c (ix3 ⟨i.val / 4096, by omega⟩ ⟨i.val % 4096, by omega⟩ k) := by
  have e : (V m c main_v0 : S32768x512.Idx → EReal) = shapeCast S32768x512 (Pa m c) shapeCasts_S8x4096x512_S32768x512 := by
    entry_read
    rfl
  rw [e]
  exact Cert.Rows.rows_apply _ _ i k _ _

theorem q_apply (c : Dev nD) (i : Fin 32768) (k : Fin 512) :
    (V m c main_v1 : S32768x512.Idx → EReal) (ix2 i k) = Qa m c (ix3 ⟨i.val / 4096, by omega⟩ ⟨i.val % 4096, by omega⟩ k) := by
  have e : (V m c main_v1 : S32768x512.Idx → EReal) = shapeCast S32768x512 (Qa m c) shapeCasts_S8x4096x512_S32768x512 := by
    entry_read
    rfl
  rw [e]
  exact Cert.Rows.rows_apply _ _ i k _ _

theorem r_apply (c : Dev nD) (i : Fin 32768) (k : Fin 512) :
    (V m c main_v2 : S32768x512.Idx → EReal) (ix2 i k) = Ra m c (ix3 ⟨i.val / 4096, by omega⟩ ⟨i.val % 4096, by omega⟩ k) := by
  have e : (V m c main_v2 : S32768x512.Idx → EReal) = shapeCast S32768x512 (Ra m c) shapeCasts_S8x4096x512_S32768x512 := by
    entry_read
    rfl
  rw [e]
  exact Cert.Rows.rows_apply _ _ i k _ _

theorem o_apply (c : Dev nD) (i : Fin 32768) (k : Fin 512) :
    (V m c main_v3 : S32768x512.Idx → EReal) (ix2 i k) = Oa m c (ix3 ⟨i.val / 4096, by omega⟩ ⟨i.val % 4096, by omega⟩ k) := by
  have e : (V m c main_v3 : S32768x512.Idx → EReal) = shapeCast S32768x512 (Oa m c) shapeCasts_S8x4096x512_S32768x512 := by
    entry_read
    rfl
  rw [e]
  exact Cert.Rows.rows_apply _ _ i k _ _

theorem x_apply (c : Dev nD) (i : Fin 32768) (k : Fin 1024) :
    (V m c main_v4 : S32768x1024.Idx → EReal) (ix2 i k) = Xa m c (ix3 ⟨i.val / 4096, by omega⟩ ⟨i.val % 4096, by omega⟩ k) := by
  have e : (V m c main_v4 : S32768x1024.Idx → EReal) = shapeCast S32768x1024 (Xa m c) shapeCasts_S8x4096x1024_S32768x1024 := by
    entry_read
    rfl
  rw [e]
  exact Cert.Rows.rows_apply _ _ i k _ _

theorem h_apply (c : Dev nD) (k : Fin 128) : (V m c main_v6 : S1x128.Idx → EReal) (ix2 0 k) = Ha m c (ix2 0 k) := by
  have e : (V m c main_v6 : S1x128.Idx → EReal) = broadcastInDim S1x128 ![1] bcast_S128_S1x128_1 (shapeCast S128 (Ha m c) shapeCasts_S1x128_S128) := by
    entry_read
    rfl
  rw [e]
  refine (broadcastInDim_apply _ _ _ (ix2 0 k) (ix1 k) (by intro a; fin_cases a; rfl)).trans ?_
  exact shapeCast_apply _ _ (ix1 k) (ix2 0 k) (by rw [Shape.rowMajor_val_one, Shape.rowMajor_val_two]; simp)

theorem wy_apply (c : Dev nD) (k : Fin 512) (f : Fin 1024) : (V m c main_v9 : S512x1024.Idx → EReal) (ix2 k f) = Wa m c (ix3 0 ⟨k.val, by omega⟩ f) := by
  have e : (V m c main_v9 : S512x1024.Idx → EReal) = extractStridedSlice S512x1024 ![0, 0]
      (shapeCast S1024x1024 (Wa m c) shapeCasts_S1x1024x1024_S1024x1024) slices_S1024x1024_S512x1024_0_0 := by
    entry_read
    rfl
  rw [e]
  refine (extractStridedSlice_apply _ _ _ _ (ix2 ⟨k.val, by omega⟩ f) (by intro a; fin_cases a <;> simp)).trans ?_
  exact Cert.Rows.drop_apply _ _ _ f

theorem wo_apply (c : Dev nD) (k : Fin 512) (f : Fin 1024) : (V m c main_v12 : S512x1024.Idx → EReal) (ix2 k f) = Wa m c (ix3 0 ⟨512 + k.val, by omega⟩ f) := by
  have e : (V m c main_v12 : S512x1024.Idx → EReal) = extractStridedSlice S512x1024 ![512, 0]
      (shapeCast S1024x1024 (Wa m c) shapeCasts_S1x1024x1024_S1024x1024) slices_S1024x1024_S512x1024_512_0 := by
    entry_read
    rfl
  rw [e]
  refine (extractStridedSlice_apply _ _ _ _ (ix2 ⟨512 + k.val, by omega⟩ f) (by intro a; fin_cases a <;> simp)).trans ?_
  exact Cert.Rows.drop_apply _ _ _ f

theorem n_apply (c : Dev nD) (k : Fin 1024) : (V m c main_v15 : S1x1024.Idx → EReal) (ix2 0 k) = Na m c (ix2 0 k) := by
  have e : (V m c main_v15 : S1x1024.Idx → EReal) = broadcastInDim S1x1024 ![1] bcast_S1024_S1x1024_1
      (shapeCast S1024 (extractStridedSlice S1x1024 ![0, 0] (Na m c) slices_S2x1024_S1x1024_0_0) shapeCasts_S1x1024_S1024) := by
    entry_read
    rfl
  rw [e]
  exact Cert.Rows.gain_apply 0 _ _ _ _ k

theorem a_apply (c : Dev nD) (k : Fin 1024) (f : Fin 2816) : (V m c main_v18 : S1024x2816.Idx → EReal) (ix2 k f) = Aa m c (ix3 0 k f) := by
  have e : (V m c main_v18 : S1024x2816.Idx → EReal) = shapeCast S1024x2816
      (extractStridedSlice S1x1024x2816 ![0, 0, 0] (Aa m c) slices_S2x1024x2816_S1x1024x2816_0_0_0) shapeCasts_S1x1024x2816_S1024x2816 := by
    entry_read
    rfl
  rw [e]
  exact Cert.Rows.layer_apply 0 _ _ _ k f

theorem b_apply (c : Dev nD) (k : Fin 1024) (f : Fin 2816) : (V m c main_v21 : S1024x2816.Idx → EReal) (ix2 k f) = Ba m c (ix3 0 k f) := by
  have e : (V m c main_v21 : S1024x2816.Idx → EReal) = shapeCast S1024x2816
      (extractStridedSlice S1x1024x2816 ![0, 0, 0] (Ba m c) slices_S2x1024x2816_S1x1024x2816_0_0_0) shapeCasts_S1x1024x2816_S1024x2816 := by
    entry_read
    rfl
  rw [e]
  exact Cert.Rows.layer_apply 0 _ _ _ k f

theorem d_apply (c : Dev nD) (k : Fin 2816) (f : Fin 1024) : (V m c main_v24 : S2816x1024.Idx → EReal) (ix2 k f) = Da m c (ix3 0 k f) := by
  have e : (V m c main_v24 : S2816x1024.Idx → EReal) = shapeCast S2816x1024
      (extractStridedSlice S1x2816x1024 ![0, 0, 0] (Da m c) slices_S2x2816x1024_S1x2816x1024_0_0_0) shapeCasts_S1x2816x1024_S2816x1024 := by
    entry_read
    rfl
  rw [e]
  exact Cert.Rows.layer_apply 0 _ _ _ k f

/-! ## The windows' blocks -/

theorem idx : ∀ t : Fin grid0.N, (cfg0.win 0).index t = ![(grid0.coords t 0).val, 0] ∧ (cfg0.win 1).index t = ![(grid0.coords t 0).val, 0]
    ∧ (cfg0.win 2).index t = ![(grid0.coords t 0).val, 0] ∧ (cfg0.win 3).index t = ![(grid0.coords t 0).val, 0]
    ∧ (cfg0.win 4).index t = ![(grid0.coords t 0).val, 0] ∧ (cfg0.win 12).index t = ![(grid0.coords t 0).val, 0]
    ∧ (cfg0.win 5).index t = ![0, 0] ∧ (cfg0.win 6).index t = ![0, 0] ∧ (cfg0.win 7).index t = ![0, 0] ∧ (cfg0.win 8).index t = ![0, 0]
    ∧ (cfg0.win 9).index t = ![0, 0] ∧ (cfg0.win 10).index t = ![0, 0] ∧ (cfg0.win 11).index t = ![0, 0] := by decide +kernel

/-- A grid point's block of rows. -/
def bt (t : Fin cfg0.N) : Fin 64 := grid0.coords t 0

theorem p_blk (c : Dev nD) (t : Fin cfg0.N) (r : Fin 512) (k : Fin 512) :
    (iblk m c 0 t : S512x512.Idx → EReal) (ix2 r k) = (V m c main_v0 : S32768x512.Idx → EReal) (ix2 ⟨512 * (bt t).val + r.val, by omega⟩ k) := by
  have e := (idx t).1
  have hb : (bt t).val = (grid0.coords t 0).val := rfl
  blk_ext [iblk, e]

theorem q_blk (c : Dev nD) (t : Fin cfg0.N) (r : Fin 512) (k : Fin 512) :
    (iblk m c 1 t : S512x512.Idx → EReal) (ix2 r k) = (V m c main_v1 : S32768x512.Idx → EReal) (ix2 ⟨512 * (bt t).val + r.val, by omega⟩ k) := by
  have e := (idx t).2.1
  have hb : (bt t).val = (grid0.coords t 0).val := rfl
  blk_ext [iblk, e]

theorem r_blk (c : Dev nD) (t : Fin cfg0.N) (r : Fin 512) (k : Fin 512) :
    (iblk m c 2 t : S512x512.Idx → EReal) (ix2 r k) = (V m c main_v2 : S32768x512.Idx → EReal) (ix2 ⟨512 * (bt t).val + r.val, by omega⟩ k) := by
  have e := (idx t).2.2.1
  have hb : (bt t).val = (grid0.coords t 0).val := rfl
  blk_ext [iblk, e]

theorem o_blk (c : Dev nD) (t : Fin cfg0.N) (r : Fin 512) (k : Fin 512) :
    (iblk m c 3 t : S512x512.Idx → EReal) (ix2 r k) = (V m c main_v3 : S32768x512.Idx → EReal) (ix2 ⟨512 * (bt t).val + r.val, by omega⟩ k) := by
  have e := (idx t).2.2.2.1
  have hb : (bt t).val = (grid0.coords t 0).val := rfl
  blk_ext [iblk, e]

theorem x_blk (c : Dev nD) (t : Fin cfg0.N) (r : Fin 512) (k : Fin 1024) :
    (iblk m c 4 t : S512x1024.Idx → EReal) (ix2 r k) = (V m c main_v4 : S32768x1024.Idx → EReal) (ix2 ⟨512 * (bt t).val + r.val, by omega⟩ k) := by
  have e := (idx t).2.2.2.2.1
  have hb : (bt t).val = (grid0.coords t 0).val := rfl
  blk_ext [iblk, e]

theorem h_blk (c : Dev nD) (t : Fin cfg0.N) (k : Fin 128) :
    (iblk m c 5 t : S1x128.Idx → EReal) (ix2 0 k) = (V m c main_v6 : S1x128.Idx → EReal) (ix2 0 k) := by
  have e := (idx t).2.2.2.2.2.2.1
  blk_ext [iblk, e]

theorem wy_blk (c : Dev nD) (t : Fin cfg0.N) (k : Fin 512) (f : Fin 1024) :
    (iblk m c 6 t : S512x1024.Idx → EReal) (ix2 k f) = (V m c main_v9 : S512x1024.Idx → EReal) (ix2 k f) := by
  have e := (idx t).2.2.2.2.2.2.2.1
  blk_ext [iblk, e]

theorem wo_blk (c : Dev nD) (t : Fin cfg0.N) (k : Fin 512) (f : Fin 1024) :
    (iblk m c 7 t : S512x1024.Idx → EReal) (ix2 k f) = (V m c main_v12 : S512x1024.Idx → EReal) (ix2 k f) := by
  have e := (idx t).2.2.2.2.2.2.2.2.1
  blk_ext [iblk, e]

theorem n_blk (c : Dev nD) (t : Fin cfg0.N) (k : Fin 1024) :
    (iblk m c 8 t : S1x1024.Idx → EReal) (ix2 0 k) = (V m c main_v15 : S1x1024.Idx → EReal) (ix2 0 k) := by
  have e := (idx t).2.2.2.2.2.2.2.2.2.1
  blk_ext [iblk, e]

theorem a_blk (c : Dev nD) (t : Fin cfg0.N) (k : Fin 1024) (f : Fin 2816) :
    (iblk m c 9 t : S1024x2816.Idx → EReal) (ix2 k f) = (V m c main_v18 : S1024x2816.Idx → EReal) (ix2 k f) := by
  have e := (idx t).2.2.2.2.2.2.2.2.2.2.1
  blk_ext [iblk, e]

theorem b_blk (c : Dev nD) (t : Fin cfg0.N) (k : Fin 1024) (f : Fin 2816) :
    (iblk m c 10 t : S1024x2816.Idx → EReal) (ix2 k f) = (V m c main_v21 : S1024x2816.Idx → EReal) (ix2 k f) := by
  have e := (idx t).2.2.2.2.2.2.2.2.2.2.2.1
  blk_ext [iblk, e]

theorem d_blk (c : Dev nD) (t : Fin cfg0.N) (k : Fin 2816) (f : Fin 1024) :
    (iblk m c 11 t : S2816x1024.Idx → EReal) (ix2 k f) = (V m c main_v24 : S2816x1024.Idx → EReal) (ix2 k f) := by
  have e := (idx t).2.2.2.2.2.2.2.2.2.2.2.2
  blk_ext [iblk, e]

/-! ## The result -/

theorem blk_apply (c : Dev nD) (t : Fin cfg0.N) (r : Fin 512) (k : Fin 1024) :
    out0_12 (F := Ideal) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (ix2 r k)
      = G (Pa m c) (Qa m c) (Ra m c) (Oa m c) (Xa m c) (Ha m c) (Wa m c) (Na m c) (Aa m c) (Ba m c) (Da m c) ⟨(512 * (bt t).val + r.val) / 4096, by omega⟩
          ⟨(512 * (bt t).val + r.val) % 4096, by omega⟩ k := by
  refine (out_apply (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) r k).trans ?_
  unfold G
  congr 1
  · congr 1
    · funext j; exact (x_blk m c t r j).trans (x_apply m c _ j)
    · funext j; exact congrArg₂ (· + ·) ((p_blk m c t r j).trans (p_apply m c _ j)) ((q_blk m c t r j).trans (q_apply m c _ j))
    · funext j; exact (h_blk m c t j).trans (h_apply m c j)
    · funext j; exact (r_blk m c t r j).trans (r_apply m c _ j)
    · funext j; exact (o_blk m c t r j).trans (o_apply m c _ j)
    · funext k f; exact (wy_blk m c t k f).trans (wy_apply m c k f)
    · funext k f; exact (wo_blk m c t k f).trans (wo_apply m c k f)
  · funext j; exact (n_blk m c t j).trans (n_apply m c j)
  · funext k f; exact (a_blk m c t k f).trans (a_apply m c k f)
  · funext k f; exact (b_blk m c t k f).trans (b_apply m c k f)
  · funext k f; exact (d_blk m c t k f).trans (d_apply m c k f)

theorem final (c : Dev nD) : (dats m 0 c).arrAt 12 cfg0.N
    = (GA (Pa m c) (Qa m c) (Ra m c) (Oa m c) (Xa m c) (Ha m c) (Wa m c) (Na m c) (Aa m c) (Ba m c) (Da m c) : S32768x1024.Idx → EReal) := by
  refine (dats m 0 c).arrAt_eq_of_covers 12 _ (by decide +kernel) fun t hf y => ?_
  have e := (idx t).2.2.2.2.2.1
  have y0 : (y 0).val < 512 := (y 0).isLt
  have y1 : (y 1).val < 1024 := (y 1).isLt
  have hy : y = (ix2 ⟨(y 0).val, y0⟩ ⟨(y 1).val, y1⟩ : S512x1024.Idx) := by
    funext a; fin_cases a <;> rfl
  refine Eq.trans (b := out0_12 (F := Ideal) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) y) ?_ ?_
  · blk_simp
    rw [after0_12]
  refine (congrArg _ hy).trans ?_
  refine (blk_apply m c t ⟨(y 0).val, y0⟩ ⟨(y 1).val, y1⟩).trans ?_
  have p0 : (((((cfg0.win 12).blk t).view.emb y) 0 : Fin _) : ℕ) = 512 * (bt t).val + (y 0).val := by
    have hb : (bt t).val = (grid0.coords t 0).val := rfl
    blk_simp [e]; omega
  have p1 : (((((cfg0.win 12).blk t).view.emb y) 1 : Fin _) : ℕ) = (y 1).val := by
    blk_simp [e]
  generalize ((cfg0.win 12).blk t).view.emb y = z at p0 p1
  show _ = GA (Pa m c) (Qa m c) (Ra m c) (Oa m c) (Xa m c) (Ha m c) (Wa m c) (Na m c) (Aa m c) (Ba m c) (Da m c) z
  unfold GA
  congr 1
  · apply Fin.ext; show (512 * (bt t).val + (y 0).val) / 4096 = _ / 4096; rw [p0]
  · apply Fin.ext; show (512 * (bt t).val + (y 0).val) % 4096 = _ % 4096; rw [p0]
  · exact Fin.ext p1.symm

end

end Cert.Kernel3Ideal.Mix

end
-- ==== Proof.Mix.Ref.lean ====
/- The reference of the first layer's output and feed-forward call at an index, and that its result is the kernel's. -/
module

public import proofs.«01_k».proof.Proof.Mix.Value
public import proofs.«01_k».proof.Proof.Rows.Host

@[expose] public section

set_option maxRecDepth 16384

noncomputable section

namespace Cert.MixRef

open Idealize.ShloMosaic Idealize.ShloMosaic.TcCoe Idealize.SL.Sem
open Cert.Reference3Ideal Cert.Reference3Ideal.Gen Cert.Reference3Ideal.Read
open Cert.Rows (dot act rms ffn heads gated mixed)
open Cert.Kernel3Ideal.Mix (G GA)

variable (x0 x1 : FVec Ideal S8x4096x512 .f32) (x2 : FVec Ideal S8x4096x512 .bf16) (x3 : FVec Ideal S8x4096x512 .f32) (x4 : FVec Ideal S8x4096x1024 .f32)
  (x5 : FVec Ideal S1x128 .f32) (x6 : FVec Ideal S1x1024x1024 .f32) (x7 : FVec Ideal S2x1024 .f32) (x8 x9 : FVec Ideal S2x1024x2816 .f32)
  (x10 : FVec Ideal S2x2816x1024 .f32)

/-- The sum of both directions, by heads. -/
theorem v1_apply (b : Fin 8) (n : Fin 4096) (h : Fin 4) (d : Fin 128) :
    @Eq EReal (val_main_v1 (F := Ideal) x0 x1 (ix4 b n h d)) (x0 (ix3 b n ⟨128 * h.val + d.val, by omega⟩) + x1 (ix3 b n ⟨128 * h.val + d.val, by omega⟩)) := by
  rw [val_main_v1_apply]
  have e : idx_main_v1 (ix4 b n h d) = ix3 b n ⟨128 * h.val + d.val, by omega⟩ := by
    funext a; apply Fin.ext
    fin_cases a
    · show (((b.val * 4096 + n.val) * 4 + h.val) * 128 + d.val) / 2097152 = b.val; omega
    · show (((b.val * 4096 + n.val) * 4 + h.val) * 128 + d.val) / 512 % 4096 = n.val; omega
    · show (((b.val * 4096 + n.val) * 4 + h.val) * 128 + d.val) % 512 = 128 * h.val + d.val; omega
  rw [e]
  rfl

/-- The sum of a head's squares. -/
theorem v4_apply (b : Fin 8) (n : Fin 4096) (h : Fin 4) :
    @Eq EReal (val_main_v4 (F := Ideal) x0 x1 (ix3 b n h))
      (∑ j : Fin 128, val_main_v1 (F := Ideal) x0 x1 (ix4 b n h j) * val_main_v1 (F := Ideal) x0 x1 (ix4 b n h j)) := by
  rw [val_main_v4_apply]
  have z : (val_main_cst (F := Ideal) (Shape.Idx.first h_S_) : EReal) = 0 := Ideal.ofBits_zero_f32
  refine (congrArg (· + _) z).trans ((zero_add _).trans (Finset.sum_congr rfl fun j _ => ?_))
  have e : idx_main_v4 (ix3 b n h) j = ix4 b n h j := by funext a; fin_cases a <;> rfl
  rw [e]
  rfl

/-- The normed heads. -/
theorem v15_apply (b : Fin 8) (n : Fin 4096) (h : Fin 4) (d : Fin 128) :
    @Eq EReal (val_main_v15 (F := Ideal) x0 x1 x5 (ix4 b n h d))
      (rms (Ideal.ofBits .f32 0x43000000#32) (fun j : Fin 128 => val_main_v1 (F := Ideal) x0 x1 (ix4 b n h j)) (fun j => x5 (ix2 0 j)) d) := by
  rw [val_main_v15_apply, val_main_v12_apply, val_main_v11_apply, val_main_v10_apply, val_main_v9_apply, val_main_v7_apply, val_main_v5_apply,
    val_main_v14_apply, val_main_v13_apply, val_main_v2_apply]
  have e : idx_main_v5 (idx_main_v11 (ix4 b n h d)) = ix3 b n h := by funext a; fin_cases a <;> rfl
  have e' : idx_main_v2 (idx_main_v13 (idx_main_v14 (ix4 b n h d))) = ix2 0 d := by
    funext a; fin_cases a
    · rfl
    · exact Fin.ext (Nat.mod_eq_of_lt d.isLt)
  rw [e, e', v4_apply]
  rfl

theorem v16_apply (b : Fin 8) (n : Fin 4096) (k : Fin 512) :
    @Eq EReal (val_main_v16 (F := Ideal) x0 x1 x5 (ix3 b n k)) (heads (fun k => x0 (ix3 b n k) + x1 (ix3 b n k)) (fun j => x5 (ix2 0 j)) k) := by
  rw [val_main_v16_apply]
  have e : idx_main_v16 (ix3 b n k) = ix4 b n ⟨k.val / 128, by omega⟩ ⟨k.val % 128, by omega⟩ := by
    funext a; apply Fin.ext
    fin_cases a
    · show ((b.val * 4096 + n.val) * 512 + k.val) / 2097152 = b.val; omega
    · show ((b.val * 4096 + n.val) * 512 + k.val) / 512 % 4096 = n.val; omega
    · show ((b.val * 4096 + n.val) * 512 + k.val) / 128 % 4 = k.val / 128; omega
    · show ((b.val * 4096 + n.val) * 512 + k.val) % 128 = k.val % 128; omega
  rw [e]
  refine (v15_apply x0 x1 x5 b n _ _).trans ?_
  unfold heads
  exact congrArg (fun y => rms _ y _ _) (funext fun j => v1_apply x0 x1 b n _ j)

/-- The gated row. -/
theorem v19_apply (b : Fin 8) (n : Fin 4096) (k : Fin 512) :
    @Eq EReal (val_main_v19 (F := Ideal) x0 x1 x2 x5 (ix3 b n k))
      (gated (fun k => x0 (ix3 b n k) + x1 (ix3 b n k)) (fun j => x5 (ix2 0 j)) (fun k => x2 (ix3 b n k)) k) := by
  refine congrArg₂ (· * ·) (v16_apply x0 x1 x5 b n k) ?_
  show x2 (ix3 b n k) * Ideal.div (Ideal.ofBits .f32 0x3F800000#32) (Ideal.ofBits .f32 0x3F800000#32 + Ideal.exp (-x2 (ix3 b n k))) = _
  rw [Cert.Rows.one_word]
  rfl

/-- Both mixers' rows side by side. -/
theorem v20_left (b : Fin 8) (n : Fin 4096) (k : Fin 512) :
    val_main_v20 (F := Ideal) x0 x1 x2 x3 x5 (ix3 b n ⟨k.val, by omega⟩) = val_main_v19 (F := Ideal) x0 x1 x2 x5 (ix3 b n k) :=
  concatenate_pair_apply_left (t := S8x4096x1024) 2 (val_main_v19 (F := Ideal) x0 x1 x2 x5) x3 concatenates_S8x4096x512_S8x4096x512_S8x4096x1024_d2
    (ix3 b n ⟨k.val, by omega⟩) rfl (ix3 b n k) (by intro a; fin_cases a <;> rfl)

theorem v20_right (b : Fin 8) (n : Fin 4096) (k : Fin 512) :
    val_main_v20 (F := Ideal) x0 x1 x2 x3 x5 (ix3 b n ⟨512 + k.val, by omega⟩) = x3 (ix3 b n k) :=
  concatenate_pair_apply_right (t := S8x4096x1024) 2 (val_main_v19 (F := Ideal) x0 x1 x2 x5) x3 concatenates_S8x4096x512_S8x4096x512_S8x4096x1024_d2
    (ix3 b n ⟨512 + k.val, by omega⟩) rfl rfl (ix3 b n k) (by intro a ha; fin_cases a <;> first | rfl | exact absurd rfl ha) (Nat.add_comm k.val 512)

/-- The row the feed-forward part starts from. -/
theorem v23_apply (b : Fin 8) (n : Fin 4096) (j : Fin 1024) :
    @Eq EReal (val_main_v23 (F := Ideal) x0 x1 x2 x3 x4 x5 x6 (ix3 b n j))
      (mixed (fun j => x4 (ix3 b n j)) (fun k => x0 (ix3 b n k) + x1 (ix3 b n k)) (fun d => x5 (ix2 0 d)) (fun k => x2 (ix3 b n k)) (fun k => x3 (ix3 b n k))
        (fun k f => x6 (ix3 0 ⟨k.val, by omega⟩ f)) (fun k f => x6 (ix3 0 ⟨512 + k.val, by omega⟩ f)) j) := by
  refine congrArg (x4 (ix3 b n j) + ·) ((Cert.Rows.hdot_apply _ (val_main_v20 (F := Ideal) x0 x1 x2 x3 x5) (val_main_v21 (F := Ideal) x6) b n j).trans ?_)
  refine (Cert.Rows.dot_halves _ _ j).trans (congrArg₂ (· + ·) (congrArg₂ (dot · · j) ?_ ?_) (congrArg₂ (dot · · j) ?_ ?_))
  · exact funext fun k => (v20_left x0 x1 x2 x3 x5 b n k).trans (v19_apply x0 x1 x2 x5 b n k)
  · exact funext fun k => funext fun f => Cert.Rows.drop_apply _ _ _ f
  · exact funext fun k => v20_right x0 x1 x2 x3 x5 b n k
  · exact funext fun k => funext fun f => Cert.Rows.drop_apply _ _ _ f

/-- The normed row. -/
theorem v44_apply (b : Fin 8) (n : Fin 4096) (k : Fin 1024) :
    @Eq EReal (val_main_v44 (F := Ideal) x0 x1 x2 x3 x4 x5 x6 x7 (ix3 b n k))
      (rms (Ideal.ofBits .f32 0x44800000#32) (fun j => val_main_v23 (F := Ideal) x0 x1 x2 x3 x4 x5 x6 (ix3 b n j)) (fun j => x7 (ix2 0 j)) k) := by
  unfold val_main_v44 val_main_v43 val_main_v42 val_main_v41 val_main_v40 val_main_v39 val_main_v38 val_main_v37 val_main_v36 val_main_v35 val_main_v34
    val_main_v33 val_main_v32 val_main_cst_2 val_main_cst_3 val_main_cst_4
  refine (Cert.Rows.hrms_apply (val_main_v23 (F := Ideal) x0 x1 x2 x3 x4 x5 x6) (val_main_v25 (F := Ideal) x7) 0x44800000#32 _ (by decide) _ _ _ _ _ _ b n k).trans ?_
  exact congrArg (rms _ _ · k) (funext fun j => Cert.Rows.hgain_apply 0 x7 _ _ j)

/-- The gated activation. -/
theorem v48_apply (b : Fin 8) (n : Fin 4096) (f : Fin 2816) :
    @Eq EReal (val_main_v48 (F := Ideal) x0 x1 x2 x3 x4 x5 x6 x7 x8 x9 (ix3 b n f))
      (act (fun k => val_main_v44 (F := Ideal) x0 x1 x2 x3 x4 x5 x6 x7 (ix3 b n k)) (fun k f => val_main_v27 (F := Ideal) x8 (ix2 k f))
        (fun k f => val_main_v29 (F := Ideal) x9 (ix2 k f)) f) := by
  unfold val_main_v48 val_main_v47 val_main_v46 val_main_call1_v5 val_main_call1_v4 val_main_call1_v3 val_main_call1_v2 val_main_call1_v1
    val_main_call1_v0 val_main_call1_cst val_main_call1_cst_0 val_main_v45
  exact Cert.Rows.hact_apply _ (val_main_v44 (F := Ideal) x0 x1 x2 x3 x4 x5 x6 x7) (val_main_v27 (F := Ideal) x8) (val_main_v29 (F := Ideal) x9) _ b n f

/-- The reference's result at a token. -/
theorem v50_apply (b : Fin 8) (n : Fin 4096) (c : Fin 1024) :
    @Eq EReal (val_main_v50 (F := Ideal) x0 x1 x2 x3 x4 x5 x6 x7 x8 x9 x10 (ix3 b n c)) (G x0 x1 x2 x3 x4 x5 x6 x7 x8 x9 x10 b n c) := by
  unfold val_main_v50 val_main_v49
  refine (Cert.Rows.hffn_apply _ (val_main_v23 (F := Ideal) x0 x1 x2 x3 x4 x5 x6) (val_main_v44 (F := Ideal) x0 x1 x2 x3 x4 x5 x6 x7)
    (val_main_v48 (F := Ideal) x0 x1 x2 x3 x4 x5 x6 x7 x8 x9) (val_main_v27 (F := Ideal) x8) (val_main_v29 (F := Ideal) x9) (val_main_v31 (F := Ideal) x10)
    (fun j => x7 (ix2 0 j)) b n (v44_apply x0 x1 x2 x3 x4 x5 x6 x7 b n) (v48_apply x0 x1 x2 x3 x4 x5 x6 x7 x8 x9 b n) c).trans ?_
  unfold G
  congr 1
  · exact funext fun j => v23_apply x0 x1 x2 x3 x4 x5 x6 b n j
  · exact funext fun k => funext fun f => Cert.Rows.layer_apply 0 x8 _ _ k f
  · exact funext fun k => funext fun f => Cert.Rows.layer_apply 0 x9 _ _ k f
  · exact funext fun k => funext fun f => Cert.Rows.layer_apply 0 x10 _ _ k f

theorem agree : (GA x0 x1 x2 x3 x4 x5 x6 x7 x8 x9 x10 : S32768x1024.Idx → EReal) = val_main_v51 (F := Ideal) x0 x1 x2 x3 x4 x5 x6 x7 x8 x9 x10 := by
  funext i
  have hi : i = (ix2 ⟨(i 0).val, (i 0).isLt⟩ ⟨(i 1).val, (i 1).isLt⟩ : S32768x1024.Idx) := by
    funext a; fin_cases a <;> rfl
  rw [hi]
  unfold val_main_v51
  exact ((Cert.Rows.rows_apply (val_main_v50 (F := Ideal) x0 x1 x2 x3 x4 x5 x6 x7 x8 x9 x10) _ _ _ _ _).trans
    (v50_apply x0 x1 x2 x3 x4 x5 x6 x7 x8 x9 x10 _ _ _)).symm

theorem alg : Cert.algebraic_Kernel3Ideal_Reference3Ideal := by
  intro m g m' g' _ hagree
  refine ⟨fun c => (GA (Cert.Kernel3Ideal.Mix.Pa m c) (Cert.Kernel3Ideal.Mix.Qa m c) (Cert.Kernel3Ideal.Mix.Ra m c) (Cert.Kernel3Ideal.Mix.Oa m c)
    (Cert.Kernel3Ideal.Mix.Xa m c) (Cert.Kernel3Ideal.Mix.Ha m c) (Cert.Kernel3Ideal.Mix.Wa m c) (Cert.Kernel3Ideal.Mix.Na m c)
    (Cert.Kernel3Ideal.Mix.Aa m c) (Cert.Kernel3Ideal.Mix.Ba m c) (Cert.Kernel3Ideal.Mix.Da m c) : S32768x1024.Idx → EReal), ?_, ?_⟩
  · exact (θ_run _ _ _).mono (fun r h c => ⟨(h c).1.trans (Cert.Kernel3Ideal.Mix.final m c), (h c).2⟩) (Cert.Kernel3Ideal.Value.run_blocks m g)
  · refine (θ_run _ _ _).mono (fun r h c => ⟨?_, (h c).2⟩) (Cert.Reference3Ideal.Value.run (F := Ideal) m' g')
    refine (h c).1.trans ?_
    obtain ⟨h0, h1, h2, h3, h4, h5, h6, h7, h8, h9, h10⟩ := hagree c
    rw [val_main_v51_eq, h0, h1, h2, h3, h4, h5, h6, h7, h8, h9, h10]
    exact (agree _ _ _ _ _ _ _ _ _ _ _).symm

end Cert.MixRef

end
-- ==== Proof.Sample.Value.lean ====
/- The attention layer's output and feed-forward call at the sample batch's sizes: its result as the function of `Out.Value`. -/
module

public import proofs.«01_k».proof.Defs
public import proofs.«01_k».proof.Proof.Out.Value
public import proofs.«01_k».proof.Proof.Gen.Kernel4Ideal.Value
public import proofs.«01_k».proof.Proof.Gen.Reference4Ideal.Run
public import proofs.«01_k».proof.Proof.Gen.Reference4Ideal.Read

@[expose] public section

set_option maxRecDepth 16384

noncomputable section

namespace Cert.Kernel4Ideal.Sample

open Cert.Kernel4Ideal Cert.Kernel4Ideal.Gen
open Idealize.ShloMosaic Idealize.ShloMosaic.TcCoe Idealize.SL.Sem
open Cert.Rows (dot act rms ffn)
open Cert.Kernel2Ideal.Out (G)

/-- The whole array. -/
def GA (O : S8x2048x1024.Idx → EReal) (X : S8x2048x1024.Idx → EReal) (W : S1x1024x1024.Idx → EReal) (N : S2x1024.Idx → EReal)
    (A B : S2x1024x2816.Idx → EReal) (D : S2x2816x1024.Idx → EReal) : S16384x1024.Idx → EReal := fun i =>
  G O X W N A B D ⟨(i 0).val / 2048, by have : (i 0).val < 16384 := (i 0).isLt; omega⟩ ⟨(i 0).val % 2048, by omega⟩ (i 1)

section
variable (m : (ℓ : Loc nD τ sig) → Buf (Elt Ideal) ℓ) (ρ : Dev nD → PrngReg)

abbrev Oa (c : Dev nD) : S8x2048x1024.Idx → EReal := m ((c.tc : Thread nD τ).loc main_arg0)
abbrev Xa (c : Dev nD) : S8x2048x1024.Idx → EReal := m ((c.tc : Thread nD τ).loc main_arg1)
abbrev Wa (c : Dev nD) : S1x1024x1024.Idx → EReal := m ((c.tc : Thread nD τ).loc main_arg2)
abbrev Na (c : Dev nD) : S2x1024.Idx → EReal := m ((c.tc : Thread nD τ).loc main_arg3)
abbrev Aa (c : Dev nD) : S2x1024x2816.Idx → EReal := m ((c.tc : Thread nD τ).loc main_arg4)
abbrev Ba (c : Dev nD) : S2x1024x2816.Idx → EReal := m ((c.tc : Thread nD τ).loc main_arg5)
abbrev Da (c : Dev nD) : S2x2816x1024.Idx → EReal := m ((c.tc : Thread nD τ).loc main_arg6)

/-! ## The operands as the kernel finds them -/

theorem o_apply (c : Dev nD) (i : Fin 16384) (k : Fin 1024) :
    (V m c main_v0 : S16384x1024.Idx → EReal) (ix2 i k) = Oa m c (ix3 ⟨i.val / 2048, by omega⟩ ⟨i.val % 2048, by omega⟩ k) := by
  have e : (V m c main_v0 : S16384x1024.Idx → EReal) = shapeCast S16384x1024 (Oa m c) shapeCasts_S8x2048x1024_S16384x1024 := by
    entry_read
    rfl
  rw [e]
  exact Cert.Rows.rows_apply _ _ i k _ _

theorem x_apply (c : Dev nD) (i : Fin 16384) (k : Fin 1024) :
    (V m c main_v1 : S16384x1024.Idx → EReal) (ix2 i k) = Xa m c (ix3 ⟨i.val / 2048, by omega⟩ ⟨i.val % 2048, by omega⟩ k) := by
  have e : (V m c main_v1 : S16384x1024.Idx → EReal) = shapeCast S16384x1024 (Xa m c) shapeCasts_S8x2048x1024_S16384x1024 := by
    entry_read
    rfl
  rw [e]
  exact Cert.Rows.rows_apply _ _ i k _ _

theorem w_apply (c : Dev nD) (k f : Fin 1024) : (V m c main_v3 : S1024x1024.Idx → EReal) (ix2 k f) = Wa m c (ix3 0 k f) := by
  have e : (V m c main_v3 : S1024x1024.Idx → EReal) = shapeCast S1024x1024 (Wa m c) shapeCasts_S1x1024x1024_S1024x1024 := by
    entry_read
    rfl
  rw [e]
  exact Cert.Rows.drop_apply _ _ k f

theorem n_apply (c : Dev nD) (k : Fin 1024) : (V m c main_v6 : S1x1024.Idx → EReal) (ix2 0 k) = Na m c (ix2 1 k) := by
  have e : (V m c main_v6 : S1x1024.Idx → EReal) = broadcastInDim S1x1024 ![1] bcast_S1024_S1x1024_1
      (shapeCast S1024 (extractStridedSlice S1x1024 ![1, 0] (Na m c) slices_S2x1024_S1x1024_1_0) shapeCasts_S1x1024_S1024) := by
    entry_read
    rfl
  rw [e]
  exact Cert.Rows.gain_apply 1 _ _ _ _ k

theorem a_apply (c : Dev nD) (k : Fin 1024) (f : Fin 2816) : (V m c main_v9 : S1024x2816.Idx → EReal) (ix2 k f) = Aa m c (ix3 1 k f) := by
  have e : (V m c main_v9 : S1024x2816.Idx → EReal) = shapeCast S1024x2816
      (extractStridedSlice S1x1024x2816 ![1, 0, 0] (Aa m c) slices_S2x1024x2816_S1x1024x2816_1_0_0) shapeCasts_S1x1024x2816_S1024x2816 := by
    entry_read
    rfl
  rw [e]
  exact Cert.Rows.layer_apply 1 _ _ _ k f

theorem b_apply (c : Dev nD) (k : Fin 1024) (f : Fin 2816) : (V m c main_v12 : S1024x2816.Idx → EReal) (ix2 k f) = Ba m c (ix3 1 k f) := by
  have e : (V m c main_v12 : S1024x2816.Idx → EReal) = shapeCast S1024x2816
      (extractStridedSlice S1x1024x2816 ![1, 0, 0] (Ba m c) slices_S2x1024x2816_S1x1024x2816_1_0_0) shapeCasts_S1x1024x2816_S1024x2816 := by
    entry_read
    rfl
  rw [e]
  exact Cert.Rows.layer_apply 1 _ _ _ k f

theorem d_apply (c : Dev nD) (k : Fin 2816) (f : Fin 1024) : (V m c main_v15 : S2816x1024.Idx → EReal) (ix2 k f) = Da m c (ix3 1 k f) := by
  have e : (V m c main_v15 : S2816x1024.Idx → EReal) = shapeCast S2816x1024
      (extractStridedSlice S1x2816x1024 ![1, 0, 0] (Da m c) slices_S2x2816x1024_S1x2816x1024_1_0_0) shapeCasts_S1x2816x1024_S2816x1024 := by
    entry_read
    rfl
  rw [e]
  exact Cert.Rows.layer_apply 1 _ _ _ k f

/-- A block's rows are the same function of its operands as in the other batch. -/
theorem out_eq : @out0_7 Ideal _ = @Cert.Kernel2Ideal.Gen.out0_7 Ideal _ := rfl

/-! ## The windows' blocks -/

theorem idx : ∀ t : Fin grid0.N, (cfg0.win 0).index t = ![(grid0.coords t 0).val, 0] ∧ (cfg0.win 1).index t = ![(grid0.coords t 0).val, 0]
    ∧ (cfg0.win 2).index t = ![0, 0] ∧ (cfg0.win 3).index t = ![0, 0] ∧ (cfg0.win 4).index t = ![0, 0] ∧ (cfg0.win 5).index t = ![0, 0]
    ∧ (cfg0.win 6).index t = ![0, 0] ∧ (cfg0.win 7).index t = ![(grid0.coords t 0).val, 0] := by decide +kernel

/-- A grid point's block of rows. -/
def bt (t : Fin cfg0.N) : Fin 32 := grid0.coords t 0

theorem o_blk (c : Dev nD) (t : Fin cfg0.N) (r : Fin 512) (k : Fin 1024) :
    (iblk m c 0 t : S512x1024.Idx → EReal) (ix2 r k) = (V m c main_v0 : S16384x1024.Idx → EReal) (ix2 ⟨512 * (bt t).val + r.val, by omega⟩ k) := by
  have e := (idx t).1
  have hb : (bt t).val = (grid0.coords t 0).val := rfl
  blk_ext [iblk, e]

theorem x_blk (c : Dev nD) (t : Fin cfg0.N) (r : Fin 512) (k : Fin 1024) :
    (iblk m c 1 t : S512x1024.Idx → EReal) (ix2 r k) = (V m c main_v1 : S16384x1024.Idx → EReal) (ix2 ⟨512 * (bt t).val + r.val, by omega⟩ k) := by
  have e := (idx t).2.1
  have hb : (bt t).val = (grid0.coords t 0).val := rfl
  blk_ext [iblk, e]

theorem w_blk (c : Dev nD) (t : Fin cfg0.N) (k f : Fin 1024) :
    (iblk m c 2 t : S1024x1024.Idx → EReal) (ix2 k f) = (V m c main_v3 : S1024x1024.Idx → EReal) (ix2 k f) := by
  have e := (idx t).2.2.1
  blk_ext [iblk, e]

theorem n_blk (c : Dev nD) (t : Fin cfg0.N) (k : Fin 1024) :
    (iblk m c 3 t : S1x1024.Idx → EReal) (ix2 0 k) = (V m c main_v6 : S1x1024.Idx → EReal) (ix2 0 k) := by
  have e := (idx t).2.2.2.1
  blk_ext [iblk, e]

theorem a_blk (c : Dev nD) (t : Fin cfg0.N) (k : Fin 1024) (f : Fin 2816) :
    (iblk m c 4 t : S1024x2816.Idx → EReal) (ix2 k f) = (V m c main_v9 : S1024x2816.Idx → EReal) (ix2 k f) := by
  have e := (idx t).2.2.2.2.1
  blk_ext [iblk, e]

theorem b_blk (c : Dev nD) (t : Fin cfg0.N) (k : Fin 1024) (f : Fin 2816) :
    (iblk m c 5 t : S1024x2816.Idx → EReal) (ix2 k f) = (V m c main_v12 : S1024x2816.Idx → EReal) (ix2 k f) := by
  have e := (idx t).2.2.2.2.2.1
  blk_ext [iblk, e]

theorem d_blk (c : Dev nD) (t : Fin cfg0.N) (k : Fin 2816) (f : Fin 1024) :
    (iblk m c 6 t : S2816x1024.Idx → EReal) (ix2 k f) = (V m c main_v15 : S2816x1024.Idx → EReal) (ix2 k f) := by
  have e := (idx t).2.2.2.2.2.2.1
  blk_ext [iblk, e]

/-! ## The result -/

theorem blk_apply (c : Dev nD) (t : Fin cfg0.N) (r : Fin 512) (k : Fin 1024) :
    out0_7 (F := Ideal) (iblk m c 0 t) (iblk m c 1 t) (iblk m c 2 t) (iblk m c 3 t) (iblk m c 4 t) (iblk m c 5 t) (iblk m c 6 t) (ix2 r k)
      = G (Oa m c) (Xa m c) (Wa m c) (Na m c) (Aa m c) (Ba m c) (Da m c) ⟨(512 * (bt t).val + r.val) / 2048, by omega⟩
          ⟨(512 * (bt t).val + r.val) % 2048, by omega⟩ k := by
  rw [out_eq]
  refine (Cert.Kernel2Ideal.Out.out_apply (iblk m c 0 t) (iblk m c 1 t) (iblk m c 2 t) (iblk m c 3 t) (iblk m c 4 t) (iblk m c 5 t) (iblk m c 6 t) r k).trans ?_
  unfold G
  congr 1
  · funext j
    refine congrArg₂ (· + ·) ((x_blk m c t r j).trans (x_apply m c _ j)) (congrArg₂ (dot · · j) ?_ ?_)
    · funext k; exact (o_blk m c t r k).trans (o_apply m c _ k)
    · funext k f; exact (w_blk m c t k f).trans (w_apply m c k f)
  · funext j; exact (n_blk m c t j).trans (n_apply m c j)
  · funext k f; exact (a_blk m c t k f).trans (a_apply m c k f)
  · funext k f; exact (b_blk m c t k f).trans (b_apply m c k f)
  · funext k f; exact (d_blk m c t k f).trans (d_apply m c k f)

theorem final (c : Dev nD) : (dats m 0 c).arrAt 7 cfg0.N
    = (GA (Oa m c) (Xa m c) (Wa m c) (Na m c) (Aa m c) (Ba m c) (Da m c) : S16384x1024.Idx → EReal) := by
  refine (dats m 0 c).arrAt_eq_of_covers 7 _ (by decide +kernel) fun t hf y => ?_
  have e := (idx t).2.2.2.2.2.2.2
  have y0 : (y 0).val < 512 := (y 0).isLt
  have y1 : (y 1).val < 1024 := (y 1).isLt
  have hy : y = (ix2 ⟨(y 0).val, y0⟩ ⟨(y 1).val, y1⟩ : S512x1024.Idx) := by
    funext a; fin_cases a <;> rfl
  refine Eq.trans (b := out0_7 (F := Ideal) (iblk m c 0 t) (iblk m c 1 t) (iblk m c 2 t) (iblk m c 3 t) (iblk m c 4 t) (iblk m c 5 t) (iblk m c 6 t) y) ?_ ?_
  · blk_simp
    rw [after0_7]
  refine (congrArg _ hy).trans ?_
  refine (blk_apply m c t ⟨(y 0).val, y0⟩ ⟨(y 1).val, y1⟩).trans ?_
  have p0 : (((((cfg0.win 7).blk t).view.emb y) 0 : Fin _) : ℕ) = 512 * (bt t).val + (y 0).val := by
    have hb : (bt t).val = (grid0.coords t 0).val := rfl
    blk_simp [e]; omega
  have p1 : (((((cfg0.win 7).blk t).view.emb y) 1 : Fin _) : ℕ) = (y 1).val := by
    blk_simp [e]
  generalize ((cfg0.win 7).blk t).view.emb y = z at p0 p1
  show _ = GA (Oa m c) (Xa m c) (Wa m c) (Na m c) (Aa m c) (Ba m c) (Da m c) z
  unfold GA
  congr 1
  · apply Fin.ext; show (512 * (bt t).val + (y 0).val) / 2048 = _ / 2048; rw [p0]
  · apply Fin.ext; show (512 * (bt t).val + (y 0).val) % 2048 = _ % 2048; rw [p0]
  · exact Fin.ext p1.symm

end

end Cert.Kernel4Ideal.Sample

end
-- ==== Proof.Sample.Ref.lean ====
/- The same at the sample batch's sizes: the reference at an index, and that its result is the kernel's. -/
module

public import proofs.«01_k».proof.Proof.Sample.Value
public import proofs.«01_k».proof.Proof.Rows.Host

@[expose] public section

set_option maxRecDepth 16384

noncomputable section

namespace Cert.SampleRef

open Idealize.ShloMosaic Idealize.ShloMosaic.TcCoe Idealize.SL.Sem
open Cert.Reference4Ideal Cert.Reference4Ideal.Gen Cert.Reference4Ideal.Read
open Cert.Rows (dot act rms ffn)
open Cert.Kernel2Ideal.Out (G)
open Cert.Kernel4Ideal.Sample (GA)

variable (x0 : FVec Ideal S8x2048x1024 .bf16) (x1 : FVec Ideal S8x2048x1024 .f32) (x2 : FVec Ideal S1x1024x1024 .f32)
  (x3 : FVec Ideal S2x1024 .f32) (x4 x5 : FVec Ideal S2x1024x2816 .f32) (x6 : FVec Ideal S2x2816x1024 .f32)

/-- The row the feed-forward part starts from. -/
theorem v3_apply (b : Fin 8) (n : Fin 2048) (j : Fin 1024) :
    @Eq EReal (val_main_v3 (F := Ideal) x0 x1 x2 (ix3 b n j)) (x1 (ix3 b n j) + dot (fun k => x0 (ix3 b n k)) (fun k f => x2 (ix3 0 k f)) j) := by
  refine congrArg (x1 (ix3 b n j) + ·) ((Cert.Rows.hdot_apply _ (val_main_v0 (F := Ideal) x0) (val_main_v1 (F := Ideal) x2) b n j).trans ?_)
  exact congrArg (dot (fun k => x0 (ix3 b n k)) · j) (funext fun k => funext fun f => Cert.Rows.drop_apply _ _ k f)

/-- The normed row. -/
theorem v24_apply (b : Fin 8) (n : Fin 2048) (k : Fin 1024) :
    @Eq EReal (val_main_v24 (F := Ideal) x0 x1 x2 x3 (ix3 b n k))
      (rms (Ideal.ofBits .f32 0x44800000#32) (fun j => val_main_v3 (F := Ideal) x0 x1 x2 (ix3 b n j)) (fun j => x3 (ix2 1 j)) k) := by
  unfold val_main_v24 val_main_v23 val_main_v22 val_main_v21 val_main_v20 val_main_v19 val_main_v18 val_main_v17 val_main_v16 val_main_v15 val_main_v14
    val_main_v13 val_main_v12 val_main_cst val_main_cst_0 val_main_cst_1
  refine (Cert.Rows.hrms_apply (val_main_v3 (F := Ideal) x0 x1 x2) (val_main_v5 (F := Ideal) x3) 0x44800000#32 _ (by decide) _ _ _ _ _ _ b n k).trans ?_
  exact congrArg (rms _ _ · k) (funext fun j => Cert.Rows.hgain_apply 1 x3 _ _ j)

/-- The gated activation. -/
theorem v28_apply (b : Fin 8) (n : Fin 2048) (f : Fin 2816) :
    @Eq EReal (val_main_v28 (F := Ideal) x0 x1 x2 x3 x4 x5 (ix3 b n f))
      (act (fun k => val_main_v24 (F := Ideal) x0 x1 x2 x3 (ix3 b n k)) (fun k f => val_main_v7 (F := Ideal) x4 (ix2 k f))
        (fun k f => val_main_v9 (F := Ideal) x5 (ix2 k f)) f) := by
  unfold val_main_v28 val_main_v27 val_main_v26 val_main_call0_v5 val_main_call0_v4 val_main_call0_v3 val_main_call0_v2 val_main_call0_v1
    val_main_call0_v0 val_main_call0_cst val_main_call0_cst_0 val_main_v25
  exact Cert.Rows.hact_apply _ (val_main_v24 (F := Ideal) x0 x1 x2 x3) (val_main_v7 (F := Ideal) x4) (val_main_v9 (F := Ideal) x5) _ b n f

/-- The reference's result at a token. -/
theorem v30_apply (b : Fin 8) (n : Fin 2048) (c : Fin 1024) :
    @Eq EReal (val_main_v30 (F := Ideal) x0 x1 x2 x3 x4 x5 x6 (ix3 b n c)) (G x0 x1 x2 x3 x4 x5 x6 b n c) := by
  unfold val_main_v30 val_main_v29
  refine (Cert.Rows.hffn_apply _ (val_main_v3 (F := Ideal) x0 x1 x2) (val_main_v24 (F := Ideal) x0 x1 x2 x3) (val_main_v28 (F := Ideal) x0 x1 x2 x3 x4 x5)
    (val_main_v7 (F := Ideal) x4) (val_main_v9 (F := Ideal) x5) (val_main_v11 (F := Ideal) x6) (fun j => x3 (ix2 1 j)) b n
    (v24_apply x0 x1 x2 x3 b n) (v28_apply x0 x1 x2 x3 x4 x5 b n) c).trans ?_
  unfold G
  congr 1
  · exact funext fun j => v3_apply x0 x1 x2 b n j
  · exact funext fun k => funext fun f => Cert.Rows.layer_apply 1 x4 _ _ k f
  · exact funext fun k => funext fun f => Cert.Rows.layer_apply 1 x5 _ _ k f
  · exact funext fun k => funext fun f => Cert.Rows.layer_apply 1 x6 _ _ k f

theorem agree : (GA x0 x1 x2 x3 x4 x5 x6 : S16384x1024.Idx → EReal) = val_main_v31 (F := Ideal) x0 x1 x2 x3 x4 x5 x6 := by
  funext i
  have hi : i = (ix2 ⟨(i 0).val, (i 0).isLt⟩ ⟨(i 1).val, (i 1).isLt⟩ : S16384x1024.Idx) := by
    funext a; fin_cases a <;> rfl
  rw [hi]
  unfold val_main_v31
  exact ((Cert.Rows.rows_apply (val_main_v30 (F := Ideal) x0 x1 x2 x3 x4 x5 x6) _ _ _ _ _).trans (v30_apply x0 x1 x2 x3 x4 x5 x6 _ _ _)).symm

theorem alg : Cert.algebraic_Kernel4Ideal_Reference4Ideal := by
  intro m g m' g' _ hagree
  refine ⟨fun c => (GA (Cert.Kernel4Ideal.Sample.Oa m c) (Cert.Kernel4Ideal.Sample.Xa m c) (Cert.Kernel4Ideal.Sample.Wa m c) (Cert.Kernel4Ideal.Sample.Na m c)
    (Cert.Kernel4Ideal.Sample.Aa m c) (Cert.Kernel4Ideal.Sample.Ba m c) (Cert.Kernel4Ideal.Sample.Da m c) : S16384x1024.Idx → EReal), ?_, ?_⟩
  · exact (θ_run _ _ _).mono (fun r h c => ⟨(h c).1.trans (Cert.Kernel4Ideal.Sample.final m c), (h c).2⟩) (Cert.Kernel4Ideal.Value.run_blocks m g)
  · refine (θ_run _ _ _).mono (fun r h c => ⟨?_, (h c).2⟩) (Cert.Reference4Ideal.Value.run (F := Ideal) m' g')
    refine (h c).1.trans ?_
    obtain ⟨h0, h1, h2, h3, h4, h5, h6⟩ := hagree c
    rw [val_main_v31_eq, h0, h1, h2, h3, h4, h5, h6]
    exact (agree _ _ _ _ _ _ _).symm

end Cert.SampleRef

end
-- ==== Proof.In.Gate.lean ====
/- The decay gate's function of one real number or infinity: the logarithm of the logistic function over sixteen, the kernel's
   spelling and the reference's. -/
module

public import proofs.«01_k».proof.Proof.Rows.Host

@[expose] public section

set_option maxRecDepth 8192

noncomputable section

namespace Cert.In

open Idealize.ShloMosaic
open Cert.Rows (rms eps)

/-- The logarithm of the logistic function, over sixteen. -/
def lsg (z : EReal) : EReal :=
  (min z 0 - Ideal.log (1 + Ideal.exp (0 - max z (-z)))) * Ideal.ofBits .f32 0x3D800000#32

theorem sixteenth : Ideal.ofBits .f32 0x3D800000#32 = ((1 / 16 : ℝ) : EReal) := by
  simp [Ideal.ofBits, Ideal.ieee]
  rw [← EReal.coe_mul]
  norm_num

theorem sixteen : Ideal.ofBits .f32 0x41800000#32 = ((16 : ℝ) : EReal) := by
  simp [Ideal.ofBits, Ideal.ieee]
  rw [← EReal.coe_mul]
  norm_num

theorem div_sixteen (y : EReal) : Ideal.div y (Ideal.ofBits .f32 0x41800000#32) = y * Ideal.ofBits .f32 0x3D800000#32 := by
  rw [sixteen, sixteenth, Ideal.div, if_neg (by norm_num), ← EReal.coe_inv]
  norm_num

/-- An extended real that is a real number. -/
def IsReal (x : EReal) : Prop := ∃ r : ℝ, x = (r : EReal)

theorem isReal_of_ne {x : EReal} (ht : x ≠ ⊤) (hb : x ≠ ⊥) : IsReal x := ⟨x.toReal, (EReal.coe_toReal ht hb).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {n : ℕ} {f : Fin n → EReal} (h : ∀ i, IsReal (f i)) : IsReal (∑ i, f i) := by
  choose r hr using h
  exact ⟨∑ i, r i, by rw [Finset.sum_congr rfl fun i _ => hr i]; exact (map_sum (⟨⟨((↑) : ℝ → EReal), EReal.coe_zero⟩, EReal.coe_add⟩ : ℝ →+ EReal) r _).symm⟩

theorem IsReal.sub_self {x : EReal} (hx : IsReal x) : x - x = 0 := by
  obtain ⟨a, rfl⟩ := hx
  rw [← EReal.coe_sub, _root_.sub_self, EReal.coe_zero]

/-- The logarithm of one and an exponential of a number that is not `⊤`. -/
theorem log_one_add_exp (r : ℝ) : IsReal (Ideal.log (1 + Ideal.exp (r : EReal))) := by
  have e : (1 : EReal) + Ideal.exp (r : EReal) = ((1 + Real.exp r : ℝ) : EReal) := by
    rw [EReal.coe_add]; rfl
  refine ⟨Real.log (1 + Real.exp r), ?_⟩
  rw [e]
  show (if 1 + Real.exp r ≤ 0 then ⊥ else (Real.log (1 + Real.exp r) : EReal)) = _
  rw [if_neg (by have := Real.exp_pos r; linarith)]

/-- The reference's spelling: the negated logarithm of `exp (-z) + exp 0`, by the larger of the two exponents. -/
theorem lsg_eq (z : EReal) :
    Ideal.div (-(max (-z) 0 + Ideal.log1p (Ideal.exp (-(max (-z - 0) (-(-z - 0))))))) (Ideal.ofBits .f32 0x41800000#32) = lsg z := by
  rw [div_sixteen]
  unfold lsg Ideal.log1p
  refine congrArg (· * _) ?_
  rw [sub_zero, neg_neg, zero_sub, max_comm (-z) z]
  induction z with
  | bot =>
    have e : Ideal.log (1 + Ideal.exp (-(max (⊥ : EReal) (-⊥)))) = 0 := by
      rw [show -(max (⊥ : EReal) (-⊥)) = ⊥ by simp, show Ideal.exp ⊥ = 0 from rfl, add_zero, ← EReal.coe_one]
      show (if (1 : ℝ) ≤ 0 then ⊥ else (Real.log 1 : EReal)) = 0
      rw [if_neg (by norm_num), Real.log_one, EReal.coe_zero]
    rw [e]
    simp
  | top =>
    have e : Ideal.log (1 + Ideal.exp (-(max (⊤ : EReal) (-⊤)))) = 0 := by
      rw [show -(max (⊤ : EReal) (-⊤)) = ⊥ by simp, show Ideal.exp ⊥ = 0 from rfl, add_zero, ← EReal.coe_one]
      show (if (1 : ℝ) ≤ 0 then ⊥ else (Real.log 1 : EReal)) = 0
      rw [if_neg (by norm_num), Real.log_one, EReal.coe_zero]
    rw [e]
    simp
  | coe r =>
    have e : -(max (r : EReal) (-(r : EReal))) = ((-(max r (-r)) : ℝ) : EReal) := by
      rw [← EReal.coe_neg, ← EReal.coe_strictMono.monotone.map_max, ← EReal.coe_neg]
    rw [e]
    obtain ⟨l, hl⟩ := log_one_add_exp (-(max r (-r)))
    rw [hl, ← EReal.coe_zero, ← EReal.coe_neg, ← EReal.coe_strictMono.monotone.map_max, ← EReal.coe_strictMono.monotone.map_min, ← EReal.coe_add,
      ← EReal.coe_neg, ← EReal.coe_sub, EReal.coe_eq_coe_iff]
    rcases le_total r 0 with h | h
    · rw [max_eq_left (by linarith), min_eq_left h]; ring
    · rw [max_eq_right (by linarith), min_eq_right h]; ring

theorem thousand : Ideal.ofBits .f32 0x44800000#32 = ((1024 : ℝ) : EReal) := by
  simp [Ideal.ofBits, Ideal.ieee]
  rw [← EReal.coe_mul]
  norm_num

theorem eps_pos : ∃ r : ℝ, 0 < r ∧ eps = (r : EReal) := by
  refine ⟨_, ?_, by simp [eps, Ideal.ofBits, Ideal.ieee]; rw [← EReal.coe_mul]⟩
  norm_num

/-- The normed row is finite where the gain is: an infinite entry of the row makes the root of the mean square infinite and
    every quotient by it zero. -/
theorem rms_real (x g : Fin 1024 → EReal) (k : Fin 1024) (hg : IsReal (g k)) : IsReal (rms (Ideal.ofBits .f32 0x44800000#32) x g k) := by
  unfold rms
  refine IsReal.mul ?_ hg
  have sq : ∀ j, 0 ≤ x j * x j := fun j => by
    rcases le_total 0 (x j) with h | h
    · exact mul_nonneg h h
    · have : 0 ≤ -x j := by rw [EReal.neg_nonneg]; exact h
      have := mul_nonneg this this
      rwa [EReal.neg_mul, mul_comm, EReal.neg_mul, neg_neg] at this
  have h0 : 0 ≤ ∑ j, x j * x j := Finset.sum_nonneg fun j _ => sq j
  obtain ⟨ε, hε, eε⟩ := eps_pos
  rw [eε, thousand]
  generalize hS : ∑ j, x j * x j = S at h0
  by_cases ht : S = ⊤
  · subst ht
    have : Ideal.rsqrt (Ideal.div ⊤ ((1024 : ℝ) : EReal) + (ε : EReal)) = 0 := by
      rw [Ideal.div, if_neg (by norm_num), ← EReal.coe_inv, EReal.top_mul_coe_of_pos (by norm_num), EReal.top_add_coe]
      rfl
    rw [this, mul_zero]
    exact ⟨0, rfl⟩
  · obtain ⟨s, rfl⟩ := isReal_of_ne ht (fun e => by rw [e] at h0; simp at h0)
    have hs : 0 ≤ s := EReal.coe_nonneg.1 h0
    have hx : IsReal (x k) := by
      have le : x k * x k ≤ (s : EReal) := hS ▸ Finset.single_le_sum (f := fun j => x j * x j) (fun j _ => sq j) (Finset.mem_univ k)
      refine isReal_of_ne (fun e => ?_) (fun e => ?_)
      · rw [e] at le; simp at le
      · rw [e] at le; simp at le
    refine IsReal.mul hx ?_
    rw [Ideal.div, if_neg (by norm_num), ← EReal.coe_inv, ← EReal.coe_mul, ← EReal.coe_add]
    have hp : 0 < s * (1024 : ℝ)⁻¹ + ε := by positivity
    exact ⟨(Real.sqrt (s * (1024 : ℝ)⁻¹ + ε))⁻¹, by
      show (if s * (1024 : ℝ)⁻¹ + ε < 0 then ⊥ else if s * (1024 : ℝ)⁻¹ + ε = 0 then ⊤ else _) = _
      rw [if_neg (by linarith), if_neg (by linarith)]⟩

end Cert.In

end
-- ==== Proof.In.Tile.lean ====
/- The first layer's input projection: one block of rows read at an index, over the extended reals. -/
module

public import proofs.«01_k».proof.Proof.Gen.Kernel5Ideal.Value
public import proofs.«01_k».proof.Proof.In.Gate
public import Idealize.ShloMosaic.Lib.Pipeline.ValueKit

@[expose] public section

set_option maxRecDepth 16384

noncomputable section

namespace Cert.Kernel5Ideal.In

open Cert.Kernel5Ideal Cert.Kernel5Ideal.Gen
open Idealize.ShloMosaic Idealize.ShloMosaic.TcCoe Idealize.SL.Sem
open Cert.Rows (dot rms)
open Cert.In (lsg IsReal)

/-- The normed row against one column of a matrix. -/
def col {p : ℕ} (x g : Fin 1024 → EReal) (w : Fin 1024 → Fin p → EReal) (c : Fin p) : EReal :=
  dot (rms (Ideal.ofBits .f32 0x44800000#32) x g) w c

theorem zero2 : (![0, 0] : Fin 2 → ℕ) = fun _ => 0 := by funext a; fin_cases a <;> rfl

theorem norm_apply (x : Vec Ideal S1024x1024 .f32) (g : Vec Ideal S1x1024 .f32) (r c : Fin 1024) :
    k0_pay2 (F := Ideal) x g (ix2 r c) = rms (Ideal.ofBits .f32 0x44800000#32) (fun j => x (ix2 r j)) (fun j => g (ix2 0 j)) c := by
  unfold k0_pay2
  simp only [shapeCast_self]
  exact Cert.Rows.rms_apply x g 0x44800000#32 _ _ _ _ _ _ r c

theorem main_apply (x : Vec Ideal S1024x1024 .f32) (g : Vec Ideal S1x1024 .f32) (w : Vec Ideal S1024x1536 .bf16) (r : Fin 1024) (c : Fin 1536) :
    k0_pay4 (F := Ideal) x g w (ix2 r c) = col (fun j => x (ix2 r j)) (fun j => g (ix2 0 j)) (fun k f => w (ix2 k f)) c := by
  unfold k0_pay4
  simp only [shapeCast_self]
  refine (Cert.Rows.matmul_apply _ w r c).trans (congrArg (dot · _ c) (funext fun k => norm_apply x g r k))

theorem low_apply (x : Vec Ideal S1024x1024 .f32) (g : Vec Ideal S1x1024 .f32) (w : Vec Ideal S1024x96 .bf16) (r : Fin 1024) (c : Fin 96) :
    k0_pay3 (F := Ideal) x g w (ix2 r c) = col (fun j => x (ix2 r j)) (fun j => g (ix2 0 j)) (fun k f => w (ix2 k f)) c := by
  unfold k0_pay3
  simp only [shapeCast_self]
  refine (Cert.Rows.matmul_apply _ w r c).trans (congrArg (dot · _ c) (funext fun k => norm_apply x g r k))

/-! ## The gates -/

/-- The middle third of the columns. -/
theorem mask : ∀ k : Fin 96, andi (cmpi .sge (iota .tc S1x96 32 [1] iota_S1x96_d1_w32) (broadcast S1x96 32#32))
    (cmpi .slt (iota .tc S1x96 32 [1] iota_S1x96_d1_w32) (broadcast S1x96 64#32)) (ix2 0 k) = if 32 ≤ k.val ∧ k.val < 64 then 1#1 else 0#1 := by
  decide +kernel

/-- Three copies of the low-rank rows — the middle one what rounding took off — against the factors twice and what rounding took off
    them: over the extended reals nothing is taken off a real number, and the first copy's product stays. -/
theorem gate_apply (v : FVec Ideal S1024x96 .f32) (u : Vec Ideal S32x512 .f32) (b : Vec Ideal S1x512 .f32) (r : Fin 1024) (j : Fin 512)
    (L : Fin 32 → EReal) (h0 : ∀ k : Fin 32, v (ix2 r ⟨k.val, by omega⟩) = L k) (h1 : ∀ k : Fin 32, v (ix2 r ⟨32 + k.val, by omega⟩) = L k)
    (hL : ∀ k, IsReal (L k)) (hU : ∀ k : Fin 32, IsReal (u (ix2 k j))) :
    k0_pay9 (F := Ideal) v u b (ix2 r j) = lsg ((∑ k : Fin 32, L k * u (ix2 k j)) + b (ix2 0 j)) := by
  unfold k0_pay9
  rw [shapeCast_self u, shapeCast_self b, shapeCast_self (andi _ _)]
  set sel : FVec Ideal S1024x96 .bf16 := select _ _ _ with hsel
  set cat : FVec Ideal S96x512 .bf16 := concatenate S96x512 0 _ _ with hcat
  have hs : ∀ k : Fin 96, sel (ix2 r k) = if 32 ≤ k.val ∧ k.val < 64 then v (ix2 r k) - v (ix2 r k) else v (ix2 r k) := fun k => by
    have e : ∀ x : IVec S1x96 1, broadcastTo S1024x96 x broadcasts_S1x96_S1024x96 (ix2 r k) = x (ix2 0 k) := fun x =>
      broadcastTo_apply x _ _ _ (by intro a; fin_cases a <;> rfl)
    have := (e _).trans (mask k)
    rw [hsel]
    show (if _ = 1#1 then _ else _) = _
    rw [this]
    split <;> rfl
  have hz : (matmul dot_S1024x96_S96x512_S1024x512_1_0_0_1_n_n none sel cat (constant S1024x512 .f32 0x00000000#32) : FVec Ideal S1024x512 .f32) (ix2 r j)
      = ∑ k : Fin 32, L k * u (ix2 k j) := by
    refine (Cert.Rows.matmul_apply sel cat r j).trans ?_
    unfold dot
    have c0 : ∀ k : Fin 32, cat (ix2 ⟨k.val, by omega⟩ j) = u (ix2 k j) := fun k =>
      concatenate_apply_piece (t := S96x512) 0 _ _ (ix2 ⟨k.val, by omega⟩ j) 0 (by show 0 < 3; decide) S32x512 _ rfl rfl 0 rfl (ix2 k j)
        (by intro a ha; fin_cases a <;> first | rfl | exact absurd rfl ha) (Nat.zero_add _)
    have c1 : ∀ k : Fin 32, cat (ix2 ⟨32 + k.val, by omega⟩ j) = u (ix2 k j) := fun k =>
      concatenate_apply_piece (t := S96x512) 0 _ _ (ix2 ⟨32 + k.val, by omega⟩ j) 1 (by show 1 < 3; decide) S32x512 _ rfl rfl 32 rfl (ix2 k j)
        (by intro a ha; fin_cases a <;> first | rfl | exact absurd rfl ha) rfl
    have c2 : ∀ k : Fin 32, cat (ix2 ⟨64 + k.val, by omega⟩ j)
        = (truncf .bf16 (subf u (extf .f32 (truncf .bf16 u bitsLt_bf16_f32 : FVec Ideal S32x512 .bf16) bitsLt_bf16_f32)) bitsLt_bf16_f32 : FVec Ideal S32x512 .bf16) (ix2 k j) := fun k =>
      concatenate_apply_piece (t := S96x512) 0 _ _ (ix2 ⟨64 + k.val, by omega⟩ j) 2 (by show 2 < 3; decide) S32x512 _ rfl rfl 64 rfl (ix2 k j)
        (by intro a ha; fin_cases a <;> first | rfl | exact absurd rfl ha) rfl
    refine (Fin.sum_univ_add (a := 32) (b := 64) fun k : Fin 96 => sel (ix2 r k) * cat (ix2 k j)).trans ?_
    refine (congrArg₂ (· + ·) (Finset.sum_congr rfl fun k _ => ?_) ((Fin.sum_univ_add (a := 32) (b := 32) _).trans
      ((congrArg₂ (· + ·) (Finset.sum_eq_zero fun k _ => ?_) (Finset.sum_eq_zero fun k _ => ?_)).trans (add_zero 0)))).trans (add_zero _)
    · refine congrArg₂ (· * ·) ((hs ⟨k.val, by omega⟩).trans ?_) (c0 k)
      rw [if_neg (by show ¬(32 ≤ k.val ∧ k.val < 64); omega)]
      exact h0 k
    · refine (congrArg₂ (· * ·) ((hs ⟨32 + k.val, by omega⟩).trans ?_) (c1 k)).trans (zero_mul (u (ix2 k j) : EReal))
      rw [if_pos (by show 32 ≤ 32 + k.val ∧ 32 + k.val < 64; omega), h1 k]
      exact (hL k).sub_self
    · have e : (Fin.natAdd 32 (Fin.natAdd 32 k) : Fin 96) = ⟨64 + k.val, by omega⟩ := Fin.ext (by show 32 + (32 + k.val) = 64 + k.val; omega)
      show sel (ix2 r (Fin.natAdd 32 (Fin.natAdd 32 k))) * cat (ix2 (Fin.natAdd 32 (Fin.natAdd 32 k)) j) = 0
      rw [e, (c2 k).trans (hU k).sub_self]
      exact mul_zero (sel (ix2 r ⟨64 + k.val, _⟩) : EReal)
  have hb : broadcastTo S1024x512 b broadcasts_S1x512_S1024x512 (ix2 r j) = b (ix2 0 j) :=
    broadcastTo_apply b _ _ _ (by intro a; fin_cases a <;> rfl)
  rw [← hz, ← hb]
  generalize (matmul dot_S1024x96_S96x512_S1024x512_1_0_0_1_n_n none sel cat (constant S1024x512 .f32 0x00000000#32) : FVec Ideal S1024x512 .f32) = Z
  generalize (broadcastTo S1024x512 b broadcasts_S1x512_S1024x512) = B
  show (min (Z (ix2 r j) + B (ix2 r j)) (Ideal.ofBits .f32 0x00000000#32) - Ideal.log (Ideal.ofBits .f32 0x3F800000#32
    + Ideal.exp (Ideal.ofBits .f32 0x00000000#32 - max (Z (ix2 r j) + B (ix2 r j)) (-(Z (ix2 r j) + B (ix2 r j)))))) * _ = _
  rw [Ideal.ofBits_zero_f32, Cert.Rows.one_word]
  rfl

/-! ## The windows -/

/-- Columns from `o` on. -/
theorem cut_apply {K N : ℕ} (o : ℕ) (y : FVec Ideal ⟨2, ![1024, K]⟩ .f32) (h : (⟨2, ![1024, K]⟩ : Shape).Slices ![0, o] ⟨2, ![1024, N]⟩)
    (r : Fin 1024) (c : Fin N) (hc : o + c.val < K) :
    extractStridedSlice ⟨2, ![1024, N]⟩ ![0, o] y h (ix2 r c) = y (ix2 r ⟨o + c.val, hc⟩) :=
  extractStridedSlice_apply _ _ h _ _ (by intro a; fin_cases a <;> simp)

section
variable (x0 : Vec Ideal S1024x1024 .f32) (x1 : Vec Ideal S1x1024 .f32) (x2 : Vec Ideal S1024x1536 .bf16) (x3 : Vec Ideal S1024x96 .bf16)
  (x4 : Vec Ideal S1024x512 .bf16) (x5 : Vec Ideal S32x512 .f32) (x6 : Vec Ideal S1x512 .f32)

/-- The block's row `r` normed, against the columns of one of the three matrices. -/
abbrev bcol {p : ℕ} (w : Fin 1024 → Fin p → EReal) (r : Fin 1024) (c : Fin p) : EReal := col (fun j => x0 (ix2 r j)) (fun j => x1 (ix2 0 j)) w c

theorem out_q (r : Fin 1024) (c : Fin 256) : (out0_7 (F := Ideal) x0 x1 x2 x3 x4 x5 x6 (ix2 r c) : EReal)
    = bcol x0 x1 (fun k f => x2 (ix2 k f)) r ⟨0 + c.val, by omega⟩ * Ideal.ofBits .f32 0x3E000000#32 := by
  unfold out0_7
  rw [View.canon_cons_unit_zero zero2, View.ld_unit_zero zero2, View.ld_unit_zero zero2, View.ld_unit_zero zero2]
  refine congrArg (· * Ideal.ofBits .f32 0x3E000000#32) ?_
  exact (cut_apply 0 (k0_pay4 (F := Ideal) x0 x1 x2) (by decide) r c (by omega)).trans (main_apply x0 x1 x2 r _)

theorem out_k (r : Fin 1024) (c : Fin 256) : (out0_8 (F := Ideal) x0 x1 x2 x3 x4 x5 x6 (ix2 r c) : EReal)
    = bcol x0 x1 (fun k f => x2 (ix2 k f)) r ⟨256 + c.val, by omega⟩ := by
  unfold out0_8
  rw [View.canon_cons_unit_zero zero2, View.ld_unit_zero zero2, View.ld_unit_zero zero2, View.ld_unit_zero zero2]
  exact (cut_apply 256 (k0_pay4 (F := Ideal) x0 x1 x2) (by decide) r c (by omega)).trans (main_apply x0 x1 x2 r _)

theorem out_v (r : Fin 1024) (c : Fin 512) : (out0_9 (F := Ideal) x0 x1 x2 x3 x4 x5 x6 (ix2 r c) : EReal)
    = bcol x0 x1 (fun k f => x2 (ix2 k f)) r ⟨512 + c.val, by omega⟩ := by
  unfold out0_9
  rw [View.canon_cons_unit_zero zero2, View.ld_unit_zero zero2, View.ld_unit_zero zero2, View.ld_unit_zero zero2]
  exact (cut_apply 512 (k0_pay4 (F := Ideal) x0 x1 x2) (by decide) r c (by omega)).trans (main_apply x0 x1 x2 r _)

theorem out_r (r : Fin 1024) (c : Fin 512) : (out0_10 (F := Ideal) x0 x1 x2 x3 x4 x5 x6 (ix2 r c) : EReal)
    = bcol x0 x1 (fun k f => x2 (ix2 k f)) r ⟨1024 + c.val, by omega⟩ := by
  unfold out0_10
  rw [View.canon_cons_unit_zero zero2, View.ld_unit_zero zero2, View.ld_unit_zero zero2, View.ld_unit_zero zero2]
  exact (cut_apply 1024 (k0_pay4 (F := Ideal) x0 x1 x2) (by decide) r c (by omega)).trans (main_apply x0 x1 x2 r _)

theorem out_f (r : Fin 1024) (c : Fin 512) : (out0_13 (F := Ideal) x0 x1 x2 x3 x4 x5 x6 (ix2 r c) : EReal)
    = bcol x0 x1 (fun k f => x4 (ix2 k f)) r c := by
  unfold out0_13
  rw [View.canon_cons_unit_zero zero2, View.ld_unit_zero zero2, View.ld_unit_zero zero2, View.ld_unit_zero zero2]
  unfold k0_pay1
  simp only [shapeCast_self]
  exact (Cert.Rows.matmul_apply _ x4 r c).trans (congrArg (dot · _ c) (funext fun k => norm_apply x0 x1 r k))

/-- The gates of a row, from its 32 low-rank columns `L`. -/
theorem pre_apply (r : Fin 1024) (j : Fin 512) (L : Fin 32 → EReal)
    (h0 : ∀ k : Fin 32, bcol x0 x1 (fun k f => x3 (ix2 k f)) r ⟨k.val, by omega⟩ = L k)
    (h1 : ∀ k : Fin 32, bcol x0 x1 (fun k f => x3 (ix2 k f)) r ⟨32 + k.val, by omega⟩ = L k)
    (hL : ∀ k, IsReal (L k)) (hU : ∀ k : Fin 32, IsReal (x5 (ix2 k j))) :
    k0_pay9 (F := Ideal) (k0_pay12 x0 x1 x2 x3 x4 x5 x6) (View.ld x5 r0_6) (View.ld x6 r0_7) (ix2 r j)
      = lsg ((∑ k : Fin 32, L k * x5 (ix2 k j)) + x6 (ix2 0 j)) := by
  unfold k0_pay12
  rw [View.ld_unit_zero zero2, View.ld_unit_zero zero2, View.ld_unit_zero zero2, View.ld_unit_zero zero2, View.ld_unit_zero zero2]
  exact gate_apply _ x5 x6 r j L (fun k => (low_apply x0 x1 x3 r _).trans (h0 k)) (fun k => (low_apply x0 x1 x3 r _).trans (h1 k)) hL hU

theorem out_gf (r : Fin 1024) (c : Fin 256) : (out0_11 (F := Ideal) x0 x1 x2 x3 x4 x5 x6 (ix2 r c) : EReal)
    = k0_pay9 (F := Ideal) (k0_pay12 x0 x1 x2 x3 x4 x5 x6) (View.ld x5 r0_6) (View.ld x6 r0_7) (ix2 r ⟨0 + c.val, by omega⟩) := by
  unfold out0_11
  rw [View.canon_cons_unit_zero zero2]
  exact cut_apply 0 (k0_pay9 (F := Ideal) (k0_pay12 x0 x1 x2 x3 x4 x5 x6) (View.ld x5 r0_6) (View.ld x6 r0_7)) (by decide) r c (by omega)

theorem out_gb (r : Fin 1024) (c : Fin 256) : (out0_12 (F := Ideal) x0 x1 x2 x3 x4 x5 x6 (ix2 r c) : EReal)
    = k0_pay9 (F := Ideal) (k0_pay12 x0 x1 x2 x3 x4 x5 x6) (View.ld x5 r0_6) (View.ld x6 r0_7) (ix2 r ⟨256 + c.val, by omega⟩) := by
  unfold out0_12
  rw [View.canon_cons_unit_zero zero2]
  exact cut_apply 256 (k0_pay9 (F := Ideal) (k0_pay12 x0 x1 x2 x3 x4 x5 x6) (View.ld x5 r0_6) (View.ld x6 r0_7)) (by decide) r c (by omega)

end

end Cert.Kernel5Ideal.In

end
-- ==== Proof.In.Value.lean ====
/- The seven results of the first layer's input projection, each as one function of its arguments. -/
module

public import proofs.«01_k».proof.Defs
public import proofs.«01_k».proof.Proof.In.Tile
public import proofs.«01_k».proof.Proof.Gen.Reference5Ideal.Run

@[expose] public section

set_option maxRecDepth 16384

noncomputable section

namespace Cert.Kernel5Ideal.In

open Cert.Kernel5Ideal Cert.Kernel5Ideal.Gen
open Idealize.ShloMosaic Idealize.ShloMosaic.TcCoe Idealize.SL.Sem
open Cert.Rows (dot rms)
open Cert.In (lsg IsReal)

/-- Token `(b, n)`'s row normed, against one column of the input matrix. -/
def wcol (X : S8x4096x1024.Idx → EReal) (N : S1x1024.Idx → EReal) (W : S1x1024x2080.Idx → EReal) (b : Fin 8) (n : Fin 4096) (c : Fin 2080) : EReal :=
  col (fun j => X (ix3 b n j)) (fun j => N (ix2 0 j)) (fun k f => W (ix3 0 k f)) c

/-- Columns from `o` on. -/
def part {p : ℕ} (o : ℕ) (h : o + p ≤ 2080) (X : S8x4096x1024.Idx → EReal) (N : S1x1024.Idx → EReal) (W : S1x1024x2080.Idx → EReal) (b : Fin 8) (n : Fin 4096) (c : Fin p) : EReal :=
  wcol X N W b n ⟨o + c.val, by omega⟩

/-- The queries, scaled. -/
def query (X : S8x4096x1024.Idx → EReal) (N : S1x1024.Idx → EReal) (W : S1x1024x2080.Idx → EReal) (b : Fin 8) (n : Fin 4096) (c : Fin 256) : EReal :=
  part 0 (by omega) X N W b n c * Ideal.ofBits .f32 0x3E000000#32

/-- A direction's decay gates: sixteen columns of the row from `o` on against that direction's factor, its bias added. -/
def gate (o : ℕ) (h : o + 16 ≤ 2080) (X : S8x4096x1024.Idx → EReal) (N : S1x1024.Idx → EReal) (W : S1x1024x2080.Idx → EReal) (U : S1x16x256.Idx → EReal)
    (A : S1x256.Idx → EReal) (b : Fin 8) (n : Fin 4096) (c : Fin 256) : EReal :=
  lsg ((∑ k : Fin 16, part o h X N W b n k * U (ix3 0 k c)) + A (ix2 0 c))

/-- Tokens' rows, batch after batch. -/
def arr {p : ℕ} (g : Fin 8 → Fin 4096 → Fin p → EReal) : (⟨2, ![32768, p]⟩ : Shape).Idx → EReal := fun i =>
  g ⟨(i 0).val / 4096, by have : (i 0).val < 32768 := (i 0).isLt; omega⟩ ⟨(i 0).val % 4096, by omega⟩ (i 1)

theorem arr_apply {p : ℕ} (g : Fin 8 → Fin 4096 → Fin p → EReal) (z : (⟨2, ![32768, p]⟩ : Shape).Idx) (i : Fin 32768) (k : Fin p)
    (h0 : (z 0).val = i.val) (h1 : (z 1).val = k.val) :
    g ⟨i.val / 4096, by omega⟩ ⟨i.val % 4096, by omega⟩ k = arr g z := by
  unfold arr
  congr 1
  · apply Fin.ext; show i.val / 4096 = (z 0).val / 4096; rw [h0]
  · apply Fin.ext; show i.val % 4096 = (z 0).val % 4096; rw [h0]
  · exact Fin.ext h1.symm

section
variable (m : (ℓ : Loc nD τ sig) → Buf (Elt Ideal) ℓ) (ρ : Dev nD → PrngReg)

abbrev Xa (c : Dev nD) : S8x4096x1024.Idx → EReal := m ((c.tc : Thread nD τ).loc main_arg0)
abbrev Na (c : Dev nD) : S1x1024.Idx → EReal := m ((c.tc : Thread nD τ).loc main_arg1)
abbrev Wa (c : Dev nD) : S1x1024x2080.Idx → EReal := m ((c.tc : Thread nD τ).loc main_arg2)
abbrev Ua (c : Dev nD) : S1x16x256.Idx → EReal := m ((c.tc : Thread nD τ).loc main_arg3)
abbrev Aa (c : Dev nD) : S1x256.Idx → EReal := m ((c.tc : Thread nD τ).loc main_arg4)
abbrev Va (c : Dev nD) : S1x16x256.Idx → EReal := m ((c.tc : Thread nD τ).loc main_arg5)
abbrev Ba (c : Dev nD) : S1x256.Idx → EReal := m ((c.tc : Thread nD τ).loc main_arg6)

/-! ## The operands as the kernel finds them -/

theorem x_apply (c : Dev nD) (i : Fin 32768) (k : Fin 1024) :
    (V m c main_v7 : S32768x1024.Idx → EReal) (ix2 i k) = Xa m c (ix3 ⟨i.val / 4096, by omega⟩ ⟨i.val % 4096, by omega⟩ k) := by
  have e : (V m c main_v7 : S32768x1024.Idx → EReal) = shapeCast S32768x1024 (Xa m c) shapeCasts_S8x4096x1024_S32768x1024 := by
    entry_read
    rfl
  rw [e]
  exact Cert.Rows.rows_apply _ _ i k _ _

theorem n_apply (c : Dev nD) (k : Fin 1024) : (V m c main_v9 : S1x1024.Idx → EReal) (ix2 0 k) = Na m c (ix2 0 k) := by
  have e : (V m c main_v9 : S1x1024.Idx → EReal) = broadcastInDim S1x1024 ![1] bcast_S1024_S1x1024_1 (shapeCast S1024 (Na m c) shapeCasts_S1x1024_S1024) := by
    entry_read
    rfl
  rw [e]
  refine (broadcastInDim_apply _ _ _ (ix2 0 k) (ix1 k) (by intro a; fin_cases a; rfl)).trans ?_
  exact shapeCast_apply _ _ (ix1 k) (ix2 0 k) (by rw [Shape.rowMajor_val_one, Shape.rowMajor_val_two]; simp)

theorem w_apply (c : Dev nD) (k : Fin 1024) (f : Fin 1536) : (V m c main_v11 : S1024x1536.Idx → EReal) (ix2 k f) = Wa m c (ix3 0 k ⟨f.val, by omega⟩) := by
  have e : (V m c main_v11 : S1024x1536.Idx → EReal) = extractStridedSlice S1024x1536 ![0, 0]
      (shapeCast S1024x2080 (Wa m c) shapeCasts_S1x1024x2080_S1024x2080) slices_S1024x2080_S1024x1536_0_0 := by
    entry_read
    rfl
  rw [e]
  refine (extractStridedSlice_apply _ _ _ _ (ix2 k ⟨f.val, by omega⟩) (by intro a; fin_cases a <;> simp)).trans ?_
  exact Cert.Rows.drop_apply _ _ _ _

theorem f_apply (c : Dev nD) (k : Fin 1024) (f : Fin 512) : (V m c main_v18 : S1024x512.Idx → EReal) (ix2 k f) = Wa m c (ix3 0 k ⟨1568 + f.val, by omega⟩) := by
  have e : (V m c main_v18 : S1024x512.Idx → EReal) = extractStridedSlice S1024x512 ![0, 1568]
      (shapeCast S1024x2080 (Wa m c) shapeCasts_S1x1024x2080_S1024x2080) slices_S1024x2080_S1024x512_0_1568 := by
    entry_read
    rfl
  rw [e]
  refine (extractStridedSlice_apply _ _ _ _ (ix2 k ⟨1568 + f.val, by omega⟩) (by intro a; fin_cases a <;> simp)).trans ?_
  exact Cert.Rows.drop_apply _ _ _ _

/-- Three copies of the low-rank columns side by side. -/
theorem l_apply (c : Dev nD) (k : Fin 1024) (q : Fin 3) (f : Fin 32) :
    (V m c main_v16 : S1024x96.Idx → EReal) (ix2 k ⟨32 * q.val + f.val, by omega⟩) = Wa m c (ix3 0 k ⟨1536 + f.val, by omega⟩) := by
  have e : (V m c main_v16 : S1024x96.Idx → EReal) = shapeCast S1024x96 (broadcastInDim S1x1024x3x32 ![0, 1, 2, 3] bcast_S1x1024x1x32_S1x1024x3x32_0_1_2_3
      (shapeCast S1x1024x1x32 (extractStridedSlice S1024x32 ![0, 1536]
      (shapeCast S1024x2080 (Wa m c) shapeCasts_S1x1024x2080_S1024x2080) slices_S1024x2080_S1024x32_0_1536) shapeCasts_S1024x32_S1x1024x1x32)) shapeCasts_S1x1024x3x32_S1024x96 := by
    entry_read
    rfl
  rw [e]
  refine (shapeCast_apply _ _ _ (ix4 0 k q f) (by
    rw [Shape.rowMajor_val_two, Shape.rowMajor_val_four]
    show ((0 * 1024 + k.val) * 3 + q.val) * 32 + f.val = k.val * 96 + (32 * q.val + f.val)
    omega)).trans ?_
  refine (broadcastInDim_apply _ _ _ _ (ix4 0 k 0 f) (by intro a; fin_cases a <;> rfl)).trans ?_
  refine (shapeCast_apply _ _ _ (ix2 k f) (by
    rw [Shape.rowMajor_val_two, Shape.rowMajor_val_four]
    show k.val * 32 + f.val = ((0 * 1024 + k.val) * 1 + 0) * 32 + f.val
    omega)).trans ?_
  refine (extractStridedSlice_apply _ _ _ _ (ix2 k ⟨1536 + f.val, by omega⟩) (by intro a; fin_cases a <;> simp)).trans ?_
  exact Cert.Rows.drop_apply _ _ _ _

/-- The block of zeros. -/
abbrev zeros : S16x256.Idx → EReal := broadcastInDim S16x256 ![] bcast_S_S16x256 (constant S_ .f32 0x00000000#32 : FVec Ideal S_ .f32)

theorem zeros_apply (i : S16x256.Idx) : zeros i = 0 := Ideal.ofBits_zero_f32

/-- Both directions' factors as the diagonal blocks of one matrix. -/
theorem u_eq (c : Dev nD) : (V m c main_v6 : S32x512.Idx → EReal)
    = concatenate S32x512 0 [⟨S16x512, concatenate S16x512 1 [⟨S16x256, shapeCast S16x256 (Ua m c) shapeCasts_S1x16x256_S16x256⟩, ⟨S16x256, zeros⟩] concatenates_S16x256_S16x256_S16x512_d1⟩,
        ⟨S16x512, concatenate S16x512 1 [⟨S16x256, zeros⟩, ⟨S16x256, shapeCast S16x256 (Va m c) shapeCasts_S1x16x256_S16x256⟩] concatenates_S16x256_S16x256_S16x512_d1⟩]
        concatenates_S16x512_S16x512_S32x512_d0 := by
  entry_read
  rfl

theorem bias_eq (c : Dev nD) : (V m c main_v22 : S1x512.Idx → EReal)
    = broadcastInDim S1x512 ![1] bcast_S512_S1x512_1 (concatenate S512 0 [⟨S256, shapeCast S256 (Aa m c) shapeCasts_S1x256_S256⟩,
        ⟨S256, shapeCast S256 (Ba m c) shapeCasts_S1x256_S256⟩] concatenates_S256_S256_S512_d0) := by
  entry_read
  rfl

theorem rows_fst (a b : S16x512.Idx → EReal) (k : Fin 16) (j : Fin 512) :
    concatenate S32x512 0 [⟨S16x512, a⟩, ⟨S16x512, b⟩] concatenates_S16x512_S16x512_S32x512_d0 (ix2 ⟨k.val, by omega⟩ j) = a (ix2 k j) :=
  concatenate_pair_apply_left (t := S32x512) 0 a b concatenates_S16x512_S16x512_S32x512_d0 (ix2 ⟨k.val, by omega⟩ j) rfl (ix2 k j) (by intro a; fin_cases a <;> rfl)

theorem rows_snd (a b : S16x512.Idx → EReal) (k : Fin 16) (j : Fin 512) :
    concatenate S32x512 0 [⟨S16x512, a⟩, ⟨S16x512, b⟩] concatenates_S16x512_S16x512_S32x512_d0 (ix2 ⟨16 + k.val, by omega⟩ j) = b (ix2 k j) :=
  concatenate_pair_apply_right (t := S32x512) 0 a b concatenates_S16x512_S16x512_S32x512_d0 (ix2 ⟨16 + k.val, by omega⟩ j) rfl rfl (ix2 k j)
    (by intro a ha; fin_cases a <;> first | rfl | exact absurd rfl ha) (Nat.add_comm k.val 16)

theorem cols_fst (a b : S16x256.Idx → EReal) (k : Fin 16) (j : Fin 256) :
    concatenate S16x512 1 [⟨S16x256, a⟩, ⟨S16x256, b⟩] concatenates_S16x256_S16x256_S16x512_d1 (ix2 k ⟨0 + j.val, by omega⟩) = a (ix2 k j) :=
  concatenate_pair_apply_left (t := S16x512) 1 a b concatenates_S16x256_S16x256_S16x512_d1 (ix2 k ⟨0 + j.val, by omega⟩) rfl (ix2 k j)
    (by intro a; fin_cases a <;> first | rfl | exact (Nat.zero_add j.val).symm)

theorem cols_snd (a b : S16x256.Idx → EReal) (k : Fin 16) (j : Fin 256) :
    concatenate S16x512 1 [⟨S16x256, a⟩, ⟨S16x256, b⟩] concatenates_S16x256_S16x256_S16x512_d1 (ix2 k ⟨256 + j.val, by omega⟩) = b (ix2 k j) :=
  concatenate_pair_apply_right (t := S16x512) 1 a b concatenates_S16x256_S16x256_S16x512_d1 (ix2 k ⟨256 + j.val, by omega⟩) rfl rfl (ix2 k j)
    (by intro a ha; fin_cases a <;> first | rfl | exact absurd rfl ha) (Nat.add_comm j.val 256)

theorem u_ff (c : Dev nD) (k : Fin 16) (j : Fin 256) : (V m c main_v6 : S32x512.Idx → EReal) (ix2 ⟨k.val, by omega⟩ ⟨0 + j.val, by omega⟩) = Ua m c (ix3 0 k j) := by
  rw [u_eq]
  exact (rows_fst _ _ k _).trans ((cols_fst _ _ k j).trans (Cert.Rows.drop_apply _ _ _ _))

theorem u_fb (c : Dev nD) (k : Fin 16) (j : Fin 256) : (V m c main_v6 : S32x512.Idx → EReal) (ix2 ⟨k.val, by omega⟩ ⟨256 + j.val, by omega⟩) = (0 : EReal) := by
  rw [u_eq]
  exact (rows_fst _ _ k _).trans ((cols_snd _ _ k j).trans (zeros_apply _))

theorem u_bf (c : Dev nD) (k : Fin 16) (j : Fin 256) : (V m c main_v6 : S32x512.Idx → EReal) (ix2 ⟨16 + k.val, by omega⟩ ⟨0 + j.val, by omega⟩) = (0 : EReal) := by
  rw [u_eq]
  exact (rows_snd _ _ k _).trans ((cols_fst _ _ k j).trans (zeros_apply _))

theorem u_bb (c : Dev nD) (k : Fin 16) (j : Fin 256) : (V m c main_v6 : S32x512.Idx → EReal) (ix2 ⟨16 + k.val, by omega⟩ ⟨256 + j.val, by omega⟩) = Va m c (ix3 0 k j) := by
  rw [u_eq]
  exact (rows_snd _ _ k _).trans ((cols_snd _ _ k j).trans (Cert.Rows.drop_apply _ _ _ _))

theorem bias_f (c : Dev nD) (j : Fin 256) : (V m c main_v22 : S1x512.Idx → EReal) (ix2 0 ⟨0 + j.val, by omega⟩) = Aa m c (ix2 0 j) := by
  rw [bias_eq]
  refine (broadcastInDim_apply _ _ _ _ (ix1 ⟨0 + j.val, by omega⟩) (by intro a; fin_cases a; rfl)).trans ?_
  refine (concatenate_pair_apply_left (t := S512) 0 _ _ concatenates_S256_S256_S512_d0 (ix1 ⟨0 + j.val, by omega⟩) rfl (ix1 j)
    (by intro a; fin_cases a; exact (Nat.zero_add j.val).symm)).trans ?_
  exact shapeCast_apply _ _ (ix1 j) (ix2 0 j) (by rw [Shape.rowMajor_val_one, Shape.rowMajor_val_two]; simp)

theorem bias_b (c : Dev nD) (j : Fin 256) : (V m c main_v22 : S1x512.Idx → EReal) (ix2 0 ⟨256 + j.val, by omega⟩) = Ba m c (ix2 0 j) := by
  rw [bias_eq]
  refine (broadcastInDim_apply _ _ _ _ (ix1 ⟨256 + j.val, by omega⟩) (by intro a; fin_cases a; rfl)).trans ?_
  refine (concatenate_pair_apply_right (t := S512) 0 _ _ concatenates_S256_S256_S512_d0 (ix1 ⟨256 + j.val, by omega⟩) rfl rfl (ix1 j)
    (by intro a ha; fin_cases a; exact absurd rfl ha) (Nat.add_comm j.val 256)).trans ?_
  exact shapeCast_apply _ _ (ix1 j) (ix2 0 j) (by rw [Shape.rowMajor_val_one, Shape.rowMajor_val_two]; simp)

/-! ## The windows' blocks -/

theorem idx : ∀ t : Fin grid0.N, (cfg0.win 0).index t = ![(grid0.coords t 0).val, 0] ∧ (cfg0.win 1).index t = ![0, 0] ∧ (cfg0.win 2).index t = ![0, 0]
    ∧ (cfg0.win 3).index t = ![0, 0] ∧ (cfg0.win 4).index t = ![0, 0] ∧ (cfg0.win 5).index t = ![0, 0] ∧ (cfg0.win 6).index t = ![0, 0] := by decide +kernel

theorem odx : ∀ t : Fin grid0.N, (cfg0.win 7).index t = ![(grid0.coords t 0).val, 0] ∧ (cfg0.win 8).index t = ![(grid0.coords t 0).val, 0]
    ∧ (cfg0.win 9).index t = ![(grid0.coords t 0).val, 0] ∧ (cfg0.win 10).index t = ![(grid0.coords t 0).val, 0] ∧ (cfg0.win 11).index t = ![(grid0.coords t 0).val, 0]
    ∧ (cfg0.win 12).index t = ![(grid0.coords t 0).val, 0] ∧ (cfg0.win 13).index t = ![(grid0.coords t 0).val, 0] := by decide +kernel

/-- A grid point's block of rows. -/
def bt (t : Fin cfg0.N) : Fin 32 := grid0.coords t 0

theorem x_blk (c : Dev nD) (t : Fin cfg0.N) (r : Fin 1024) (k : Fin 1024) :
    (iblk m c 0 t : S1024x1024.Idx → EReal) (ix2 r k) = (V m c main_v7 : S32768x1024.Idx → EReal) (ix2 ⟨1024 * (bt t).val + r.val, by omega⟩ k) := by
  have e := (idx t).1
  have hb : (bt t).val = (grid0.coords t 0).val := rfl
  blk_ext [iblk, e]

theorem n_blk (c : Dev nD) (t : Fin cfg0.N) (k : Fin 1024) :
    (iblk m c 1 t : S1x1024.Idx → EReal) (ix2 0 k) = (V m c main_v9 : S1x1024.Idx → EReal) (ix2 0 k) := by
  have e := (idx t).2.1
  blk_ext [iblk, e]

theorem w_blk (c : Dev nD) (t : Fin cfg0.N) (k : Fin 1024) (f : Fin 1536) :
    (iblk m c 2 t : S1024x1536.Idx → EReal) (ix2 k f) = (V m c main_v11 : S1024x1536.Idx → EReal) (ix2 k f) := by
  have e := (idx t).2.2.1
  blk_ext [iblk, e]

theorem l_blk (c : Dev nD) (t : Fin cfg0.N) (k : Fin 1024) (f : Fin 96) :
    (iblk m c 3 t : S1024x96.Idx → EReal) (ix2 k f) = (V m c main_v16 : S1024x96.Idx → EReal) (ix2 k f) := by
  have e := (idx t).2.2.2.1
  blk_ext [iblk, e]

theorem f_blk (c : Dev nD) (t : Fin cfg0.N) (k : Fin 1024) (f : Fin 512) :
    (iblk m c 4 t : S1024x512.Idx → EReal) (ix2 k f) = (V m c main_v18 : S1024x512.Idx → EReal) (ix2 k f) := by
  have e := (idx t).2.2.2.2.1
  blk_ext [iblk, e]

theorem u_blk (c : Dev nD) (t : Fin cfg0.N) (k : Fin 32) (f : Fin 512) :
    (iblk m c 5 t : S32x512.Idx → EReal) (ix2 k f) = (V m c main_v6 : S32x512.Idx → EReal) (ix2 k f) := by
  have e := (idx t).2.2.2.2.2.1
  blk_ext [iblk, e]

theorem b_blk (c : Dev nD) (t : Fin cfg0.N) (f : Fin 512) :
    (iblk m c 6 t : S1x512.Idx → EReal) (ix2 0 f) = (V m c main_v22 : S1x512.Idx → EReal) (ix2 0 f) := by
  have e := (idx t).2.2.2.2.2.2
  blk_ext [iblk, e]

/-- A block's row against columns that are columns of the input matrix. -/
theorem bcol_eq (c : Dev nD) (t : Fin cfg0.N) (r : Fin 1024) {p : ℕ} (w : Fin 1024 → Fin p → EReal) (f : Fin p) (g : Fin 2080)
    (hw : ∀ k, w k f = Wa m c (ix3 0 k g)) :
    bcol (iblk m c 0 t) (iblk m c 1 t) w r f
      = wcol (Xa m c) (Na m c) (Wa m c) ⟨(1024 * (bt t).val + r.val) / 4096, by omega⟩ ⟨(1024 * (bt t).val + r.val) % 4096, by omega⟩ g := by
  unfold bcol wcol col dot
  refine Finset.sum_congr rfl fun k _ => congrArg₂ (· * ·) ?_ (hw k)
  exact congrArg₂ (fun a b => rms _ a b k) (funext fun j => (x_blk m c t r j).trans (x_apply m c _ j)) (funext fun j => (n_blk m c t j).trans (n_apply m c j))

theorem main_eq' (c : Dev nD) (t : Fin cfg0.N) (r : Fin 1024) (o : ℕ) {p : ℕ} (k : Fin p) (h : o + p ≤ 1536) :
    bcol (iblk m c 0 t) (iblk m c 1 t) (fun k f => (iblk m c 2 t : S1024x1536.Idx → EReal) (ix2 k f)) r ⟨o + k.val, by omega⟩
      = part o (by omega) (Xa m c) (Na m c) (Wa m c) ⟨(1024 * (bt t).val + r.val) / 4096, by omega⟩ ⟨(1024 * (bt t).val + r.val) % 4096, by omega⟩ k :=
  bcol_eq m c t r _ _ ⟨o + k.val, by omega⟩ fun j => (w_blk m c t j _).trans (w_apply m c j _)

theorem low_eq (c : Dev nD) (t : Fin cfg0.N) (r : Fin 1024) (q : Fin 3) (k : Fin 32) :
    bcol (iblk m c 0 t) (iblk m c 1 t) (fun k f => (iblk m c 3 t : S1024x96.Idx → EReal) (ix2 k f)) r ⟨32 * q.val + k.val, by omega⟩
      = part 1536 (by omega) (Xa m c) (Na m c) (Wa m c) ⟨(1024 * (bt t).val + r.val) / 4096, by omega⟩ ⟨(1024 * (bt t).val + r.val) % 4096, by omega⟩ k :=
  bcol_eq m c t r _ _ ⟨1536 + k.val, by omega⟩ fun j => (l_blk m c t j _).trans (l_apply m c j q k)

/-! ## The gates -/

/-- The arguments the gates read, finite. -/
def Finite (N : S1x1024.Idx → EReal) (W : S1x1024x2080.Idx → EReal) (U V : S1x16x256.Idx → EReal) : Prop :=
  (∀ k, IsReal (N (ix2 0 k))) ∧ (∀ (k : Fin 1024) (f : Fin 32), IsReal (W (ix3 0 k ⟨1536 + f.val, by omega⟩)))
    ∧ (∀ (k : Fin 16) (f : Fin 256), IsReal (U (ix3 0 k f))) ∧ ∀ (k : Fin 16) (f : Fin 256), IsReal (V (ix3 0 k f))

theorem part_real {N : S1x1024.Idx → EReal} {W : S1x1024x2080.Idx → EReal} {U V : S1x16x256.Idx → EReal} (h : Finite N W U V)
    (X : S8x4096x1024.Idx → EReal) (b : Fin 8) (n : Fin 4096) (k : Fin 32) : IsReal (part 1536 (by omega) X N W b n k) :=
  IsReal.sum fun j => (Cert.In.rms_real _ _ j (h.1 j)).mul (h.2.1 j k)

/-- The factors' rows of one column, all of them finite. -/
theorem u_real {c : Dev nD} (h : Finite (Na m c) (Wa m c) (Ua m c) (Va m c)) (t : Fin cfg0.N) (k : Fin 32) (j : Fin 512) :
    IsReal ((iblk m c 5 t : S32x512.Idx → EReal) (ix2 k j)) := by
  rw [u_blk]
  by_cases hk : k.val < 16
  · by_cases hj : j.val < 256
    · have e := u_ff m c ⟨k.val, hk⟩ ⟨j.val, hj⟩
      have ej : (⟨0 + j.val, by omega⟩ : Fin 512) = j := Fin.ext (Nat.zero_add _)
      rw [ej] at e
      exact e ▸ h.2.2.1 _ _
    · have e := u_fb m c ⟨k.val, hk⟩ ⟨j.val - 256, by omega⟩
      have ej : (⟨256 + (j.val - 256), by omega⟩ : Fin 512) = j := Fin.ext (by show 256 + (j.val - 256) = j.val; omega)
      rw [ej] at e
      exact e ▸ ⟨0, rfl⟩
  · have ek : (⟨16 + (k.val - 16), by omega⟩ : Fin 32) = k := Fin.ext (by show 16 + (k.val - 16) = k.val; omega)
    by_cases hj : j.val < 256
    · have e := u_bf m c ⟨k.val - 16, by omega⟩ ⟨j.val, hj⟩
      have ej : (⟨0 + j.val, by omega⟩ : Fin 512) = j := Fin.ext (Nat.zero_add _)
      rw [ej, ek] at e
      exact e ▸ ⟨0, rfl⟩
    · have e := u_bb m c ⟨k.val - 16, by omega⟩ ⟨j.val - 256, by omega⟩
      have ej : (⟨256 + (j.val - 256), by omega⟩ : Fin 512) = j := Fin.ext (by show 256 + (j.val - 256) = j.val; omega)
      rw [ej, ek] at e
      exact e ▸ h.2.2.2 _ _

/-- All 32 low-rank columns against one column of the factors. -/
theorem gates_apply {c : Dev nD} (h : Finite (Na m c) (Wa m c) (Ua m c) (Va m c)) (t : Fin cfg0.N) (r : Fin 1024) (j : Fin 512) :
    k0_pay9 (F := Ideal) (k0_pay12 (iblk m c 0 t) (iblk m c 1 t) (iblk m c 2 t) (iblk m c 3 t) (iblk m c 4 t) (iblk m c 5 t) (iblk m c 6 t))
        (View.ld (iblk m c 5 t : Vec Ideal S32x512 .f32) r0_6) (View.ld (iblk m c 6 t : Vec Ideal S1x512 .f32) r0_7) (ix2 r j)
      = lsg ((∑ k : Fin 32, part 1536 (by omega) (Xa m c) (Na m c) (Wa m c) ⟨(1024 * (bt t).val + r.val) / 4096, by omega⟩ ⟨(1024 * (bt t).val + r.val) % 4096, by omega⟩ k
          * (V m c main_v6 : S32x512.Idx → EReal) (ix2 k j)) + (V m c main_v22 : S1x512.Idx → EReal) (ix2 0 j)) := by
  refine (pre_apply (iblk m c 0 t) (iblk m c 1 t) (iblk m c 2 t) (iblk m c 3 t) (iblk m c 4 t) (iblk m c 5 t) (iblk m c 6 t) r j
    (part 1536 (by omega) (Xa m c) (Na m c) (Wa m c) ⟨(1024 * (bt t).val + r.val) / 4096, by omega⟩ ⟨(1024 * (bt t).val + r.val) % 4096, by omega⟩)
    (fun k => ?_) (fun k => low_eq m c t r 1 k) (fun k => part_real h _ _ _ k) (fun k => u_real m h t k j)).trans ?_
  · have e : (⟨k.val, by omega⟩ : Fin 96) = ⟨32 * (0 : Fin 3).val + k.val, by omega⟩ := Fin.ext (by simp)
    rw [e]
    exact low_eq m c t r 0 k
  · exact congrArg lsg (congrArg₂ (· + ·) (Finset.sum_congr rfl fun k _ => congrArg (_ * ·) (u_blk m c t k j)) (b_blk m c t j))

theorem gf_apply {c : Dev nD} (h : Finite (Na m c) (Wa m c) (Ua m c) (Va m c)) (t : Fin cfg0.N) (r : Fin 1024) (k : Fin 256) :
    out0_11 (F := Ideal) (iblk m c 0 t) (iblk m c 1 t) (iblk m c 2 t) (iblk m c 3 t) (iblk m c 4 t) (iblk m c 5 t) (iblk m c 6 t) (ix2 r k)
      = gate 1536 (by omega) (Xa m c) (Na m c) (Wa m c) (Ua m c) (Aa m c) ⟨(1024 * (bt t).val + r.val) / 4096, by omega⟩ ⟨(1024 * (bt t).val + r.val) % 4096, by omega⟩ k := by
  refine (out_gf (iblk m c 0 t) (iblk m c 1 t) (iblk m c 2 t) (iblk m c 3 t) (iblk m c 4 t) (iblk m c 5 t) (iblk m c 6 t) r k).trans ((gates_apply m h t r _).trans ?_)
  unfold gate
  refine congrArg lsg (congrArg₂ (· + ·) ?_ (bias_f m c k))
  refine (Fin.sum_univ_add (a := 16) (b := 16) _).trans ((congrArg₂ (· + ·) (Finset.sum_congr rfl fun j _ => ?_) (Finset.sum_eq_zero fun j _ => ?_)).trans (add_zero _))
  · exact congrArg₂ (· * ·) rfl (u_ff m c j k)
  · exact (congrArg (_ * ·) (u_bf m c j k)).trans (mul_zero _)

theorem gb_apply {c : Dev nD} (h : Finite (Na m c) (Wa m c) (Ua m c) (Va m c)) (t : Fin cfg0.N) (r : Fin 1024) (k : Fin 256) :
    out0_12 (F := Ideal) (iblk m c 0 t) (iblk m c 1 t) (iblk m c 2 t) (iblk m c 3 t) (iblk m c 4 t) (iblk m c 5 t) (iblk m c 6 t) (ix2 r k)
      = gate 1552 (by omega) (Xa m c) (Na m c) (Wa m c) (Va m c) (Ba m c) ⟨(1024 * (bt t).val + r.val) / 4096, by omega⟩ ⟨(1024 * (bt t).val + r.val) % 4096, by omega⟩ k := by
  refine (out_gb (iblk m c 0 t) (iblk m c 1 t) (iblk m c 2 t) (iblk m c 3 t) (iblk m c 4 t) (iblk m c 5 t) (iblk m c 6 t) r k).trans ((gates_apply m h t r _).trans ?_)
  unfold gate
  refine congrArg lsg (congrArg₂ (· + ·) ?_ (bias_b m c k))
  refine (Fin.sum_univ_add (a := 16) (b := 16) _).trans ((congrArg₂ (· + ·) (Finset.sum_eq_zero fun j _ => ?_) (Finset.sum_congr rfl fun j _ => ?_)).trans (zero_add _))
  · exact (congrArg (_ * ·) (u_fb m c j k)).trans (mul_zero _)
  · refine congrArg₂ (· * ·) ?_ (u_bb m c j k)
    unfold part
    refine congrArg (wcol _ _ _ _ _) (Fin.ext ?_)
    show 1536 + (16 + j.val) = 1552 + j.val
    omega

/-! ## The seven arrays -/

/-- A block holding its rows' values is the array's block. -/
theorem place {p : ℕ} (g : Fin 8 → Fin 4096 → Fin p → EReal) (o : (⟨2, ![1024, p]⟩ : Shape).Idx → EReal) (b : Fin 32)
    (ho : ∀ (r : Fin 1024) (k : Fin p), o (ix2 r k) = g ⟨(1024 * b.val + r.val) / 4096, by omega⟩ ⟨(1024 * b.val + r.val) % 4096, by omega⟩ k)
    (y : (⟨2, ![1024, p]⟩ : Shape).Idx) (z : (⟨2, ![32768, p]⟩ : Shape).Idx) (p0 : (z 0).val = 1024 * b.val + (y 0).val) (p1 : (z 1).val = (y 1).val) :
    o y = arr g z := by
  have y0 : (y 0).val < 1024 := (y 0).isLt
  have hy : y = ix2 ⟨(y 0).val, y0⟩ ⟨(y 1).val, (y 1).isLt⟩ := by
    funext a; fin_cases a <;> rfl
  exact (congrArg o hy).trans ((ho _ _).trans (arr_apply g z ⟨1024 * b.val + (y 0).val, by omega⟩ _ p0 p1))

theorem final_q (c : Dev nD) : (dats m 0 c).arrAt 7 cfg0.N = (arr (query (Xa m c) (Na m c) (Wa m c)) : S32768x256.Idx → EReal) := by
  refine (dats m 0 c).arrAt_eq_of_covers 7 _ (by decide +kernel) fun t hf y => ?_
  have e := (odx t).1
  have hb : (bt t).val = (grid0.coords t 0).val := rfl
  refine Eq.trans (b := out0_7 (F := Ideal) (iblk m c 0 t) (iblk m c 1 t) (iblk m c 2 t) (iblk m c 3 t) (iblk m c 4 t) (iblk m c 5 t) (iblk m c 6 t) y)
    (by blk_simp; rw [after0_7]) (place _ _ (bt t) (fun r k => ?_) y (((cfg0.win 7).blk t).view.emb y) (by blk_simp [e]; omega) (by blk_simp [e]))
  exact (out_q _ _ _ _ _ _ _ r k).trans (congrArg (· * _) (main_eq' m c t r 0 k (by omega)))

theorem final_k (c : Dev nD) : (dats m 0 c).arrAt 8 cfg0.N = (arr (part 256 (by omega) (Xa m c) (Na m c) (Wa m c)) : S32768x256.Idx → EReal) := by
  refine (dats m 0 c).arrAt_eq_of_covers 8 _ (by decide +kernel) fun t hf y => ?_
  have e := (odx t).2.1
  have hb : (bt t).val = (grid0.coords t 0).val := rfl
  refine Eq.trans (b := out0_8 (F := Ideal) (iblk m c 0 t) (iblk m c 1 t) (iblk m c 2 t) (iblk m c 3 t) (iblk m c 4 t) (iblk m c 5 t) (iblk m c 6 t) y)
    (by blk_simp; rw [after0_8]) (place _ _ (bt t) (fun r k => ?_) y (((cfg0.win 8).blk t).view.emb y) (by blk_simp [e]; omega) (by blk_simp [e]))
  exact (out_k _ _ _ _ _ _ _ r k).trans (main_eq' m c t r 256 k (by omega))

theorem final_v (c : Dev nD) : (dats m 0 c).arrAt 9 cfg0.N = (arr (part 512 (by omega) (Xa m c) (Na m c) (Wa m c)) : S32768x512.Idx → EReal) := by
  refine (dats m 0 c).arrAt_eq_of_covers 9 _ (by decide +kernel) fun t hf y => ?_
  have e := (odx t).2.2.1
  have hb : (bt t).val = (grid0.coords t 0).val := rfl
  refine Eq.trans (b := out0_9 (F := Ideal) (iblk m c 0 t) (iblk m c 1 t) (iblk m c 2 t) (iblk m c 3 t) (iblk m c 4 t) (iblk m c 5 t) (iblk m c 6 t) y)
    (by blk_simp; rw [after0_9]) (place _ _ (bt t) (fun r k => ?_) y (((cfg0.win 9).blk t).view.emb y) (by blk_simp [e]; omega) (by blk_simp [e]))
  exact (out_v _ _ _ _ _ _ _ r k).trans (main_eq' m c t r 512 k (by omega))

theorem final_r (c : Dev nD) : (dats m 0 c).arrAt 10 cfg0.N = (arr (part 1024 (by omega) (Xa m c) (Na m c) (Wa m c)) : S32768x512.Idx → EReal) := by
  refine (dats m 0 c).arrAt_eq_of_covers 10 _ (by decide +kernel) fun t hf y => ?_
  have e := (odx t).2.2.2.1
  have hb : (bt t).val = (grid0.coords t 0).val := rfl
  refine Eq.trans (b := out0_10 (F := Ideal) (iblk m c 0 t) (iblk m c 1 t) (iblk m c 2 t) (iblk m c 3 t) (iblk m c 4 t) (iblk m c 5 t) (iblk m c 6 t) y)
    (by blk_simp; rw [after0_10]) (place _ _ (bt t) (fun r k => ?_) y (((cfg0.win 10).blk t).view.emb y) (by blk_simp [e]; omega) (by blk_simp [e]))
  exact (out_r _ _ _ _ _ _ _ r k).trans (main_eq' m c t r 1024 k (by omega))

theorem final_gf {c : Dev nD} (h : Finite (Na m c) (Wa m c) (Ua m c) (Va m c)) :
    (dats m 0 c).arrAt 11 cfg0.N = (arr (gate 1536 (by omega) (Xa m c) (Na m c) (Wa m c) (Ua m c) (Aa m c)) : S32768x256.Idx → EReal) := by
  refine (dats m 0 c).arrAt_eq_of_covers 11 _ (by decide +kernel) fun t hf y => ?_
  have e := (odx t).2.2.2.2.1
  have hb : (bt t).val = (grid0.coords t 0).val := rfl
  exact Eq.trans (b := out0_11 (F := Ideal) (iblk m c 0 t) (iblk m c 1 t) (iblk m c 2 t) (iblk m c 3 t) (iblk m c 4 t) (iblk m c 5 t) (iblk m c 6 t) y)
    (by blk_simp; rw [after0_11]) (place _ _ (bt t) (gf_apply m h t) y (((cfg0.win 11).blk t).view.emb y) (by blk_simp [e]; omega) (by blk_simp [e]))

theorem final_gb {c : Dev nD} (h : Finite (Na m c) (Wa m c) (Ua m c) (Va m c)) :
    (dats m 0 c).arrAt 12 cfg0.N = (arr (gate 1552 (by omega) (Xa m c) (Na m c) (Wa m c) (Va m c) (Ba m c)) : S32768x256.Idx → EReal) := by
  refine (dats m 0 c).arrAt_eq_of_covers 12 _ (by decide +kernel) fun t hf y => ?_
  have e := (odx t).2.2.2.2.2.1
  have hb : (bt t).val = (grid0.coords t 0).val := rfl
  exact Eq.trans (b := out0_12 (F := Ideal) (iblk m c 0 t) (iblk m c 1 t) (iblk m c 2 t) (iblk m c 3 t) (iblk m c 4 t) (iblk m c 5 t) (iblk m c 6 t) y)
    (by blk_simp; rw [after0_12]) (place _ _ (bt t) (gb_apply m h t) y (((cfg0.win 12).blk t).view.emb y) (by blk_simp [e]; omega) (by blk_simp [e]))

theorem final_f (c : Dev nD) : (dats m 0 c).arrAt 13 cfg0.N = (arr (part 1568 (by omega) (Xa m c) (Na m c) (Wa m c)) : S32768x512.Idx → EReal) := by
  refine (dats m 0 c).arrAt_eq_of_covers 13 _ (by decide +kernel) fun t hf y => ?_
  have e := (odx t).2.2.2.2.2.2
  have hb : (bt t).val = (grid0.coords t 0).val := rfl
  refine Eq.trans (b := out0_13 (F := Ideal) (iblk m c 0 t) (iblk m c 1 t) (iblk m c 2 t) (iblk m c 3 t) (iblk m c 4 t) (iblk m c 5 t) (iblk m c 6 t) y)
    (by blk_simp; rw [after0_13]) (place _ _ (bt t) (fun r k => ?_) y (((cfg0.win 13).blk t).view.emb y) (by blk_simp [e]; omega) (by blk_simp [e]))
  exact (out_f _ _ _ _ _ _ _ r k).trans (bcol_eq m c t r _ k ⟨1568 + k.val, by omega⟩ fun j => (f_blk m c t j k).trans (f_apply m c j k))

end

end Cert.Kernel5Ideal.In

end
-- ==== Proof.In.Ref.lean ====
/- The reference of the first layer's input call at an index, and that its seven results are the kernel's. -/
module

public import proofs.«01_k».proof.Proof.In.Value
public import proofs.«01_k».proof.Proof.Gen.Reference5Ideal.Run
public import proofs.«01_k».proof.Proof.Gen.Pre_finite_gates
public import Idealize.ShloMosaic.Lib.ReduceAll
public import Idealize.ShloMosaic.Lib.WordCmp

@[expose] public section

set_option maxRecDepth 16384

noncomputable section

namespace Cert.InRef

open Idealize.ShloMosaic Idealize.ShloMosaic.TcCoe Idealize.SL.Sem
open Cert.Reference5Ideal Cert.Reference5Ideal.Gen Cert.Reference5Ideal.Value
open Cert.Rows (dot rms)
open Cert.In (lsg lsg_eq IsReal)
open Cert.Kernel5Ideal.In (wcol part query gate arr Finite col)
open Cert.Kernel5Ideal.In renaming Xa → Xk, Na → Nk, Wa → Wk, Ua → Uk, Aa → Ak, Va → Vk, Ba → Bk

attribute [local instance] Cert.Pre_finite_gates.Gen.facts

/-! ## The precondition -/

instance : Subsingleton Cert.Pre_finite_gates.S_.Idx := ⟨fun a b => funext fun i => i.elim0⟩

theorem real_of_lt (x : EReal) (h : max x (-x) < Ideal.ofBits .f32 0x7F800000#32) : IsReal x := by
  have e : Ideal.ofBits .f32 0x7F800000#32 = (⊤ : EReal) := by simp [Ideal.ofBits, Ideal.ieee]
  rw [e] at h
  refine Cert.In.isReal_of_ne (fun e => ?_) (fun e => ?_) <;> (subst e; simp at h)

theorem finite (X : S8x4096x1024.Idx → EReal) (N : S1x1024.Idx → EReal) (W : S1x1024x2080.Idx → EReal) (U : S1x16x256.Idx → EReal) (A : S1x256.Idx → EReal)
    (V : S1x16x256.Idx → EReal) (B : S1x256.Idx → EReal) (h : Cert.Pre_finite_gates.fn (F := Ideal) X N W U A V B = fun _ => 1#1) : Finite N W U V := by
  have e := congrFun h (fun a => a.elim0)
  unfold Cert.Pre_finite_gates.fn Cert.Pre_finite_gates.fn_part1 at e
  obtain ⟨e3, e4⟩ := IntOp.andi_eq_one.1 e
  obtain ⟨e2, e3⟩ := IntOp.andi_eq_one.1 e3
  obtain ⟨e1, e2⟩ := IntOp.andi_eq_one.1 e2
  refine ⟨fun k => ?_, fun k f => ?_, fun k f => ?_, fun k f => ?_⟩
  · have := Host.reduce_andi_all _ _ _ _ _ e1 (ix2 0 k)
    exact real_of_lt _ ((WordCmp.ofBool_decide_eq_one_iff _).1 this)
  · have := Host.reduce_andi_all _ _ _ _ _ e2 (ix3 0 k f)
    have r := real_of_lt _ ((WordCmp.ofBool_decide_eq_one_iff _).1 this)
    have s := extractStridedSlice_apply (t := Cert.Pre_finite_gates.S1x1024x32) ![0, 0, 1536] W (by decide)
      (ix3 0 k f) (ix3 0 k ⟨1536 + f.val, by omega⟩) (by intro a; fin_cases a <;> simp)
    exact s ▸ r
  · have := Host.reduce_andi_all _ _ _ _ _ e3 (ix3 0 k f)
    exact real_of_lt _ ((WordCmp.ofBool_decide_eq_one_iff _).1 this)
  · have := Host.reduce_andi_all _ _ _ _ _ e4 (ix3 0 k f)
    exact real_of_lt _ ((WordCmp.ofBool_decide_eq_one_iff _).1 this)

/-! ## The reference at an index -/

variable (x : FVec Ideal S8x4096x1024 .f32) (g : FVec Ideal S1x1024 .f32) (w : FVec Ideal S1x1024x2080 .f32) (u : FVec Ideal S1x16x256 .f32) (a : FVec Ideal S1x256 .f32)

/-- Every token's row normed and multiplied by the input matrix. -/
def proj : FVec Ideal S8x4096x2080 .f32 :=
  Host.dotGeneral dot_S8x4096x1024_S1024x2080_S8x4096x2080_2_0_01_1_n_n none (mulf (mulf x (broadcastInDim S8x4096x1024 ![0, 1, 2] bcast_S8x4096x1_S8x4096x1024_0_1_2
    (Host.rsqrt (addf (Host.divf (broadcastInDim S8x4096x1 ![0, 1] bcast_S8x4096_S8x4096x1_0_1 (Host.reduceAdd (mulf x x) (constant S_ .f32 0x00000000#32)
      reducesTo_S8x4096x1024_S8x4096_d2 h_S_)) (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2
      (shapeCast S1024 g shapeCasts_S1x1024_S1024))))
    (shapeCast S1024x2080 w shapeCasts_S1x1024x2080_S1024x2080)

theorem proj_apply (b : Fin 8) (n : Fin 4096) (c : Fin 2080) : @Eq EReal (proj x g w (ix3 b n c)) (wcol x g w b n c) := by
  unfold proj
  refine (Cert.Rows.hdot_apply _ _ _ b n c).trans ?_
  unfold wcol col
  congr 1
  · funext k
    refine (Cert.Rows.hrms_apply x (shapeCast S1024 g shapeCasts_S1x1024_S1024) 0x44800000#32 _ (by decide) _ _ _ _ _ _ b n k).trans ?_
    exact congrArg (rms _ _ · k) (funext fun j => shapeCast_apply _ _ (ix1 j) (ix2 0 j) (by rw [Shape.rowMajor_val_one, Shape.rowMajor_val_two]; simp))
  · exact funext fun k => funext fun f => Cert.Rows.drop_apply _ _ k f

/-- Rows of tokens, laid out batch after batch. -/
theorem rows_eq {p : ℕ} (y : (⟨3, ![8, 4096, p]⟩ : Shape).Idx → EReal) (h : (⟨3, ![8, 4096, p]⟩ : Shape).ShapeCasts ⟨2, ![32768, p]⟩)
    (v : Fin 8 → Fin 4096 → Fin p → EReal) (e : ∀ b n k, y (ix3 b n k) = v b n k) : shapeCast ⟨2, ![32768, p]⟩ y h = arr v := by
  funext i
  have i0 : (i 0).val < 32768 := (i 0).isLt
  have hi : i = ix2 ⟨(i 0).val, i0⟩ ⟨(i 1).val, (i 1).isLt⟩ := by
    funext a; fin_cases a <;> rfl
  refine (congrArg _ hi).trans ((Cert.Rows.rows_apply y h _ _ (by show (i 0).val / 4096 < 8; omega) (by show (i 0).val % 4096 < 4096; omega)).trans ?_)
  exact e _ _ _

/-- Columns of the product from `o` on. -/
theorem cut_eq {p : ℕ} (o : ℕ) (h : o + p ≤ 2080) (hs : S8x4096x2080.Slices ![0, 0, o] ⟨3, ![8, 4096, p]⟩) (b : Fin 8) (n : Fin 4096) (k : Fin p) :
    extractStridedSlice ⟨3, ![8, 4096, p]⟩ ![0, 0, o] (proj x g w) hs (ix3 b n k) = part o h x g w b n k :=
  (extractStridedSlice_apply _ _ _ (ix3 b n k) (ix3 b n ⟨o + k.val, by omega⟩) (by intro a; fin_cases a <;> simp)).trans (proj_apply x g w b n _)

/-- The scaled queries. -/
def queries : FVec Ideal S8x4096x256 .f32 :=
  mulf (extractStridedSlice S8x4096x256 ![0, 0, 0] (proj x g w) slices_S8x4096x2080_S8x4096x256_0_0_0)
    (broadcastInDim S8x4096x256 ![] bcast_S_S8x4096x256 (constant S_ .f32 0x3E000000#32))

theorem query_eq : (shapeCast S32768x256 (queries x g w) shapeCasts_S8x4096x256_S32768x256 : S32768x256.Idx → EReal) = arr (query x g w) := by
  refine rows_eq (queries x g w) _ (query x g w) fun b n k => ?_
  show extractStridedSlice S8x4096x256 ![0, 0, 0] (proj x g w) slices_S8x4096x2080_S8x4096x256_0_0_0 (ix3 b n k) * Ideal.ofBits .f32 0x3E000000#32 = _
  exact congrArg (fun z : EReal => z * Ideal.ofBits .f32 0x3E000000#32) (cut_eq x g w 0 (by omega) slices_S8x4096x2080_S8x4096x256_0_0_0 b n k)

/-- A direction's gates before the logistic function's logarithm. -/
def pre (o : ℕ) (hs : S8x4096x2080.Slices ![0, 0, o] S8x4096x16) : FVec Ideal S8x4096x256 .f32 :=
  addf (Host.dotGeneral dot_S8x4096x16_S16x256_S8x4096x256_2_0_01_1_n_n none (extractStridedSlice S8x4096x16 ![0, 0, o] (proj x g w) hs)
    (shapeCast S16x256 u shapeCasts_S1x16x256_S16x256))
    (broadcastInDim S8x4096x256 ![0, 1, 2] bcast_S1x1x256_S8x4096x256_0_1_2 (broadcastInDim S1x1x256 ![2] bcast_S256_S1x1x256_2 (shapeCast S256 a shapeCasts_S1x256_S256)))

theorem pre_eq (o : ℕ) (h : o + 16 ≤ 2080) (hs : S8x4096x2080.Slices ![0, 0, o] S8x4096x16) (b : Fin 8) (n : Fin 4096) (k : Fin 256) :
    @Eq EReal (pre x g w u a o hs (ix3 b n k)) ((∑ j : Fin 16, part o h x g w b n j * u (ix3 0 j k)) + a (ix2 0 k)) := by
  unfold pre
  refine congrArg₂ (fun p q : EReal => p + q) ?_ ?_
  · refine (Cert.Rows.hdot_apply _ _ _ b n k).trans ?_
    unfold dot
    exact Finset.sum_congr rfl fun j _ => congrArg₂ (· * ·) (cut_eq x g w o h hs b n j) (Cert.Rows.drop_apply _ _ j k)
  · refine (broadcastInDim_apply _ _ _ (ix3 b n k) (ix3 0 0 k) (by intro a; fin_cases a <;> rfl)).trans ?_
    refine (broadcastInDim_apply _ _ _ (ix3 0 0 k) (ix1 k) (by intro a; fin_cases a; rfl)).trans ?_
    exact shapeCast_apply _ _ (ix1 k) (ix2 0 k) (by rw [Shape.rowMajor_val_one, Shape.rowMajor_val_two]; simp)

/-- The logarithm of the logistic function over sixteen, as the reference spells it. -/
def logistic (z : FVec Ideal S8x4096x256 .f32) : FVec Ideal S8x4096x256 .f32 :=
  Host.divf (Host.negf (select (cmpf .une (subf (Host.negf z) (broadcastInDim S8x4096x256 ![] bcast_S_S8x4096x256 (constant S_ .f32 0x00000000#32)))
      (subf (Host.negf z) (broadcastInDim S8x4096x256 ![] bcast_S_S8x4096x256 (constant S_ .f32 0x00000000#32))))
    (addf (Host.negf z) (broadcastInDim S8x4096x256 ![] bcast_S_S8x4096x256 (constant S_ .f32 0x00000000#32)))
    (addf (maximumf (Host.negf z) (broadcastInDim S8x4096x256 ![] bcast_S_S8x4096x256 (constant S_ .f32 0x00000000#32)))
      (Host.log1p (Host.exp (Host.negf (Host.absf (subf (Host.negf z) (broadcastInDim S8x4096x256 ![] bcast_S_S8x4096x256 (constant S_ .f32 0x00000000#32)))))))) ))
    (broadcastInDim S8x4096x256 ![] bcast_S_S8x4096x256 (constant S_ .f32 0x41800000#32))

theorem logistic_apply (z : FVec Ideal S8x4096x256 .f32) (i : S8x4096x256.Idx) : @Eq EReal (logistic z i) (lsg (z i)) := by
  refine Eq.trans ?_ (lsg_eq (z i))
  show Ideal.div (-(if (BitVec.ofBool (decide ((-(z i) - Ideal.ofBits .f32 0x00000000#32 : EReal) ≠ -(z i) - Ideal.ofBits .f32 0x00000000#32))) = 1#1
      then -(z i) + Ideal.ofBits .f32 0x00000000#32
      else max (-(z i)) (Ideal.ofBits .f32 0x00000000#32) + Ideal.log1p (Ideal.exp (-(max (-(z i) - Ideal.ofBits .f32 0x00000000#32) (-(-(z i) - Ideal.ofBits .f32 0x00000000#32)))))))
      (Ideal.ofBits .f32 0x41800000#32) = _
  rw [if_neg (by simp), Ideal.ofBits_zero_f32]

theorem gate_eq (o : ℕ) (h : o + 16 ≤ 2080) (hs : S8x4096x2080.Slices ![0, 0, o] S8x4096x16) :
    (shapeCast S32768x256 (logistic (pre x g w u a o hs)) shapeCasts_S8x4096x256_S32768x256 : S32768x256.Idx → EReal) = arr (gate o h x g w u a) :=
  rows_eq _ _ _ fun b n k => (logistic_apply _ _).trans (congrArg lsg (pre_eq x g w u a o h hs b n k))

section
variable (m : (ℓ : Loc nD τ sig) → Buf (Elt Ideal) ℓ) (c : Dev nD)

abbrev Xr : S8x4096x1024.Idx → EReal := m ((c.tc : Thread nD τ).loc main_arg0)
abbrev Nr : S1x1024.Idx → EReal := m ((c.tc : Thread nD τ).loc main_arg1)
abbrev Wr : S1x1024x2080.Idx → EReal := m ((c.tc : Thread nD τ).loc main_arg2)
abbrev Ur : S1x16x256.Idx → EReal := m ((c.tc : Thread nD τ).loc main_arg3)
abbrev Ar : S1x256.Idx → EReal := m ((c.tc : Thread nD τ).loc main_arg4)
abbrev Vr : S1x16x256.Idx → EReal := m ((c.tc : Thread nD τ).loc main_arg5)
abbrev Br : S1x256.Idx → EReal := m ((c.tc : Thread nD τ).loc main_arg6)

theorem forward : (res_main_v51 (F := Ideal) m c : S32768x256.Idx → EReal)
    = arr (gate 1536 (by omega) (Xr m c) (Nr m c) (Wr m c) (Ur m c) (Ar m c)) := by
  unfold res_main_v51
  exact gate_eq (Xr m c) (Nr m c) (Wr m c) (Ur m c) (Ar m c) 1536 (by omega) slices_S8x4096x2080_S8x4096x16_0_0_1536

theorem backward : (res_main_v52 (F := Ideal) m c : S32768x256.Idx → EReal)
    = arr (gate 1552 (by omega) (Xr m c) (Nr m c) (Wr m c) (Vr m c) (Br m c)) := by
  unfold res_main_v52
  exact gate_eq (Xr m c) (Nr m c) (Wr m c) (Vr m c) (Br m c) 1552 (by omega) slices_S8x4096x2080_S8x4096x16_0_0_1552

end

theorem alg : Cert.algebraic_Kernel5Ideal_Reference5Ideal_pre_finite_gates := by
  intro m g m' g' hpre hagree
  have hf := fun c => finite _ _ _ _ _ _ _ (hpre c)
  refine ⟨fun c => (arr (query (Xk m c) (Nk m c) (Wk m c)) : S32768x256.Idx → EReal),
    fun c => (arr (part 256 (by omega) (Xk m c) (Nk m c) (Wk m c)) : S32768x256.Idx → EReal),
    fun c => (arr (part 512 (by omega) (Xk m c) (Nk m c) (Wk m c)) : S32768x512.Idx → EReal),
    fun c => (arr (part 1024 (by omega) (Xk m c) (Nk m c) (Wk m c)) : S32768x512.Idx → EReal),
    fun c => (arr (gate 1536 (by omega) (Xk m c) (Nk m c) (Wk m c) (Uk m c) (Ak m c)) : S32768x256.Idx → EReal),
    fun c => (arr (gate 1552 (by omega) (Xk m c) (Nk m c) (Wk m c) (Vk m c) (Bk m c)) : S32768x256.Idx → EReal),
    fun c => (arr (part 1568 (by omega) (Xk m c) (Nk m c) (Wk m c)) : S32768x512.Idx → EReal), ?_, ?_⟩
  · refine (θ_run _ _ _).mono (fun r h c => ?_) (Cert.Kernel5Ideal.Value.run_blocks m g)
    obtain ⟨h0, h1, h2, h3, h4, h5, h6, hk⟩ := h c
    exact ⟨h0.trans (Cert.Kernel5Ideal.In.final_q m c), h1.trans (Cert.Kernel5Ideal.In.final_k m c), h2.trans (Cert.Kernel5Ideal.In.final_v m c),
      h3.trans (Cert.Kernel5Ideal.In.final_r m c), h4.trans (Cert.Kernel5Ideal.In.final_gf m (hf c)), h5.trans (Cert.Kernel5Ideal.In.final_gb m (hf c)),
      h6.trans (Cert.Kernel5Ideal.In.final_f m c), hk⟩
  · refine (θ_run _ _ _).mono (fun r h c => ?_) (Cert.Reference5Ideal.Value.run (F := Ideal) m' g')
    obtain ⟨h0, h1, h2, h3, h4, h5, h6, hk⟩ := h c
    obtain ⟨a0, a1, a2, a3, a4, a5, a6⟩ := hagree c
    have x0 : Xr m' c = Xk m c := a0
    have x1 : Nr m' c = Nk m c := a1
    have x2 : Wr m' c = Wk m c := a2
    have x3 : Ur m' c = Uk m c := a3
    have x4 : Ar m' c = Ak m c := a4
    have x5 : Vr m' c = Vk m c := a5
    have x6 : Br m' c = Bk m c := a6
    beta_reduce
    rw [← x0, ← x1, ← x2, ← x3, ← x4, ← x5, ← x6]
    refine ⟨h0.trans ?_, h1.trans ?_, h2.trans ?_, h3.trans ?_, h4.trans (forward m' c), h5.trans (backward m' c), h6.trans ?_, hk⟩
    · exact query_eq (Xr m' c) (Nr m' c) (Wr m' c)
    · exact rows_eq _ shapeCasts_S8x4096x256_S32768x256 _ (cut_eq (Xr m' c) (Nr m' c) (Wr m' c) 256 (by omega) slices_S8x4096x2080_S8x4096x256_0_0_256)
    · exact rows_eq _ shapeCasts_S8x4096x512_S32768x512 _ (cut_eq (Xr m' c) (Nr m' c) (Wr m' c) 512 (by omega) slices_S8x4096x2080_S8x4096x512_0_0_512)
    · exact rows_eq _ shapeCasts_S8x4096x512_S32768x512 _ (cut_eq (Xr m' c) (Nr m' c) (Wr m' c) 1024 (by omega) slices_S8x4096x2080_S8x4096x512_0_0_1024)
    · exact rows_eq _ shapeCasts_S8x4096x512_S32768x512 _ (cut_eq (Xr m' c) (Nr m' c) (Wr m' c) 1568 (by omega) slices_S8x4096x2080_S8x4096x512_0_0_1568)

end Cert.InRef

end
-- ==== Proof.CIn.Spec.lean ====
/- One head's columns normed and turned by the rotary angles, over the extended reals: a head's columns in the reference's
   order and in the kernel's. -/
module

public import proofs.«01_k».proof.Proof.Rows.Spec

@[expose] public section

set_option maxRecDepth 8192

noncomputable section

namespace Cert.CIn

open Idealize.ShloMosaic
open Cert.Rows (rms eps)

/-- A head's 128 columns with the middle two quarters swapped: from the kernel's order to the reference's and back. -/
def swap (d : Fin 128) : Fin 128 := ⟨64 * (d.val / 32 % 2) + 32 * (d.val / 64) + d.val % 32, by omega⟩

theorem swap_swap : ∀ d : Fin 128, swap (swap d) = d := by decide +kernel

def swapEquiv : Fin 128 ≃ Fin 128 := ⟨swap, swap, swap_swap, swap_swap⟩

/-- Which angles a column in the kernel's order takes: the row's or the column's. -/
def side (d : Fin 128) : Fin 2 := ⟨d.val / 32 % 2, by omega⟩
/-- Which of the 32 frequencies. -/
def freq (d : Fin 128) : Fin 32 := ⟨d.val % 32, by omega⟩

/-- The rotated head at a column in the kernel's order, the head itself in the reference's. -/
def turned (v : Fin 128 → EReal) (C S : Fin 2 → Fin 32 → EReal) (d : Fin 128) : EReal :=
  if d.val < 64 then v ⟨64 * (d.val / 32 % 2) + d.val % 32, by omega⟩ * C (side d) (freq d) - v ⟨64 * (d.val / 32 % 2) + (32 + d.val % 32), by omega⟩ * S (side d) (freq d)
  else v ⟨64 * (d.val / 32 % 2) + (32 + d.val % 32), by omega⟩ * C (side d) (freq d) + v ⟨64 * (d.val / 32 % 2) + d.val % 32, by omega⟩ * S (side d) (freq d)

/-- The column a half turn away. -/
def opp (d : Fin 128) : Fin 128 := ⟨(d.val + 64) % 128, by omega⟩

theorem mul_self_nonneg (y : EReal) : 0 ≤ y * y := by
  rcases le_total 0 y with h | h
  · exact mul_nonneg h h
  · have := EReal.neg_le_neg_iff.mpr h
    rw [neg_zero] at this
    have e := mul_nonneg this this
    rwa [neg_mul_neg] at e

theorem word_128 : Ideal.ofBits .f32 0x43000000#32 = ((128 : ℝ) : EReal) := by
  simp [Ideal.ofBits, Ideal.ieee]
  rw [← EReal.coe_mul]
  norm_num

theorem word_inv128 : Ideal.ofBits .f32 0x3C000000#32 = ((1 / 128 : ℝ) : EReal) := by
  simp [Ideal.ofBits, Ideal.ieee]
  rw [← EReal.coe_mul]
  norm_num

theorem word_eps_pos : ∃ e : ℝ, 0 < e ∧ eps = (e : EReal) := by
  refine ⟨8796093 / 8796093022208, by positivity, ?_⟩
  unfold eps
  simp [Ideal.ofBits, Ideal.ieee]
  rw [← EReal.coe_mul]
  norm_num

theorem div_128 (s : EReal) : Ideal.div s (Ideal.ofBits .f32 0x43000000#32) = s * Ideal.ofBits .f32 0x3C000000#32 := by
  rw [word_128, word_inv128]
  unfold Ideal.div
  rw [if_neg (by norm_num)]
  congr 1
  rw [← EReal.coe_inv]
  norm_num

/-- The root of a head's mean square, inverted. -/
def inv (y : Fin 128 → EReal) : EReal := Ideal.rsqrt ((∑ j, y j * y j) * Ideal.ofBits .f32 0x3C000000#32 + eps)

theorem inv_real (y : Fin 128 → EReal) : 0 ≤ inv y ∧ inv y ≠ ⊤ := by
  obtain ⟨e, he, hE⟩ := word_eps_pos
  unfold inv
  have hs : 0 ≤ (∑ j, y j * y j) * Ideal.ofBits .f32 0x3C000000#32 :=
    mul_nonneg (Finset.sum_nonneg fun j _ => mul_self_nonneg _) (by rw [word_inv128]; exact_mod_cast (by norm_num : (0 : ℝ) ≤ 1 / 128))
  rw [hE]
  generalize (∑ j, y j * y j) * Ideal.ofBits .f32 0x3C000000#32 = s at hs
  induction s with
  | bot => exact absurd hs (by simp)
  | top => rw [EReal.top_add_coe]; exact ⟨le_rfl, EReal.zero_ne_top⟩
  | coe s =>
    have h0 : (0 : ℝ) ≤ s := by exact_mod_cast hs
    rw [← EReal.coe_add]
    have : Ideal.rsqrt ((s + e : ℝ) : EReal) = (((Real.sqrt (s + e))⁻¹ : ℝ) : EReal) := by
      show (if s + e < 0 then (⊥ : EReal) else if s + e = 0 then ⊤ else _) = _
      rw [if_neg (by linarith), if_neg (by linarith)]
    rw [this]
    exact ⟨by exact_mod_cast inv_nonneg.mpr (Real.sqrt_nonneg _), EReal.coe_ne_top _⟩

theorem rms_128 (y g : Fin 128 → EReal) (j : Fin 128) : rms (Ideal.ofBits .f32 0x43000000#32) y g j = y j * inv y * g j := by
  unfold rms inv
  rw [div_128]

/-- The gain and the rotation taken before the common factor, the sine signed by its half. -/
theorem turned_eq (y g : Fin 128 → EReal) (C S : Fin 2 → Fin 32 → EReal) (y' g' co si : Fin 128 → EReal)
    (hy : ∀ d, y' d = y (swap d)) (hg : ∀ d, g' d = g (swap d)) (hc : ∀ d, co d = C (side d) (freq d))
    (hs : ∀ d, si d = if d.val < 64 then -S (side d) (freq d) else S (side d) (freq d)) (d : Fin 128) :
    (y' d * g' d * co d + y' (opp d) * g' (opp d) * si d) * Ideal.rsqrt ((∑ j, y' j * y' j) * Ideal.ofBits .f32 0x3C000000#32 + eps)
      = turned (rms (Ideal.ofBits .f32 0x43000000#32) y g) C S d := by
  have hsum : (∑ j, y' j * y' j) = ∑ j, y j * y j := by
    simp only [hy]
    exact Equiv.sum_comp swapEquiv fun j => y j * y j
  rw [hsum]
  change _ * inv y = _
  obtain ⟨h0, ht⟩ := inv_real y
  rw [EReal.right_distrib_of_nonneg_of_ne_top h0 ht]
  unfold turned
  rw [hy, hy, hg, hg, hc, hs]
  simp only [rms_128]
  have hd := d.isLt
  by_cases h : d.val < 64
  · rw [if_pos h, if_pos h, sub_eq_add_neg]
    have e1 : swap d = ⟨64 * (d.val / 32 % 2) + d.val % 32, by omega⟩ := Fin.ext (by unfold swap; dsimp only; omega)
    have e2 : swap (opp d) = ⟨64 * (d.val / 32 % 2) + (32 + d.val % 32), by omega⟩ := Fin.ext (by unfold swap opp; dsimp only; omega)
    rw [e1, e2]
    congr 1
    · ac_rfl
    · rw [mul_neg, EReal.neg_mul]
      congr 1
      ac_rfl
  · rw [if_neg h, if_neg h]
    have e1 : swap d = ⟨64 * (d.val / 32 % 2) + (32 + d.val % 32), by omega⟩ := Fin.ext (by unfold swap; dsimp only; omega)
    have e2 : swap (opp d) = ⟨64 * (d.val / 32 % 2) + d.val % 32, by omega⟩ := Fin.ext (by unfold swap opp; dsimp only; omega)
    rw [e1, e2]
    congr 1 <;> ac_rfl

end Cert.CIn

end
-- ==== Proof.CIn.Tile.lean ====
/- The second layer's input projection: one block of rows read at an index, over the extended reals. -/
module

public import proofs.«01_k».proof.Proof.Gen.Kernel6Ideal.Value
public import proofs.«01_k».proof.Proof.CIn.Spec
public import Idealize.ShloMosaic.Lib.KernelVsHost
public import Idealize.ShloMosaic.Lib.Pipeline.ValueKit

@[expose] public section

set_option maxRecDepth 16384

noncomputable section

namespace Cert.Kernel6Ideal.CIn

open Cert.Kernel6Ideal Cert.Kernel6Ideal.Gen
open Idealize.ShloMosaic Idealize.ShloMosaic.TcCoe Idealize.SL.Sem
open Cert.Rows (dot rms eps)
open Cert.CIn (opp)

/-- The normed row against one column of a matrix. -/
def col {p : ℕ} (x g : Fin 1024 → EReal) (w : Fin 1024 → Fin p → EReal) (c : Fin p) : EReal :=
  dot (rms (Ideal.ofBits .f32 0x44800000#32) x g) w c

theorem zero2 : (![0, 0] : Fin 2 → ℕ) = fun _ => 0 := by funext a; fin_cases a <;> rfl

theorem norm_apply (x : Vec Ideal S1024x1024 .f32) (g : Vec Ideal S1x1024 .f32) (r c : Fin 1024) :
    k0_pay2 (F := Ideal) x g (ix2 r c) = rms (Ideal.ofBits .f32 0x44800000#32) (fun j => x (ix2 r j)) (fun j => g (ix2 0 j)) c := by
  unfold k0_pay2
  simp only [shapeCast_self]
  exact Cert.Rows.rms_apply x g 0x44800000#32 _ _ _ _ _ _ r c

theorem prod_apply (x : Vec Ideal S1024x1024 .f32) (g : Vec Ideal S1x1024 .f32) (w : Vec Ideal S1024x256 .bf16) (r : Fin 1024) (c : Fin 256) :
    k0_pay21 (F := Ideal) (k0_pay2 x g) w (ix2 r c) = col (fun j => x (ix2 r j)) (fun j => g (ix2 0 j)) (fun k f => w (ix2 k f)) c := by
  unfold k0_pay21
  simp only [shapeCast_self]
  refine (Cert.Rows.matmul_apply _ w r c).trans (congrArg (dot · _ c) (funext fun k => norm_apply x g r k))

/-- Columns from `o` on. -/
theorem cut_apply {K N : ℕ} (o : ℕ) (y : FVec Ideal ⟨2, ![1024, K]⟩ .f32) (h : (⟨2, ![1024, K]⟩ : Shape).Slices ![0, o] ⟨2, ![1024, N]⟩)
    (r : Fin 1024) (c : Fin N) (hc : o + c.val < K) :
    extractStridedSlice ⟨2, ![1024, N]⟩ ![0, o] y h (ix2 r c) = y (ix2 r ⟨o + c.val, hc⟩) :=
  extractStridedSlice_apply _ _ h _ _ (by intro a; fin_cases a <;> simp)

/-- One head of a pair: gain, then the two halves turned against each other. -/
def spin (co si : FVec Ideal S1024x128 .f32) (z : FVec Ideal S1024x128 .f32) (g : Vec Ideal S1x128 .f32) : FVec Ideal S1024x128 .f32 :=
  addf (mulf (mulf z (broadcastTo S1024x128 g broadcasts_S1x128_S1024x128)) co)
    (mulf (dynamicRotate 1 64#32 none (mulf z (broadcastTo S1024x128 g broadcasts_S1x128_S1024x128)) rotates_S1024x128_d1) si)

theorem spin_apply (co si z : FVec Ideal S1024x128 .f32) (g : Vec Ideal S1x128 .f32) (r : Fin 1024) (d : Fin 128) :
    spin co si z g (ix2 r d) = z (ix2 r d) * g (ix2 0 d) * co (ix2 r d) + z (ix2 r (opp d)) * g (ix2 0 (opp d)) * si (ix2 r d) := by
  have hg : ∀ d : Fin 128, broadcastTo S1024x128 g broadcasts_S1x128_S1024x128 (ix2 r d) = g (ix2 0 d) := fun d =>
    broadcastTo_apply g _ _ _ (by intro a; fin_cases a <;> rfl)
  have hr : dynamicRotate 1 64#32 none (mulf z (broadcastTo S1024x128 g broadcasts_S1x128_S1024x128)) rotates_S1024x128_d1 (ix2 r d)
      = (mulf z (broadcastTo S1024x128 g broadcasts_S1x128_S1024x128)) (ix2 r (opp d)) :=
    dynamicRotate_apply (1 : Fin 2) 64#32 _ rotates_S1024x128_d1 (ix2 r d) (ix2 r (opp d)) (by
      intro b
      match b with
      | ⟨0, _⟩ => rfl
      | ⟨1, _⟩ => show (d.val + 64) % 128 = (d.val + 128 - 64) % 128; congr 1)
  show z (ix2 r d) * _ * co (ix2 r d) + dynamicRotate 1 64#32 none _ _ (ix2 r d) * si (ix2 r d) = _
  rw [hr, hg]
  show _ + z (ix2 r (opp d)) * broadcastTo S1024x128 g broadcasts_S1x128_S1024x128 (ix2 r (opp d)) * si (ix2 r d) = _
  rw [hg]

/-- A pair of heads, both over their roots of mean squares: the matrix of ones sums each head's own squares. -/
theorem pair_eq (bd : FVec Ideal S256x256 .bf16) (co si : FVec Ideal S1024x128 .f32) (y : FVec Ideal S1024x256 .f32) (g : Vec Ideal S1x128 .f32) :
    k0_pay18 (F := Ideal) bd co si y g = mulf (concatenate S1024x256 1 [⟨S1024x128, spin co si (extractStridedSlice S1024x128 ![0, 0] y slices_S1024x256_o0_0_S1024x128) g⟩,
        ⟨S1024x128, spin co si (extractStridedSlice S1024x128 ![0, 128] y slices_S1024x256_o0_128_S1024x128) g⟩] concatenates_S1024x128_S1024x128_S1024x256_d1)
      (rsqrt (addf (mulf (matmul (DotDims.plain 1024 256 256) none (truncf .bf16 (mulf y y) bitsLt_bf16_f32) bd (constant S1024x256 .f32 0x00000000#32) : FVec Ideal S1024x256 .f32)
        (broadcast S1024x256 (Scalar.ofBits .f32 0x3C000000#32 : Ideal .f32))) (broadcast S1024x256 (Scalar.ofBits .f32 0x358637BD#32 : Ideal .f32)))) := by
  unfold k0_pay18
  rw [shapeCast_self g]
  rfl

/-- A matrix of ones in its two diagonal blocks. -/
def Ones (bd : S256x256.Idx → EReal) : Prop :=
  ∀ i j : Fin 256, bd (ix2 i j) = if i.val / 128 = j.val / 128 then 1 else 0

theorem squares_apply {bd : FVec Ideal S256x256 .bf16} (hb : Ones bd) (y : FVec Ideal S1024x256 .f32) (r : Fin 1024) (h : Fin 2) (d : Fin 128) :
    (matmul (DotDims.plain 1024 256 256) none (truncf .bf16 (mulf y y) bitsLt_bf16_f32) bd (constant S1024x256 .f32 0x00000000#32) : FVec Ideal S1024x256 .f32)
        (ix2 r ⟨128 * h.val + d.val, by omega⟩)
      = ∑ j : Fin 128, y (ix2 r ⟨128 * h.val + j.val, by omega⟩) * y (ix2 r ⟨128 * h.val + j.val, by omega⟩) := by
  refine (Cert.Rows.matmul_apply _ bd r _).trans ?_
  unfold dot
  show (∑ k : Fin 256, y (ix2 r k) * y (ix2 r k) * bd (ix2 k ⟨128 * h.val + d.val, _⟩)) = _
  refine (Finset.sum_congr rfl fun k _ => congrArg (y (ix2 r k) * y (ix2 r k) * ·) (hb k _)).trans ?_
  refine (Fin.sum_univ_add (a := 128) (b := 128) fun k : Fin 256 => y (ix2 r k) * y (ix2 r k) * (if k.val / 128 = (128 * h.val + d.val) / 128 then (1 : EReal) else 0)).trans ?_
  have hd := d.isLt
  match h with
  | ⟨0, _⟩ =>
    refine (congrArg₂ (· + ·) (Finset.sum_congr rfl fun j _ => ?_) (Finset.sum_eq_zero fun j _ => ?_)).trans (add_zero _)
    · have hj := j.isLt
      rw [if_pos (by show j.val / 128 = (128 * 0 + d.val) / 128; omega), mul_one]
      have e : (Fin.castAdd 128 j : Fin 256) = ⟨128 * 0 + j.val, by omega⟩ := Fin.ext (by show j.val = 128 * 0 + j.val; omega)
      rw [e]
    · have hj := j.isLt
      rw [if_neg (by show ¬(128 + j.val) / 128 = (128 * 0 + d.val) / 128; omega), mul_zero]
  | ⟨1, _⟩ =>
    refine (congrArg₂ (· + ·) (Finset.sum_eq_zero fun j _ => ?_) (Finset.sum_congr rfl fun j _ => ?_)).trans (zero_add _)
    · have hj := j.isLt
      rw [if_neg (by show ¬j.val / 128 = (128 * 1 + d.val) / 128; omega), mul_zero]
    · have hj := j.isLt
      rw [if_pos (by show (128 + j.val) / 128 = (128 * 1 + d.val) / 128; omega), mul_one]
      have e : (Fin.natAdd 128 j : Fin 256) = ⟨128 * 1 + j.val, by omega⟩ := Fin.ext (by show 128 + j.val = 128 * 1 + j.val; omega)
      rw [e]

/-- Half `h` of two arrays side by side. -/
theorem halves_apply (a b : FVec Ideal S1024x128 .f32) (r : Fin 1024) (h : Fin 2) (d : Fin 128) :
    concatenate S1024x256 1 [⟨S1024x128, a⟩, ⟨S1024x128, b⟩] concatenates_S1024x128_S1024x128_S1024x256_d1 (ix2 r ⟨128 * h.val + d.val, by omega⟩)
      = (if h = 0 then a else b) (ix2 r d) := by
  match h with
  | ⟨0, _⟩ =>
    exact concatenate_pair_apply_left (t := S1024x256) 1 a b concatenates_S1024x128_S1024x128_S1024x256_d1 (ix2 r ⟨128 * 0 + d.val, by omega⟩) rfl (ix2 r d)
      (by intro a; fin_cases a <;> first | rfl | exact (Nat.zero_add d.val).symm)
  | ⟨1, _⟩ =>
    exact concatenate_pair_apply_right (t := S1024x256) 1 a b concatenates_S1024x128_S1024x128_S1024x256_d1 (ix2 r ⟨128 * 1 + d.val, by omega⟩) rfl rfl (ix2 r d)
      (by intro a ha; fin_cases a <;> first | rfl | exact absurd rfl ha) (Nat.add_comm d.val 128)

theorem pair_apply {bd : FVec Ideal S256x256 .bf16} (hb : Ones bd) (co si : FVec Ideal S1024x128 .f32) (y : FVec Ideal S1024x256 .f32) (g : Vec Ideal S1x128 .f32)
    (r : Fin 1024) (h : Fin 2) (d : Fin 128) :
    (k0_pay18 (F := Ideal) bd co si y g (ix2 r ⟨128 * h.val + d.val, by omega⟩) : EReal)
      = (y (ix2 r ⟨128 * h.val + d.val, by omega⟩) * g (ix2 0 d) * co (ix2 r d)
          + y (ix2 r ⟨128 * h.val + (opp d).val, by omega⟩) * g (ix2 0 (opp d)) * si (ix2 r d))
        * Ideal.rsqrt ((∑ j : Fin 128, y (ix2 r ⟨128 * h.val + j.val, by omega⟩) * y (ix2 r ⟨128 * h.val + j.val, by omega⟩)) * Ideal.ofBits .f32 0x3C000000#32 + eps) := by
  rw [pair_eq]
  refine congrArg₂ (· * ·) ((halves_apply _ _ r h d).trans ?_) (congrArg Ideal.rsqrt (congrArg₂ (· + ·) (congrArg (· * _) (squares_apply hb y r h d)) rfl))
  match h with
  | ⟨0, _⟩ =>
    show spin co si (extractStridedSlice S1024x128 ![0, 0] y slices_S1024x256_o0_0_S1024x128) g (ix2 r d) = _
    rw [spin_apply, cut_apply 0 y _ r d (by omega), cut_apply 0 y _ r (opp d) (by omega)]
    rfl
  | ⟨1, _⟩ =>
    show spin co si (extractStridedSlice S1024x128 ![0, 128] y slices_S1024x256_o0_128_S1024x128) g (ix2 r d) = _
    rw [spin_apply, cut_apply 128 y _ r d (by omega), cut_apply 128 y _ r (opp d) (by omega)]
    rfl

end Cert.Kernel6Ideal.CIn

end
-- ==== Proof.CIn.Blocks.lean ====
/- The second layer's input projection: what one grid point leaves in its three output blocks. -/
module

public import proofs.«01_k».proof.Proof.CIn.Tile

@[expose] public section

set_option maxRecDepth 16384

noncomputable section

namespace Cert.Kernel6Ideal.CIn

open Cert.Kernel6Ideal Cert.Kernel6Ideal.Gen
open Idealize.ShloMosaic Idealize.ShloMosaic.TcCoe Idealize.SL.Sem
open Cert.Rows (dot rms eps)
open Cert.CIn (opp)

/-- One entry of a head: the gained row and its half turn against the two tables, over the row's root mean square. -/
def head (y g co si : Fin 128 → EReal) (d : Fin 128) : EReal :=
  (y d * g d * co d + y (opp d) * g (opp d) * si d) * Ideal.rsqrt ((∑ j, y j * y j) * Ideal.ofBits .f32 0x3C000000#32 + eps)

/-- The normed row `r` of a block against column `f` of the matrix. -/
def tcol (x : S1024x1024.Idx → EReal) (g : S1x1024.Idx → EReal) (w : S1024x1536.Idx → EReal) (r : Fin 1024) (f : Fin 1536) : EReal :=
  col (fun j => x (ix2 r j)) (fun j => g (ix2 0 j)) (fun k f => w (ix2 k f)) f

/-- Columns of the matrix from `o` on, as they are loaded. -/
theorem cols_apply (w : Vec Ideal S1024x1536 .bf16) (o : ℕ) (ho : o + 256 ≤ 1536) (inb) (k : Fin 1024) (f : Fin 256) :
    (View.ld w (Rect.unit (s := S1024x1536) ![0, o] S1024x256.size inb) : S1024x256.Idx → EReal) (ix2 k f) = w (ix2 k ⟨o + f.val, by omega⟩) := by
  rw [View.ld_unit]
  exact extractStridedSlice_apply _ _ _ _ _ (by intro a; fin_cases a <;> simp)

/-- The product's column, the matrix read from `o` on. -/
theorem load_apply (x : Vec Ideal S1024x1024 .f32) (g : Vec Ideal S1x1024 .f32) (w : Vec Ideal S1024x1536 .bf16) (o : ℕ) (ho : o + 256 ≤ 1536) (inb)
    (r : Fin 1024) (e : Fin 256) (q : Fin 1536) (hq : q.val = o + e.val) :
    (k0_pay21 (F := Ideal) (k0_pay2 x g) (View.ld w (Rect.unit (s := S1024x1536) ![0, o] S1024x256.size inb)) (ix2 r e) : EReal) = tcol x g w r q := by
  refine (prod_apply x g _ r e).trans ?_
  unfold tcol col dot
  refine Finset.sum_congr rfl fun k _ => congrArg (fun z : EReal => _ * z) ((cols_apply w o ho inb k e).trans ?_)
  exact congrArg (fun z => w (ix2 k z)) (Fin.ext hq.symm)

/-- One piece of two heads. -/
theorem piece_apply {bd : FVec Ideal S256x256 .bf16} (hb : Ones bd) (co si : FVec Ideal S1024x128 .f32) (x : Vec Ideal S1024x1024 .f32) (g : Vec Ideal S1x1024 .f32)
    (w : Vec Ideal S1024x1536 .bf16) (gh : Vec Ideal S1x128 .f32) (o : ℕ) (ho : o + 256 ≤ 1536) (h128 : o % 128 = 0) (inb)
    (r : Fin 1024) (e : Fin 256) (q : Fin 1536) (hq : q.val = o + e.val) :
    (k0_pay18 (F := Ideal) bd co si (k0_pay21 (k0_pay2 x g) (View.ld w (Rect.unit (s := S1024x1536) ![0, o] S1024x256.size inb))) gh (ix2 r e) : EReal)
      = head (fun j => tcol x g w r ⟨128 * (q.val / 128) + j.val, by omega⟩) (fun j => gh (ix2 0 j)) (fun j => co (ix2 r j)) (fun j => si (ix2 r j))
          ⟨q.val % 128, by omega⟩ := by
  have he : e = ⟨128 * (e.val / 128) + e.val % 128, by omega⟩ := Fin.ext (by show e.val = 128 * (e.val / 128) + e.val % 128; omega)
  have hd : (⟨q.val % 128, by omega⟩ : Fin 128) = ⟨e.val % 128, by omega⟩ := Fin.ext (by show q.val % 128 = e.val % 128; omega)
  have hy : ∀ j : Fin 128, (k0_pay21 (F := Ideal) (k0_pay2 x g) (View.ld w (Rect.unit (s := S1024x1536) ![0, o] S1024x256.size inb))
      (ix2 r ⟨128 * (e.val / 128) + j.val, by omega⟩) : EReal) = tcol x g w r ⟨128 * (q.val / 128) + j.val, by omega⟩ := fun j =>
    load_apply x g w o ho inb r _ _ (by show 128 * (q.val / 128) + j.val = o + (128 * (e.val / 128) + j.val); omega)
  rw [hd]
  refine (congrArg (fun z => (k0_pay18 (F := Ideal) bd co si _ gh (ix2 r z) : EReal)) he).trans ?_
  refine (pair_apply hb co si _ gh r ⟨e.val / 128, by omega⟩ ⟨e.val % 128, by omega⟩).trans ?_
  unfold head
  refine congrArg₂ (fun a b : EReal => a * b) (congrArg₂ (fun a b : EReal => a + b) ?_ ?_) (congrArg Ideal.rsqrt (congrArg (fun z : EReal => z * _ + eps) ?_))
  · exact congrArg (fun z : EReal => z * _ * _) (hy ⟨e.val % 128, by omega⟩)
  · exact congrArg (fun z : EReal => z * _ * _) (hy (opp ⟨e.val % 128, by omega⟩))
  · exact Finset.sum_congr rfl fun j _ => congrArg₂ (fun a b : EReal => a * b) (hy j) (hy j)

/-! ## The pieces as they are stored, in one spelling -/

section
variable (bd : Vec Ideal S256x256 .bf16) (co si : Vec Ideal S1024x128 .f32) (x : Vec Ideal S1024x1024 .f32) (g : Vec Ideal S1x1024 .f32)
  (w : Vec Ideal S1024x256 .bf16) (gh : Vec Ideal S1x128 .f32)

theorem third_eq : k0_pay18 (F := Ideal) bd (k0_pay3 co) (k0_pay4 si) (k0_pay10 (k0_pay2 x g) w) gh = k0_pay18 bd co si (k0_pay21 (k0_pay2 x g) w) gh := by
  rw [show k0_pay3 (F := Ideal) co = co from shapeCast_self _ _, show k0_pay4 (F := Ideal) si = si from shapeCast_self _ _]
  rfl

theorem fourth_eq : k0_pay20 (F := Ideal) bd (k0_pay3 co) (k0_pay4 si) (k0_pay17 (k0_pay2 x g) w) gh = k0_pay18 bd co si (k0_pay21 (k0_pay2 x g) w) gh := by
  rw [show k0_pay3 (F := Ideal) co = co from shapeCast_self _ _, show k0_pay4 (F := Ideal) si = si from shapeCast_self _ _]
  rfl

theorem second_eq : k0_pay16 (F := Ideal) (k0_pay4 si) (k0_pay12 bd (k0_pay6 x g w)) (k0_pay13 (k0_pay3 co) (k0_pay4 si) (k0_pay6 x g w) gh)
    (k0_pay14 (k0_pay6 x g w) gh) (k0_pay15 (k0_pay3 co) (k0_pay6 x g w) gh) 64#32 = k0_pay18 bd co si (k0_pay21 (k0_pay2 x g) w) gh := by
  rw [show k0_pay3 (F := Ideal) co = co from shapeCast_self _ _, show k0_pay4 (F := Ideal) si = si from shapeCast_self _ _]
  rfl

theorem first_eq : k0_pay9 (F := Ideal) (k0_pay3 co) (k0_pay4 si) (k0_pay5 x g w) (k0_pay7 gh) (k0_pay8 x g bd w) (Scalar.ofBits .f32 0x358637BD#32)
    = k0_pay18 bd co si (k0_pay21 (k0_pay2 x g) w) gh := by
  rw [show k0_pay3 (F := Ideal) co = co from shapeCast_self _ _, show k0_pay4 (F := Ideal) si = si from shapeCast_self _ _]
  rfl

theorem keys_eq : k0_pay25 (F := Ideal) (k0_pay3 co) (k0_pay4 si) (k0_pay19 (k0_pay2 x g) w) (k0_pay22 gh) (k0_pay23 bd (k0_pay19 (k0_pay2 x g) w))
    (k0_pay24 (k0_pay19 (k0_pay2 x g) w)) = k0_pay18 bd co si (k0_pay21 (k0_pay2 x g) w) gh := by
  rw [show k0_pay3 (F := Ideal) co = co from shapeCast_self _ _, show k0_pay4 (F := Ideal) si = si from shapeCast_self _ _]
  rfl

end

/-- A head's values, a row per channel. -/
theorem channels_apply (y : FVec Ideal S1024x256 .f32) (o : ℕ) (hs : S1024x256.Slices ![0, o] S1024x128) (d : Fin 128) (r : Fin 1024) (ho : o + d.val < 256) :
    (shapeCast S1x1x128x1024 (truncf .bf16 (transpose S128x1024 [1, 0] (extractStridedSlice S1024x128 ![0, o] y hs) transposes_S1024x128_p1_0_S128x1024) bitsLt_bf16_f32 : FVec Ideal S128x1024 .bf16)
      shapeCasts_S128x1024_S1x1x128x1024 (ix4 0 0 d r) : EReal) = y (ix2 r ⟨o + d.val, ho⟩) := by
  refine (shapeCast_apply _ _ (ix4 0 0 d r) (ix2 d r) (by
    rw [Shape.rowMajor_val_two, Shape.rowMajor_val_four]
    show d.val * 1024 + r.val = ((0 * 1 + 0) * 128 + d.val) * 1024 + r.val
    omega)).trans ?_
  refine Eq.trans (b := (transpose S128x1024 [1, 0] (extractStridedSlice S1024x128 ![0, o] y hs) transposes_S1024x128_p1_0_S128x1024 (ix2 d r) : EReal)) rfl ?_
  exact (transpose_apply _ _ _ (ix2 d r) (ix2 r d) (fun b => match b with | ⟨0, _⟩ => rfl | ⟨1, _⟩ => rfl)).trans (cut_apply o y hs r d ho)

/-- The word of a one. -/
theorem one_half : Ideal.ofBits .bf16 0x3F80#16 = (1 : EReal) := by
  simp [Ideal.ofBits, Ideal.ieee]
  rw [← EReal.coe_mul]
  norm_num

theorem ones_apply (d : Fin 16) (r : Fin 1024) :
    (shapeCast S1x1x16x1024 (broadcast S16x1024 (Scalar.ofBits .bf16 0x3F80#16 : Ideal .bf16)) shapeCasts_S16x1024_S1x1x16x1024 (ix4 0 0 d r) : EReal) = 1 :=
  (shapeCast_apply _ _ (ix4 0 0 d r) (ix2 d r) (by
    rw [Shape.rowMajor_val_two, Shape.rowMajor_val_four]
    show d.val * 1024 + r.val = ((0 * 1 + 0) * 16 + d.val) * 1024 + r.val
    omega)).trans one_half

/-- An index of a piece of the values' block. -/
theorem at_tile {p : ℕ} (x : (⟨4, ![1, 1, p, 1024]⟩ : Shape).Idx) (r : Fin 1024) (h : r.val = (x 3).val) : x = ix4 0 0 (x 2) r := by
  funext a
  match a with
  | ⟨0, _⟩ => exact Subsingleton.elim (α := Fin 1) _ _
  | ⟨1, _⟩ => exact Subsingleton.elim (α := Fin 1) _ _
  | ⟨2, _⟩ => rfl
  | ⟨3, _⟩ => exact Fin.ext h.symm

/-- The four pieces cover the values' block. -/
theorem v_cover (p0 p2 : Vec Ideal S1x1x16x1024 .bf16) (p1 p3 : Vec Ideal S1x1x128x1024 .bf16) (g : Fin 2) (d : Fin 144) (r : Fin 1024) :
    ∃ p ∈ ([⟨Rect.unit ![0, 1, 128, 0] ![1, 1, 16, 1024] inb_S1x2x144x1024_S1x1x16x1024_0_1_128_0, p0⟩,
        ⟨Rect.unit ![0, 1, 0, 0] ![1, 1, 128, 1024] inb_S1x2x144x1024_S1x1x128x1024_0_1_0_0, p1⟩,
        ⟨Rect.unit ![0, 0, 128, 0] ![1, 1, 16, 1024] inb_S1x2x144x1024_S1x1x16x1024_0_0_128_0, p2⟩,
        ⟨Rect.unit ![0, 0, 0, 0] ![1, 1, 128, 1024] inb_S1x2x144x1024_S1x1x128x1024_0_0_0_0, p3⟩] : List (View.Piece (Elt Ideal) S1x2x144x1024 .bf16)),
      (ix4 0 g d r : S1x2x144x1024.Idx) ∈ p.1.set := by
  have hg : g.val < 2 := g.isLt
  have hd : d.val < 144 := d.isLt
  have hr : r.val < 1024 := r.isLt
  by_cases h : d.val < 128 <;> by_cases h' : g.val = 0
  · refine ⟨_, List.Mem.tail _ (List.Mem.tail _ (List.Mem.tail _ (List.Mem.head _))), ?_⟩
    rw [Rect.mem_set_unit]
    intro a
    fin_cases a
    · show 0 ≤ 0 ∧ 0 < 0 + 1; omega
    · show 0 ≤ g.val ∧ g.val < 0 + 1; omega
    · show 0 ≤ d.val ∧ d.val < 0 + 128; omega
    · show 0 ≤ r.val ∧ r.val < 0 + 1024; omega
  · refine ⟨_, List.Mem.tail _ (List.Mem.head _), ?_⟩
    rw [Rect.mem_set_unit]
    intro a
    fin_cases a
    · show 0 ≤ 0 ∧ 0 < 0 + 1; omega
    · show 1 ≤ g.val ∧ g.val < 1 + 1; omega
    · show 0 ≤ d.val ∧ d.val < 0 + 128; omega
    · show 0 ≤ r.val ∧ r.val < 0 + 1024; omega
  · refine ⟨_, List.Mem.tail _ (List.Mem.tail _ (List.Mem.head _)), ?_⟩
    rw [Rect.mem_set_unit]
    intro a
    fin_cases a
    · show 0 ≤ 0 ∧ 0 < 0 + 1; omega
    · show 0 ≤ g.val ∧ g.val < 0 + 1; omega
    · show 128 ≤ d.val ∧ d.val < 128 + 16; omega
    · show 0 ≤ r.val ∧ r.val < 0 + 1024; omega
  · refine ⟨_, List.Mem.head _, ?_⟩
    rw [Rect.mem_set_unit]
    intro a
    fin_cases a
    · show 0 ≤ 0 ∧ 0 < 0 + 1; omega
    · show 1 ≤ g.val ∧ g.val < 1 + 1; omega
    · show 128 ≤ d.val ∧ d.val < 128 + 16; omega
    · show 0 ≤ r.val ∧ r.val < 0 + 1024; omega

section
variable (m : (ℓ : Loc nD τ sig) → Buf (Elt Ideal) ℓ)

theorem out_q (c : Dev nD) (t : Fin cfg0.N) (hb : Ones (iblk m c 3 t)) (r : Fin 1024) (q : Fin 1024) :
    ((outsAt0 m c t).1 (ix2 r q) : EReal)
      = head (fun j => tcol (iblk m c 0 t) (iblk m c 1 t) (iblk m c 2 t) r ⟨128 * (q.val / 128) + j.val, by omega⟩) (fun j => iblk m c 4 t (ix2 0 j))
          (fun j => iblk m c 6 t (ix2 r j)) (fun j => iblk m c 7 t (ix2 r j)) ⟨q.val % 128, by omega⟩ := by
  unfold outsAt0
  frame_out
  have hp := fun o ho h inb e (h1 : q.val = o + e.val) => piece_apply hb (iblk m c 6 t) (iblk m c 7 t) (iblk m c 0 t) (iblk m c 1 t) (iblk m c 2 t) (iblk m c 4 t) o ho h inb r e ⟨q.val, by omega⟩ h1
  canon_tiles x h
  all_goals
    obtain ⟨e, rfl⟩ : ∃ e : Fin 256, x = ix2 r e := ⟨x 1, by
      funext a
      fin_cases a
      · exact Fin.ext h0.symm
      · rfl⟩
  case piece0 => exact (congrFun (fourth_eq _ _ _ _ _ _ _) _).trans (hp 768 (by omega) rfl inb_S1024x1536_S1024x256_0_768 e h1)
  case piece1 => exact (congrFun (third_eq _ _ _ _ _ _ _) _).trans (hp 512 (by omega) rfl inb_S1024x1536_S1024x256_0_512 e h1)
  case piece2 => exact (congrFun (second_eq _ _ _ _ _ _ _) _).trans (hp 256 (by omega) rfl inb_S1024x1536_S1024x256_0_256 e h1)
  case piece3 => exact (congrFun (first_eq _ _ _ _ _ _ _) _).trans (hp 0 (by omega) rfl inb_S1024x1536_S1024x256_0_0 e (h1.trans (Nat.zero_add _).symm))

theorem out_k (c : Dev nD) (t : Fin cfg0.N) (hb : Ones (iblk m c 3 t)) (r : Fin 1024) (q : Fin 256) :
    ((outsAt0 m c t).2.1 (ix2 r q) : EReal)
      = head (fun j => tcol (iblk m c 0 t) (iblk m c 1 t) (iblk m c 2 t) r ⟨1024 + 128 * (q.val / 128) + j.val, by omega⟩) (fun j => iblk m c 5 t (ix2 0 j))
          (fun j => iblk m c 6 t (ix2 r j)) (fun j => iblk m c 7 t (ix2 r j)) ⟨q.val % 128, by omega⟩ := by
  unfold outsAt0
  frame_out
  refine (congrFun (keys_eq _ _ _ _ _ _ _) _).trans ((piece_apply hb (iblk m c 6 t) (iblk m c 7 t) (iblk m c 0 t) (iblk m c 1 t) (iblk m c 2 t) (iblk m c 5 t) 1024 (by omega) rfl
    inb_S1024x1536_S1024x256_0_1024 r q ⟨1024 + q.val, by omega⟩ rfl).trans ?_)
  have e1 : ∀ j : Fin 128, (⟨128 * ((1024 + q.val) / 128) + j.val, by omega⟩ : Fin 1536) = ⟨1024 + 128 * (q.val / 128) + j.val, by omega⟩ := fun j => Fin.ext (by
    show 128 * ((1024 + q.val) / 128) + j.val = 1024 + 128 * (q.val / 128) + j.val
    omega)
  have e2 : (⟨(1024 + q.val) % 128, by omega⟩ : Fin 128) = ⟨q.val % 128, by omega⟩ := Fin.ext (by
    show (1024 + q.val) % 128 = q.val % 128
    omega)
  simp only [e1, e2]

theorem out_v (c : Dev nD) (t : Fin cfg0.N) (g : Fin 2) (d : Fin 144) (r : Fin 1024) :
    ((outsAt0 m c t).2.2 (ix4 0 g d r) : EReal)
      = if h : d.val < 128 then tcol (iblk m c 0 t) (iblk m c 1 t) (iblk m c 2 t) r ⟨1280 + 128 * g.val + d.val, by omega⟩ else 1 := by
  unfold outsAt0
  frame_out
  have hp := fun e q hq => load_apply (iblk m c 0 t) (iblk m c 1 t) (iblk m c 2 t) 1280 (by omega) inb_S1024x1536_S1024x256_0_1280 r e q hq
  canon_tiles x h using v_cover _ _ _ _ g d r
  case piece0 =>
    obtain ⟨e, rfl⟩ : ∃ e : Fin 16, x = ix4 0 0 e r := ⟨x 2, at_tile x r h3⟩
    rw [dif_neg (by have : d.val = 128 + e.val := h2; omega)]
    exact ones_apply e r
  case piece1 =>
    obtain ⟨e, rfl⟩ : ∃ e : Fin 128, x = ix4 0 0 e r := ⟨x 2, at_tile x r h3⟩
    have hd : d.val = e.val := h2
    have hg : g.val = 1 := h1
    rw [dif_pos (by omega)]
    exact (channels_apply _ 128 slices_S1024x256_o0_128_S1024x128 e r (by omega)).trans (hp _ _ (by
      show 1280 + 128 * g.val + d.val = 1280 + (128 + e.val)
      omega))
  case piece2 =>
    obtain ⟨e, rfl⟩ : ∃ e : Fin 16, x = ix4 0 0 e r := ⟨x 2, at_tile x r h3⟩
    rw [dif_neg (by have : d.val = 128 + e.val := h2; omega)]
    exact ones_apply e r
  case piece3 =>
    obtain ⟨e, rfl⟩ : ∃ e : Fin 128, x = ix4 0 0 e r := ⟨x 2, at_tile x r h3⟩
    have hd : d.val = e.val := h2
    have hg : g.val = 0 := h1
    rw [dif_pos (by omega)]
    exact (channels_apply _ 0 slices_S1024x256_o0_0_S1024x128 e r (by omega)).trans (hp _ _ (by
      show 1280 + 128 * g.val + d.val = 1280 + (0 + e.val)
      omega))

end

end Cert.Kernel6Ideal.CIn

end
-- ==== Proof.CIn.Fun.lean ====
/- The second layer's input projection: the three results as functions of the arguments. -/
module

public import proofs.«01_k».proof.Proof.CIn.Blocks
public import proofs.«01_k».proof.Proof.In.Value

@[expose] public section

set_option maxRecDepth 16384

noncomputable section

namespace Cert.Kernel6Ideal.CIn

open Cert.Kernel6Ideal
open Idealize.ShloMosaic Idealize.ShloMosaic.TcCoe
open Cert.Rows (dot rms)
open Cert.CIn (turned)

/-- Token `(b, n)`'s row normed, against one column of the input matrix. -/
def wcol (X : S8x4096x1024.Idx → EReal) (N : S1x1024.Idx → EReal) (W : S1x1024x1536.Idx → EReal) (b : Fin 8) (n : Fin 4096) (c : Fin 1536) : EReal :=
  col (fun j => X (ix3 b n j)) (fun j => N (ix2 0 j)) (fun k f => W (ix3 0 k f)) c

/-- A token's angles, the row's and the column's. -/
def angles (R C : S4096x32.Idx → EReal) (n : Fin 4096) (a : Fin 2) (f : Fin 32) : EReal :=
  if a = 0 then R (ix2 n f) else C (ix2 n f)

/-- Heads of 128 channels from column `o` on: each normed and turned by the token's angles. -/
def spun {p : ℕ} (o : ℕ) (h : o + p ≤ 1536) (hp : p % 128 = 0) (X : S8x4096x1024.Idx → EReal) (N : S1x1024.Idx → EReal) (W : S1x1024x1536.Idx → EReal)
    (G : S1x128.Idx → EReal) (Cr Sr Cc Sc : S4096x32.Idx → EReal) (b : Fin 8) (n : Fin 4096) (c : Fin p) : EReal :=
  turned (rms (Ideal.ofBits .f32 0x43000000#32) (fun j => wcol X N W b n ⟨o + 128 * (c.val / 128) + j.val, by omega⟩) (fun j => G (ix2 0 j)))
    (angles Cr Cc n) (angles Sr Sc n) ⟨c.val % 128, by omega⟩

/-- The values, a row per channel, and under each head's rows sixteen rows of ones. -/
def value (X : S8x4096x1024.Idx → EReal) (N : S1x1024.Idx → EReal) (W : S1x1024x1536.Idx → EReal) (b : Fin 8) (g : Fin 2) (d : Fin 144) (n : Fin 4096) : EReal :=
  if h : d.val < 128 then wcol X N W b n ⟨1280 + 128 * g.val + d.val, by omega⟩ else 1

/-- An array of the values' shape by its entries. -/
def arrV (v : Fin 8 → Fin 2 → Fin 144 → Fin 4096 → EReal) : S8x2x144x4096.Idx → EReal := fun i => v (i 0) (i 1) (i 2) (i 3)

end Cert.Kernel6Ideal.CIn

end
-- ==== Proof.CIn.Ones.lean ====
/- The second layer's matrix of ones, word by word. -/
module

public import proofs.«01_k».proof.Proof.CIn.Blocks

@[expose] public section

set_option maxRecDepth 65536

noncomputable section

namespace Cert.Kernel6Ideal.CIn

open Cert.Kernel6Ideal
open Idealize.ShloMosaic Idealize.ShloMosaic.TcCoe

theorem one_word (i : ℕ) : lit1t0_0 i = 0x3F80#16 := by
  have h : i % 128 < 128 := Nat.mod_lt _ (by decide)
  unfold lit1t0_0
  generalize i % 128 = j at h ⊢
  revert j
  decide +kernel

theorem zero_word (i : ℕ) : lit1t0_1 i = 0#16 := by
  have h : i % 128 < 128 := Nat.mod_lt _ (by decide)
  unfold lit1t0_1
  generalize i % 128 = j at h ⊢
  revert j
  decide +kernel

/-- Every half row of the matrix is one of its first two: `a` is the quarter of the rows, `b` the half row in it. -/
theorem half_row (a : Fin 4) (b : Fin 128) (i : ℕ) (ha : i / 16384 = a.val) (hb : i / 128 % 128 = b.val) :
    lit1t i = if a.val / 2 = b.val % 2 then lit1t0_0 i else lit1t0_1 i := by
  unfold lit1t
  rw [ha]
  fin_cases a
  · show lit1t1_0 i = _
    unfold lit1t1_0
    rw [hb]
    fin_cases b <;> rfl
  · show lit1t1_1 i = _
    unfold lit1t1_1
    rw [hb]
    fin_cases b <;> rfl
  · show lit1t1_2 i = _
    unfold lit1t1_2
    rw [hb]
    fin_cases b <;> rfl
  · show lit1t1_3 i = _
    unfold lit1t1_3
    rw [hb]
    fin_cases b <;> rfl

/-- The words of the matrix: a one's inside the two diagonal blocks, a zero's outside. -/
theorem words (r k : Fin 256) : lit1t (256 * r.val + k.val) = if r.val / 128 = k.val / 128 then 0x3F80#16 else 0#16 := by
  have hr := r.isLt
  have hk := k.isLt
  refine (half_row ⟨r.val / 64, by omega⟩ ⟨(2 * r.val + k.val / 128) % 128, by omega⟩ _ (by show (256 * r.val + k.val) / 16384 = r.val / 64; omega)
    (by show (256 * r.val + k.val) / 128 % 128 = (2 * r.val + k.val / 128) % 128; omega)).trans ?_
  rw [one_word, zero_word]
  refine if_congr ?_ rfl rfl
  show r.val / 64 / 2 = (2 * r.val + k.val / 128) % 128 % 2 ↔ r.val / 128 = k.val / 128
  have h1 : (2 * r.val + k.val / 128) % 128 % 2 = (2 * r.val + k.val / 128) % 2 := Nat.mod_mod_of_dvd _ (by decide)
  have h2 : r.val / 64 / 2 = r.val / 128 := Nat.div_div_eq_div_mul _ _ _
  rw [h1, h2]
  omega

theorem zero_half : Ideal.ofBits .bf16 0#16 = (0 : EReal) := by
  simp [Ideal.ofBits, Ideal.ieee]

theorem ones_words : Ones (fun i => (FloatOps.ofBits .bf16 (lit1 (S256x256.rowMajor i)) : Ideal .bf16)) := by
  intro i j
  have hp : (S256x256.rowMajor (ix2 i j)).val = 256 * i.val + j.val := by
    rw [Shape.rowMajor_val_two]
    show i.val * 256 + j.val = _
    omega
  have hw : lit1 (S256x256.rowMajor (ix2 i j)) = if i.val / 128 = j.val / 128 then 0x3F80#16 else 0#16 :=
    (congrArg lit1t hp).trans (words i j)
  refine (congrArg (Ideal.ofBits .bf16) hw).trans ?_
  split
  · exact one_half
  · exact zero_half

end Cert.Kernel6Ideal.CIn

end
-- ==== Proof.CIn.Value.lean ====
/- The three results of the second layer's input projection, each as one function of its arguments. -/
module

public import proofs.«01_k».proof.Proof.CIn.Fun
public import proofs.«01_k».proof.Proof.CIn.Ones

@[expose] public section

set_option maxRecDepth 16384

noncomputable section

namespace Cert.Kernel6Ideal.CIn

open Cert.Kernel6Ideal Cert.Kernel6Ideal.Gen
open Idealize.ShloMosaic Idealize.ShloMosaic.TcCoe Idealize.SL.Sem
open Cert.Rows (dot rms)
open Cert.CIn (turned swap side freq opp turned_eq)
open Cert.Kernel5Ideal.In (arr place)

section
variable (m : (ℓ : Loc nD τ sig) → Buf (Elt Ideal) ℓ)

abbrev Xa (c : Dev nD) : S8x4096x1024.Idx → EReal := m ((c.tc : Thread nD τ).loc main_arg0)
abbrev Na (c : Dev nD) : S1x1024.Idx → EReal := m ((c.tc : Thread nD τ).loc main_arg1)
abbrev Wa (c : Dev nD) : S1x1024x1536.Idx → EReal := m ((c.tc : Thread nD τ).loc main_arg2)
abbrev Qa (c : Dev nD) : S1x128.Idx → EReal := m ((c.tc : Thread nD τ).loc main_arg3)
abbrev Ka (c : Dev nD) : S1x128.Idx → EReal := m ((c.tc : Thread nD τ).loc main_arg4)
abbrev Cra (c : Dev nD) : S4096x32.Idx → EReal := m ((c.tc : Thread nD τ).loc main_arg5)
abbrev Sra (c : Dev nD) : S4096x32.Idx → EReal := m ((c.tc : Thread nD τ).loc main_arg6)
abbrev Cca (c : Dev nD) : S4096x32.Idx → EReal := m ((c.tc : Thread nD τ).loc main_arg7)
abbrev Sca (c : Dev nD) : S4096x32.Idx → EReal := m ((c.tc : Thread nD τ).loc main_arg8)

/-! ## The operands as the kernel finds them -/

theorem x_apply (c : Dev nD) (i : Fin 32768) (k : Fin 1024) :
    (V m c main_v8 : S32768x1024.Idx → EReal) (ix2 i k) = Xa m c (ix3 ⟨i.val / 4096, by omega⟩ ⟨i.val % 4096, by omega⟩ k) := by
  have e : (V m c main_v8 : S32768x1024.Idx → EReal) = shapeCast S32768x1024 (Xa m c) shapeCasts_S8x4096x1024_S32768x1024 := by
    entry_read
    rfl
  rw [e]
  exact Cert.Rows.rows_apply _ _ i k _ _

theorem n_apply (c : Dev nD) (k : Fin 1024) : (V m c main_v10 : S1x1024.Idx → EReal) (ix2 0 k) = Na m c (ix2 0 k) := by
  have e : (V m c main_v10 : S1x1024.Idx → EReal) = broadcastInDim S1x1024 ![1] bcast_S1024_S1x1024_1 (shapeCast S1024 (Na m c) shapeCasts_S1x1024_S1024) := by
    entry_read
    rfl
  rw [e]
  refine (broadcastInDim_apply _ _ _ (ix2 0 k) (ix1 k) (by intro a; fin_cases a; rfl)).trans ?_
  exact shapeCast_apply _ _ (ix1 k) (ix2 0 k) (by rw [Shape.rowMajor_val_one, Shape.rowMajor_val_two]; simp)

/-- The input matrix's columns for the heads, each head's halves of the two axes side by side. -/
abbrev heads (w : S1024x1536.Idx → EReal) : S1024x1280.Idx → EReal :=
  shapeCast S1024x1280 (transpose S1024x10x2x2x32 [0, 1, 3, 2, 4] (shapeCast S1024x10x2x2x32
    (extractStridedSlice S1024x1280 ![0, 0] w slices_S1024x1536_S1024x1280_0_0) shapeCasts_S1024x1280_S1024x10x2x2x32) transposes_S1024x10x2x2x32_S1024x10x2x2x32_0_1_3_2_4)
    shapeCasts_S1024x10x2x2x32_S1024x1280

theorem w_eq (c : Dev nD) : (V m c main_v7 : S1024x1536.Idx → EReal)
    = concatenate S1024x1536 1 [⟨S1024x1280, heads (shapeCast S1024x1536 (Wa m c) shapeCasts_S1x1024x1536_S1024x1536)⟩,
      ⟨S1024x256, extractStridedSlice S1024x256 ![0, 1280] (shapeCast S1024x1536 (Wa m c) shapeCasts_S1x1024x1536_S1024x1536) slices_S1024x1536_S1024x256_0_1280⟩]
      concatenates_S1024x1280_S1024x256_S1024x1536_d1 := by
  entry_read
  rfl

theorem heads_apply (w : S1024x1536.Idx → EReal) (k : Fin 1024) (h : Fin 10) (d : Fin 128) :
    heads w (ix2 k ⟨128 * h.val + d.val, by omega⟩) = w (ix2 k ⟨128 * h.val + (swap d).val, by omega⟩) := by
  refine (shapeCast_apply _ _ _ (ix5 k h ⟨d.val / 64, by omega⟩ ⟨d.val / 32 % 2, by omega⟩ ⟨d.val % 32, by omega⟩) (by
    rw [Shape.rowMajor_val_two, Shape.rowMajor_val_five]
    show (((k.val * 10 + h.val) * 2 + d.val / 64) * 2 + d.val / 32 % 2) * 32 + d.val % 32 = k.val * 1280 + (128 * h.val + d.val)
    omega)).trans ?_
  refine (transpose_apply _ _ _ _ (ix5 k h ⟨d.val / 32 % 2, by omega⟩ ⟨d.val / 64, by omega⟩ ⟨d.val % 32, by omega⟩)
    (fun b => match b with | ⟨0, _⟩ => rfl | ⟨1, _⟩ => rfl | ⟨2, _⟩ => rfl | ⟨3, _⟩ => rfl | ⟨4, _⟩ => rfl)).trans ?_
  refine (shapeCast_apply _ _ _ (ix2 k ⟨128 * h.val + (swap d).val, by omega⟩) (by
    rw [Shape.rowMajor_val_two, Shape.rowMajor_val_five]
    show k.val * 1280 + (128 * h.val + (64 * (d.val / 32 % 2) + 32 * (d.val / 64) + d.val % 32)) = (((k.val * 10 + h.val) * 2 + d.val / 32 % 2) * 2 + d.val / 64) * 32 + d.val % 32
    omega)).trans ?_
  exact extractStridedSlice_apply _ _ _ _ _ (by intro a; fin_cases a <;> simp)

theorem wh_apply (c : Dev nD) (k : Fin 1024) (h : Fin 10) (d : Fin 128) :
    (V m c main_v7 : S1024x1536.Idx → EReal) (ix2 k ⟨128 * h.val + d.val, by omega⟩) = Wa m c (ix3 0 k ⟨128 * h.val + (swap d).val, by omega⟩) := by
  rw [w_eq]
  refine (concatenate_pair_apply_left (t := S1024x1536) 1 _ _ concatenates_S1024x1280_S1024x256_S1024x1536_d1 (ix2 k ⟨128 * h.val + d.val, by omega⟩) rfl
    (ix2 k ⟨128 * h.val + d.val, by omega⟩) (by intro a; fin_cases a <;> rfl)).trans ?_
  exact (heads_apply _ k h d).trans (Cert.Rows.drop_apply _ _ _ _)

theorem wv_apply (c : Dev nD) (k : Fin 1024) (f : Fin 256) :
    (V m c main_v7 : S1024x1536.Idx → EReal) (ix2 k ⟨1280 + f.val, by omega⟩) = Wa m c (ix3 0 k ⟨1280 + f.val, by omega⟩) := by
  rw [w_eq]
  refine (concatenate_pair_apply_right (t := S1024x1536) 1 _ _ concatenates_S1024x1280_S1024x256_S1024x1536_d1 (ix2 k ⟨1280 + f.val, by omega⟩) rfl rfl
    (ix2 k f) (by intro a ha; fin_cases a <;> first | rfl | exact absurd rfl ha) (Nat.add_comm f.val 1280)).trans ?_
  refine (extractStridedSlice_apply _ _ _ _ (ix2 k ⟨1280 + f.val, by omega⟩) (by intro a; fin_cases a <;> simp)).trans ?_
  exact Cert.Rows.drop_apply _ _ _ _

/-! The heads' gains, taken in the order of the columns. -/

/-- The order of the columns as it is written. -/
abbrev order : S128.Idx → BitVec 32 := select (constantI S128 1 0#1) (addi (fun i => lit0 (S128.rowMajor i)) (broadcastInDim S128 ![] bcast_S_S128 (constantI S_ 32 128#32)))
  (fun i => lit0 (S128.rowMajor i))

theorem lit_swap : ∀ d : Fin 128, min (lit0 d).toInt.toNat 127 = (swap d).val := by decide +kernel

theorem order_apply (d : Fin 128) : order (ix1 d) = lit0 d := by
  have hr : (S128.rowMajor (ix1 d) : Fin 128) = d := Fin.ext (Shape.rowMajor_val_one _)
  exact congrArg lit0 hr

theorem gather_apply (x : S128.Idx → EReal) (y : S128x1.Idx → BitVec 32) (d : Fin 128) :
    Host.gather gather_S128_S128x1_S128_n_0_n_n_0_1_1 x y (ix1 d) = x (ix1 ⟨min (y (ix2 d 0)).toInt.toNat 127, by omega⟩) := by
  let dims := gather_S128_S128x1_S128_n_0_n_n_0_1_1
  unfold Host.gather
  congr 1
  funext a
  obtain rfl : a = 0 := Subsingleton.elim _ _
  refine Fin.ext ?_
  show dims.start (ix1 d) y 0 + dims.batchCoord (ix1 d) 0 + dims.offCoord (ix1 d) 0 = _
  rw [GatherDims.batchCoord_eq_zero _ _ _ List.not_mem_nil, GatherDims.offCoord_eq_zero _ _ _ (fun h => ((GatherDims.mem_sKept _ _).mp h).1 (List.mem_singleton.mpr rfl))]
  simp only [Nat.add_zero]
  unfold GatherDims.start
  rw [dif_pos (show (0 : Fin 1) ∈ dims.startIndexMap from List.mem_singleton.mpr rfl)]
  have hsi : dims.siIdx (ix1 d) ⟨List.idxOf (0 : Fin 1) dims.startIndexMap, List.idxOf_lt_length_iff.2 (List.mem_singleton.mpr rfl)⟩ = (ix2 d 0 : S128x1.Idx) := by
    funext a
    fin_cases a <;> rfl
  rw [hsi]
  rfl

theorem gain_apply (G : S1x128.Idx → EReal) (d : Fin 128) :
    broadcastInDim S1x128 ![1] bcast_S128_S1x128_1 (Host.gather gather_S128_S128x1_S128_n_0_n_n_0_1_1 (shapeCast S128 G shapeCasts_S1x128_S128)
      (broadcastInDim S128x1 ![0] bcast_S128_S128x1_0 order)) (ix2 0 d) = G (ix2 0 (swap d)) := by
  refine (broadcastInDim_apply _ _ _ (ix2 0 d) (ix1 d) (by intro a; fin_cases a; rfl)).trans ?_
  refine (gather_apply _ _ d).trans ?_
  have ho : broadcastInDim S128x1 ![0] bcast_S128_S128x1_0 order (ix2 d 0) = lit0 d :=
    (broadcastInDim_apply _ _ _ (ix2 d 0) (ix1 d) (by intro a; fin_cases a; rfl)).trans (order_apply d)
  have hi : (⟨min (broadcastInDim S128x1 ![0] bcast_S128_S128x1_0 order (ix2 d 0)).toInt.toNat 127, by omega⟩ : Fin 128) = swap d :=
    Fin.ext ((congrArg (fun z : BitVec 32 => min z.toInt.toNat 127) ho).trans (lit_swap d))
  refine (congrArg (fun z => shapeCast S128 G shapeCasts_S1x128_S128 (ix1 z)) hi).trans ?_
  exact shapeCast_apply _ _ (ix1 (swap d)) (ix2 0 (swap d)) (by rw [Shape.rowMajor_val_one, Shape.rowMajor_val_two]; simp)

theorem qg_apply (c : Dev nD) (d : Fin 128) : (V m c main_v17 : S1x128.Idx → EReal) (ix2 0 d) = Qa m c (ix2 0 (swap d)) := by
  have e : (V m c main_v17 : S1x128.Idx → EReal) = broadcastInDim S1x128 ![1] bcast_S128_S1x128_1 (Host.gather gather_S128_S128x1_S128_n_0_n_n_0_1_1
      (shapeCast S128 (Qa m c) shapeCasts_S1x128_S128) (broadcastInDim S128x1 ![0] bcast_S128_S128x1_0 order)) := by
    entry_read
    rfl
  rw [e]
  exact gain_apply _ d

theorem kg_apply (c : Dev nD) (d : Fin 128) : (V m c main_v24 : S1x128.Idx → EReal) (ix2 0 d) = Ka m c (ix2 0 (swap d)) := by
  have e : (V m c main_v24 : S1x128.Idx → EReal) = broadcastInDim S1x128 ![1] bcast_S128_S1x128_1 (Host.gather gather_S128_S128x1_S128_n_0_n_n_0_1_1
      (shapeCast S128 (Ka m c) shapeCasts_S1x128_S128) (broadcastInDim S128x1 ![0] bcast_S128_S128x1_0 order)) := by
    entry_read
    rfl
  rw [e]
  exact gain_apply _ d

/-! The matrix of ones. -/

theorem ones_apply' (c : Dev nD) : Ones (V m c main_cst) := by
  have e : (V m c main_cst : S256x256.Idx → EReal) = fun i => (FloatOps.ofBits .bf16 (lit1 (S256x256.rowMajor i)) : Ideal .bf16) := by
    entry_read
    rfl
  rw [e]
  exact ones_words

/-! The tables of angles. -/

theorem four_apply (p : Fin 4 → S4096x32.Idx → EReal) (n : Fin 4096) (q : Fin 4) (f : Fin 32) :
    concatenate S4096x128 1 [⟨S4096x32, p 0⟩, ⟨S4096x32, p 1⟩, ⟨S4096x32, p 2⟩, ⟨S4096x32, p 3⟩] concatenates_S4096x32_S4096x32_S4096x32_S4096x32_S4096x128_d1
      (ix2 n ⟨32 * q.val + f.val, by omega⟩) = p q (ix2 n f) := by
  fin_cases q
  · exact concatenate_apply_piece (t := S4096x128) 1 _ _ (ix2 n ⟨32 * 0 + f.val, by omega⟩) 0 (by show 0 < 4; decide) S4096x32 _ rfl rfl 0 rfl (ix2 n f)
      (by intro a ha; fin_cases a <;> first | rfl | exact absurd rfl ha) rfl
  · exact concatenate_apply_piece (t := S4096x128) 1 _ _ (ix2 n ⟨32 * 1 + f.val, by omega⟩) 1 (by show 1 < 4; decide) S4096x32 _ rfl rfl 32 rfl (ix2 n f)
      (by intro a ha; fin_cases a <;> first | rfl | exact absurd rfl ha) rfl
  · exact concatenate_apply_piece (t := S4096x128) 1 _ _ (ix2 n ⟨32 * 2 + f.val, by omega⟩) 2 (by show 2 < 4; decide) S4096x32 _ rfl rfl 64 rfl (ix2 n f)
      (by intro a ha; fin_cases a <;> first | rfl | exact absurd rfl ha) rfl
  · exact concatenate_apply_piece (t := S4096x128) 1 _ _ (ix2 n ⟨32 * 3 + f.val, by omega⟩) 3 (by show 3 < 4; decide) S4096x32 _ rfl rfl 96 rfl (ix2 n f)
      (by intro a ha; fin_cases a <;> first | rfl | exact absurd rfl ha) rfl

theorem table_apply (p : Fin 4 → S4096x32.Idx → EReal) (n : Fin 4096) (d : Fin 128) :
    concatenate S4096x128 1 [⟨S4096x32, p 0⟩, ⟨S4096x32, p 1⟩, ⟨S4096x32, p 2⟩, ⟨S4096x32, p 3⟩] concatenates_S4096x32_S4096x32_S4096x32_S4096x32_S4096x128_d1
      (ix2 n d) = p ⟨d.val / 32, by omega⟩ (ix2 n (freq d)) := by
  obtain ⟨q, f, rfl⟩ : ∃ (q : Fin 4) (f : Fin 32), d = ⟨32 * q.val + f.val, by omega⟩ :=
    ⟨⟨d.val / 32, by omega⟩, ⟨d.val % 32, by omega⟩, Fin.ext (by show d.val = 32 * (d.val / 32) + d.val % 32; omega)⟩
  refine (four_apply p n q f).trans (congrArg₂ (fun a b => p a (ix2 n b)) (Fin.ext ?_) (Fin.ext ?_))
  · show q.val = (32 * q.val + f.val) / 32
    omega
  · show f.val = (32 * q.val + f.val) % 32
    omega

theorem co_apply (c : Dev nD) (n : Fin 4096) (d : Fin 128) :
    (V m c main_v25 : S4096x128.Idx → EReal) (ix2 n d) = angles (Cra m c) (Cca m c) n (side d) (freq d) := by
  have e : (V m c main_v25 : S4096x128.Idx → EReal) = concatenate S4096x128 1 [⟨S4096x32, Cra m c⟩, ⟨S4096x32, Cca m c⟩, ⟨S4096x32, Cra m c⟩, ⟨S4096x32, Cca m c⟩]
      concatenates_S4096x32_S4096x32_S4096x32_S4096x32_S4096x128_d1 := by
    entry_read
    rfl
  rw [e]
  refine (table_apply (fun q => if q.val % 2 = 0 then Cra m c else Cca m c) n d).trans ?_
  unfold angles
  have hs : (side d = 0) ↔ d.val / 32 % 2 = 0 := Fin.ext_iff
  by_cases h : d.val / 32 % 2 = 0
  · rw [if_pos (hs.2 h)]; exact congrFun (if_pos h) _
  · rw [if_neg (fun h' => h (hs.1 h'))]; exact congrFun (if_neg h) _

/-- The host operations that make the sines' table. -/
abbrev sines {F : FTy → Type} [FloatOps F] : List (HloOp τ sig (Elt F)) :=
  [ StableHlo.unary main_arg6 main_v26 (Host.negf : (⟨S4096x32, .f32⟩ : BufTy).Contents (Elt F) → (⟨S4096x32, .f32⟩ : BufTy).Contents (Elt F)),
    StableHlo.unary main_arg8 main_v27 (Host.negf : (⟨S4096x32, .f32⟩ : BufTy).Contents (Elt F) → (⟨S4096x32, .f32⟩ : BufTy).Contents (Elt F)),
    StableHlo.nary ![main_v26, main_v27, main_arg6, main_arg8] main_v28 (fun u => (concatenate S4096x128 1 [⟨S4096x32, (u 0 : (⟨S4096x32, .f32⟩ : BufTy).Contents (Elt F))⟩, ⟨S4096x32, (u 1 : (⟨S4096x32, .f32⟩ : BufTy).Contents (Elt F))⟩, ⟨S4096x32, (u 2 : (⟨S4096x32, .f32⟩ : BufTy).Contents (Elt F))⟩, ⟨S4096x32, (u 3 : (⟨S4096x32, .f32⟩ : BufTy).Contents (Elt F))⟩] concatenates_S4096x32_S4096x32_S4096x32_S4096x32_S4096x128_d1 : (⟨S4096x128, .f32⟩ : BufTy).Contents (Elt F))) ]

theorem after_split (l₁ l₂ : List (HloOp τ sig (Elt Ideal))) (σ : Valuation τ sig (Elt Ideal)) : StableHlo.after (l₁ ++ l₂) σ = StableHlo.after l₂ (StableHlo.after l₁ σ) := by
  induction l₁ generalizing σ with
  | nil => rfl
  | cons op l ih => exact ih _

theorem split : (hostOps0 : List (HloOp τ sig (Elt Ideal))) = hostOps0.take 32 ++ sines (F := Ideal) := rfl

/-- Four columns of angles put side by side. -/
abbrev sideBySide {F : FTy → Type} [FloatOps F] (a b c d : (⟨S4096x32, .f32⟩ : BufTy).Contents (Elt F)) : (⟨S4096x128, .f32⟩ : BufTy).Contents (Elt F) :=
  concatenate S4096x128 1 [⟨S4096x32, a⟩, ⟨S4096x32, b⟩, ⟨S4096x32, c⟩, ⟨S4096x32, d⟩] concatenates_S4096x32_S4096x32_S4096x32_S4096x32_S4096x128_d1

theorem sines_read {F : FTy → Type} [FloatOps F] (σ : Valuation τ sig (Elt F)) (R C : (⟨S4096x32, .f32⟩ : BufTy).Contents (Elt F))
    (hR : σ (Proc.devRef .tc main_arg6) = R) (hC : σ (Proc.devRef .tc main_arg8) = C) :
    StableHlo.after (sines (F := F)) σ (Proc.devRef .tc main_v28) = sideBySide (F := F) (Host.negf R) (Host.negf C) R C := by
  let n : (⟨S4096x32, .f32⟩ : BufTy).Contents (Elt F) → (⟨S4096x32, .f32⟩ : BufTy).Contents (Elt F) := Host.negf
  let o₁ : HloOp τ sig (Elt F) := StableHlo.unary main_arg6 main_v26 n
  let o₂ : HloOp τ sig (Elt F) := StableHlo.unary main_arg8 main_v27 n
  have a : o₂.result (o₁.result σ) (Proc.devRef .tc main_v26) = n R :=
    (StableHlo.unary_result_ne (x := main_arg8) (y := main_v27) n _ _ _ (by decide)).trans
      ((StableHlo.unary_result main_arg6 main_v26 n _ _ σ).trans (congrArg n hR))
  have b : o₂.result (o₁.result σ) (Proc.devRef .tc main_v27) = n C :=
    (StableHlo.unary_result main_arg8 main_v27 n _ _ _).trans
      (congrArg n ((StableHlo.unary_result_ne (x := main_arg6) (y := main_v26) n _ _ σ (by decide)).trans hC))
  have c : o₂.result (o₁.result σ) (Proc.devRef .tc main_arg6) = R :=
    (StableHlo.unary_result_ne (x := main_arg8) (y := main_v27) n _ _ _ (by decide)).trans
      ((StableHlo.unary_result_ne (x := main_arg6) (y := main_v26) n _ _ σ (by decide)).trans hR)
  have d : o₂.result (o₁.result σ) (Proc.devRef .tc main_arg8) = C :=
    (StableHlo.unary_result_ne (x := main_arg8) (y := main_v27) n _ _ _ (by decide)).trans
      ((StableHlo.unary_result_ne (x := main_arg6) (y := main_v26) n _ _ σ (by decide)).trans hC)
  let f : ((k : Fin 4) → ((![main_v26, main_v27, main_arg6, main_arg8] : Fin 4 → Ref sig .tc) k).ty.Contents (Elt F)) → main_v28.ty.Contents (Elt F) :=
    fun u => sideBySide (F := F) (u 0) (u 1) (u 2) (u 3)
  have e : StableHlo.after (sines (F := F)) σ
      = (StableHlo.nary ![main_v26, main_v27, main_arg6, main_arg8] main_v28 f : HloOp τ sig (Elt F)).result (o₂.result (o₁.result σ)) := by
    simp only [sines, StableHlo.after_cons, StableHlo.after_nil]
    rfl
  refine (congrFun e _).trans ((StableHlo.nary_result ![main_v26, main_v27, main_arg6, main_arg8] main_v28 f _ _ (o₂.result (o₁.result σ))).trans ?_)
  show sideBySide (F := F) (o₂.result (o₁.result σ) (Proc.devRef .tc main_v26)) (o₂.result (o₁.result σ) (Proc.devRef .tc main_v27))
    (o₂.result (o₁.result σ) (Proc.devRef .tc main_arg6)) (o₂.result (o₁.result σ) (Proc.devRef .tc main_arg8)) = _
  rw [a, b, c, d]

theorem kept (c : Dev nD) (r : Ref sig .tc) (h : ∀ op ∈ (hostOps0 : List (HloOp τ sig (Elt Ideal))), (Proc.devRef .tc r : DevRef τ sig) ∉ op.writes) :
    StableHlo.after ((hostOps0 : List (HloOp τ sig (Elt Ideal))).take 32) (fun b => m (c, b)) r = m ((c.tc : Thread nD τ).loc r) :=
  StableHlo.after_of_forall_not_mem (b := Proc.devRef .tc r) _ _ fun op ho => h op (List.mem_of_mem_take ho)

theorem unwritten6 : ∀ op ∈ (hostOps0 : List (HloOp τ sig (Elt Ideal))), (Proc.devRef .tc main_arg6 : DevRef τ sig) ∉ op.writes :=
  List.forall_iff_forall_mem.mp (by
    simp only [hostOps0, List.Forall, StableHlo.nullary_writes, StableHlo.unary_writes, StableHlo.binary_writes, StableHlo.ternary_writes, StableHlo.reshape_writes,
      StableHlo.nary_writes, Finset.mem_singleton]
    repeat' apply And.intro
    all_goals exact StableHlo.devRef_ne_of_ne (by decide))

theorem unwritten8 : ∀ op ∈ (hostOps0 : List (HloOp τ sig (Elt Ideal))), (Proc.devRef .tc main_arg8 : DevRef τ sig) ∉ op.writes :=
  List.forall_iff_forall_mem.mp (by
    simp only [hostOps0, List.Forall, StableHlo.nullary_writes, StableHlo.unary_writes, StableHlo.binary_writes, StableHlo.ternary_writes, StableHlo.reshape_writes,
      StableHlo.nary_writes, Finset.mem_singleton]
    repeat' apply And.intro
    all_goals exact StableHlo.devRef_ne_of_ne (by decide))

theorem si_apply (c : Dev nD) (n : Fin 4096) (d : Fin 128) :
    (V m c main_v28 : S4096x128.Idx → EReal) (ix2 n d)
      = if d.val < 64 then -angles (Sra m c) (Sca m c) n (side d) (freq d) else angles (Sra m c) (Sca m c) n (side d) (freq d) := by
  have e : (V m c main_v28 : S4096x128.Idx → EReal) = concatenate S4096x128 1 [⟨S4096x32, fun i => -Sra m c i⟩, ⟨S4096x32, fun i => -Sca m c i⟩,
      ⟨S4096x32, Sra m c⟩, ⟨S4096x32, Sca m c⟩] concatenates_S4096x32_S4096x32_S4096x32_S4096x32_S4096x128_d1 := by
    have h := sines_read (F := Ideal) (StableHlo.after ((hostOps0 : List (HloOp τ sig (Elt Ideal))).take 32) (fun b => m (c, b))) (Sra m c) (Sca m c)
      (kept m c main_arg6 unwritten6) (kept m c main_arg8 unwritten8)
    exact (congrFun ((congrArg (fun l => StableHlo.after l (fun b => m (c, b))) split).trans (after_split _ _ _)) _).trans h
  rw [e]
  refine (table_apply (fun q => if q.val < 2 then (if q.val % 2 = 0 then fun i => -Sra m c i else fun i => -Sca m c i) else (if q.val % 2 = 0 then Sra m c else Sca m c)) n d).trans ?_
  unfold angles
  have hs : (side d = 0) ↔ d.val / 32 % 2 = 0 := Fin.ext_iff
  show (if d.val / 32 < 2 then (if d.val / 32 % 2 = 0 then fun i => -Sra m c i else fun i => -Sca m c i) else (if d.val / 32 % 2 = 0 then Sra m c else Sca m c)) (ix2 n (freq d)) = _
  by_cases h : d.val / 32 % 2 = 0 <;> by_cases h' : d.val < 64
  · rw [if_pos h', if_pos (hs.2 h), if_pos (by omega), if_pos h]
  · rw [if_neg h', if_pos (hs.2 h), if_neg (by omega), if_pos h]
  · rw [if_pos h', if_neg (fun h' => h (hs.1 h')), if_pos (by omega), if_neg h]
  · rw [if_neg h', if_neg (fun h' => h (hs.1 h')), if_neg (by omega), if_neg h]

/-! ## The windows' blocks -/

theorem idx : ∀ t : Fin grid0.N, (cfg0.win 0).index t = ![(grid0.coords t 0).val, 0] ∧ (cfg0.win 1).index t = ![0, 0] ∧ (cfg0.win 2).index t = ![0, 0]
    ∧ (cfg0.win 3).index t = ![0, 0] ∧ (cfg0.win 4).index t = ![0, 0] ∧ (cfg0.win 5).index t = ![0, 0] ∧ (cfg0.win 6).index t = ![(grid0.coords t 0).val % 4, 0]
    ∧ (cfg0.win 7).index t = ![(grid0.coords t 0).val % 4, 0] := by decide +kernel

theorem odx : ∀ t : Fin grid0.N, (cfg0.win 8).index t = ![(grid0.coords t 0).val, 0] ∧ (cfg0.win 9).index t = ![(grid0.coords t 0).val, 0]
    ∧ (cfg0.win 10).index t = ![(grid0.coords t 0).val / 4, 0, 0, (grid0.coords t 0).val % 4] := by decide +kernel

/-- A grid point's block of rows. -/
def bt (t : Fin cfg0.N) : Fin 32 := grid0.coords t 0

theorem x_blk (c : Dev nD) (t : Fin cfg0.N) (r : Fin 1024) (k : Fin 1024) :
    (iblk m c 0 t : S1024x1024.Idx → EReal) (ix2 r k) = (V m c main_v8 : S32768x1024.Idx → EReal) (ix2 ⟨1024 * (bt t).val + r.val, by omega⟩ k) := by
  have e := (idx t).1
  have hb : (bt t).val = (grid0.coords t 0).val := rfl
  blk_ext [iblk, e]

theorem n_blk (c : Dev nD) (t : Fin cfg0.N) (k : Fin 1024) :
    (iblk m c 1 t : S1x1024.Idx → EReal) (ix2 0 k) = (V m c main_v10 : S1x1024.Idx → EReal) (ix2 0 k) := by
  have e := (idx t).2.1
  blk_ext [iblk, e]

theorem w_blk (c : Dev nD) (t : Fin cfg0.N) (k : Fin 1024) (f : Fin 1536) :
    (iblk m c 2 t : S1024x1536.Idx → EReal) (ix2 k f) = (V m c main_v7 : S1024x1536.Idx → EReal) (ix2 k f) := by
  have e := (idx t).2.2.1
  blk_ext [iblk, e]

theorem o_blk (c : Dev nD) (t : Fin cfg0.N) (k f : Fin 256) :
    (iblk m c 3 t : S256x256.Idx → EReal) (ix2 k f) = (V m c main_cst : S256x256.Idx → EReal) (ix2 k f) := by
  have e := (idx t).2.2.2.1
  blk_ext [iblk, e]

theorem qg_blk (c : Dev nD) (t : Fin cfg0.N) (k : Fin 128) :
    (iblk m c 4 t : S1x128.Idx → EReal) (ix2 0 k) = (V m c main_v17 : S1x128.Idx → EReal) (ix2 0 k) := by
  have e := (idx t).2.2.2.2.1
  blk_ext [iblk, e]

theorem kg_blk (c : Dev nD) (t : Fin cfg0.N) (k : Fin 128) :
    (iblk m c 5 t : S1x128.Idx → EReal) (ix2 0 k) = (V m c main_v24 : S1x128.Idx → EReal) (ix2 0 k) := by
  have e := (idx t).2.2.2.2.2.1
  blk_ext [iblk, e]

theorem co_blk (c : Dev nD) (t : Fin cfg0.N) (r : Fin 1024) (k : Fin 128) :
    (iblk m c 6 t : S1024x128.Idx → EReal) (ix2 r k) = (V m c main_v25 : S4096x128.Idx → EReal) (ix2 ⟨(1024 * (bt t).val + r.val) % 4096, by omega⟩ k) := by
  have e := (idx t).2.2.2.2.2.2.1
  have hb : (bt t).val = (grid0.coords t 0).val := rfl
  blk_ext [iblk, e]

theorem si_blk (c : Dev nD) (t : Fin cfg0.N) (r : Fin 1024) (k : Fin 128) :
    (iblk m c 7 t : S1024x128.Idx → EReal) (ix2 r k) = (V m c main_v28 : S4096x128.Idx → EReal) (ix2 ⟨(1024 * (bt t).val + r.val) % 4096, by omega⟩ k) := by
  have e := (idx t).2.2.2.2.2.2.2
  have hb : (bt t).val = (grid0.coords t 0).val := rfl
  blk_ext [iblk, e]

theorem ones_blk (c : Dev nD) (t : Fin cfg0.N) : Ones (iblk m c 3 t) := fun i j => (o_blk m c t i j).trans (ones_apply' m c i j)

/-- A block's row against a column that is a column of the input matrix. -/
theorem tcol_eq (c : Dev nD) (t : Fin cfg0.N) (r : Fin 1024) (f g : Fin 1536)
    (hw : ∀ k, (V m c main_v7 : S1024x1536.Idx → EReal) (ix2 k f) = Wa m c (ix3 0 k g)) :
    tcol (iblk m c 0 t) (iblk m c 1 t) (iblk m c 2 t) r f
      = wcol (Xa m c) (Na m c) (Wa m c) ⟨(1024 * (bt t).val + r.val) / 4096, by omega⟩ ⟨(1024 * (bt t).val + r.val) % 4096, by omega⟩ g := by
  unfold tcol wcol col dot
  refine Finset.sum_congr rfl fun k _ => congrArg₂ (fun a b : EReal => a * b) ?_ ((w_blk m c t k f).trans (hw k))
  exact congrArg₂ (fun a b => rms _ a b k) (funext fun j => (x_blk m c t r j).trans (x_apply m c _ j)) (funext fun j => (n_blk m c t j).trans (n_apply m c j))

/-- A head of a block. -/
theorem head_eq (c : Dev nD) (t : Fin cfg0.N) (r : Fin 1024) (G : S1x128.Idx → EReal) (g : Fin 128 → EReal) (hg : ∀ d, g d = G (ix2 0 (swap d)))
    {p : ℕ} (o : ℕ) (h : o + p ≤ 1280) (hp : p % 128 = 0) (ho : o % 128 = 0) (q : Fin p) :
    head (fun j => tcol (iblk m c 0 t) (iblk m c 1 t) (iblk m c 2 t) r ⟨o + 128 * (q.val / 128) + j.val, by omega⟩) g
        (fun j => iblk m c 6 t (ix2 r j)) (fun j => iblk m c 7 t (ix2 r j)) ⟨q.val % 128, by omega⟩
      = spun o (by omega) hp (Xa m c) (Na m c) (Wa m c) G (Cra m c) (Sra m c) (Cca m c) (Sca m c) ⟨(1024 * (bt t).val + r.val) / 4096, by omega⟩
          ⟨(1024 * (bt t).val + r.val) % 4096, by omega⟩ q := by
  have hc : ∀ d : Fin 128, (iblk m c 6 t : S1024x128.Idx → EReal) (ix2 r d) = angles (Cra m c) (Cca m c) ⟨(1024 * (bt t).val + r.val) % 4096, by omega⟩ (side d) (freq d) :=
    fun d => (co_blk m c t r d).trans (co_apply m c _ d)
  have hs : ∀ d : Fin 128, (iblk m c 7 t : S1024x128.Idx → EReal) (ix2 r d)
      = if d.val < 64 then -angles (Sra m c) (Sca m c) ⟨(1024 * (bt t).val + r.val) % 4096, by omega⟩ (side d) (freq d)
        else angles (Sra m c) (Sca m c) ⟨(1024 * (bt t).val + r.val) % 4096, by omega⟩ (side d) (freq d) :=
    fun d => (si_blk m c t r d).trans (si_apply m c _ d)
  refine turned_eq (fun j => wcol (Xa m c) (Na m c) (Wa m c) ⟨(1024 * (bt t).val + r.val) / 4096, by omega⟩ ⟨(1024 * (bt t).val + r.val) % 4096, by omega⟩
      ⟨o + 128 * (q.val / 128) + j.val, by omega⟩) (fun j => G (ix2 0 j)) (angles (Cra m c) (Cca m c) ⟨(1024 * (bt t).val + r.val) % 4096, by omega⟩)
    (angles (Sra m c) (Sca m c) ⟨(1024 * (bt t).val + r.val) % 4096, by omega⟩)
    (fun j => tcol (iblk m c 0 t) (iblk m c 1 t) (iblk m c 2 t) r ⟨o + 128 * (q.val / 128) + j.val, by omega⟩) g
    (fun j => (iblk m c 6 t : S1024x128.Idx → EReal) (ix2 r j)) (fun j => (iblk m c 7 t : S1024x128.Idx → EReal) (ix2 r j)) (fun d => ?_) hg hc hs ⟨q.val % 128, by omega⟩
  refine tcol_eq m c t r _ _ fun k => ?_
  have e : ∀ d : Fin 128, (⟨o + 128 * (q.val / 128) + d.val, by omega⟩ : Fin 1536) = ⟨128 * (⟨o / 128 + q.val / 128, by omega⟩ : Fin 10).val + d.val, by
      show 128 * (o / 128 + q.val / 128) + d.val < 1536; omega⟩ := fun d => Fin.ext (by
    show o + 128 * (q.val / 128) + d.val = 128 * (o / 128 + q.val / 128) + d.val
    omega)
  rw [e d, e (swap d)]
  exact wh_apply m c k _ d

/-! ## The three arrays -/

theorem final_q (c : Dev nD) : (dats m 0 c).arrAt 8 cfg0.N
    = (arr (spun (p := 1024) 0 (by omega) rfl (Xa m c) (Na m c) (Wa m c) (Qa m c) (Cra m c) (Sra m c) (Cca m c) (Sca m c)) : S32768x1024.Idx → EReal) := by
  refine (dats m 0 c).arrAt_eq_of_covers 8 _ (by decide +kernel) fun t hf y => ?_
  have e := (odx t).1
  have hb : (bt t).val = (grid0.coords t 0).val := rfl
  refine Eq.trans (b := (outsAt0 m c t).1 y)
    (by rw [after0_8]; rfl) (place _ _ (bt t) (fun r k => ?_) y (((cfg0.win 8).blk t).view.emb y) (by blk_simp [e]; omega) (by blk_simp [e]))
  refine (out_q m c t (ones_blk m c t) r k).trans (Eq.trans ?_ (head_eq m c t r (Qa m c) _ (fun d => (qg_blk m c t d).trans (qg_apply m c d)) 0 (by omega) rfl rfl k))
  simp only [Nat.zero_add]

theorem final_k (c : Dev nD) : (dats m 0 c).arrAt 9 cfg0.N
    = (arr (spun (p := 256) 1024 (by omega) rfl (Xa m c) (Na m c) (Wa m c) (Ka m c) (Cra m c) (Sra m c) (Cca m c) (Sca m c)) : S32768x256.Idx → EReal) := by
  refine (dats m 0 c).arrAt_eq_of_covers 9 _ (by decide +kernel) fun t hf y => ?_
  have e := (odx t).2.1
  have hb : (bt t).val = (grid0.coords t 0).val := rfl
  refine Eq.trans (b := (outsAt0 m c t).2.1 y)
    (by rw [after0_9]; rfl) (place _ _ (bt t) (fun r k => ?_) y (((cfg0.win 9).blk t).view.emb y) (by blk_simp [e]; omega) (by blk_simp [e]))
  exact (out_k m c t (ones_blk m c t) r k).trans (head_eq m c t r (Ka m c) _ (fun d => (kg_blk m c t d).trans (kg_apply m c d)) 1024 (by omega) rfl rfl k)

theorem value_eq (c : Dev nD) (t : Fin cfg0.N) (g : Fin 2) (d : Fin 144) (r : Fin 1024) :
    ((outsAt0 m c t).2.2 (ix4 0 g d r) : EReal)
      = value (Xa m c) (Na m c) (Wa m c) ⟨(1024 * (bt t).val + r.val) / 4096, by omega⟩ g d ⟨(1024 * (bt t).val + r.val) % 4096, by omega⟩ := by
  refine (out_v m c t g d r).trans ?_
  unfold value
  by_cases h : d.val < 128
  · rw [dif_pos h, dif_pos h]
    refine tcol_eq m c t r _ _ fun k => ?_
    have e : (⟨1280 + 128 * g.val + d.val, by omega⟩ : Fin 1536) = ⟨1280 + (⟨128 * g.val + d.val, by omega⟩ : Fin 256).val, by
      show 1280 + (128 * g.val + d.val) < 1536; omega⟩ := Fin.ext (Nat.add_assoc _ _ _)
    rw [e]
    exact wv_apply m c k _
  · rw [dif_neg h, dif_neg h]

theorem final_v (c : Dev nD) : (dats m 0 c).arrAt 10 cfg0.N = (arrV (value (Xa m c) (Na m c) (Wa m c)) : S8x2x144x4096.Idx → EReal) := by
  refine (dats m 0 c).arrAt_eq_of_covers 10 _ (by decide +kernel) fun t hf y => ?_
  have e := (odx t).2.2
  have hb : (bt t).val = (grid0.coords t 0).val := rfl
  have y3 : (y 3).val < 1024 := (y 3).isLt
  refine Eq.trans (b := (outsAt0 m c t).2.2 y) (by rw [after0_10]; rfl) ?_
  have hy : y = (ix4 0 ⟨(y 1).val, (y 1).isLt⟩ ⟨(y 2).val, (y 2).isLt⟩ ⟨(y 3).val, y3⟩ : S1x2x144x1024.Idx) := by
    funext a
    match a with
    | ⟨0, _⟩ => exact Subsingleton.elim (α := Fin 1) _ _
    | ⟨1, _⟩ => rfl
    | ⟨2, _⟩ => rfl
    | ⟨3, _⟩ => rfl
  refine (congrArg (outsAt0 m c t).2.2 hy).trans ((value_eq m c t _ _ _).trans ?_)
  have p0 : ((((cfg0.win 10).blk t).view.emb y) 0).val = (1024 * (bt t).val + (y 3).val) / 4096 := by blk_simp [e]; omega
  have p1 : ((((cfg0.win 10).blk t).view.emb y) 1).val = (y 1).val := by blk_simp [e]
  have p2 : ((((cfg0.win 10).blk t).view.emb y) 2).val = (y 2).val := by blk_simp [e]
  have p3 : ((((cfg0.win 10).blk t).view.emb y) 3).val = (1024 * (bt t).val + (y 3).val) % 4096 := by blk_simp [e]; omega
  unfold arrV
  congr 1
  · exact Fin.ext p0.symm
  · exact Fin.ext p1.symm
  · exact Fin.ext p2.symm
  · exact Fin.ext p3.symm

end

end Cert.Kernel6Ideal.CIn

end
-- ==== Proof.CIn.Heads.lean ====
/- Heads as the reference norms and turns them, over `(batch, token, head, channel)`, for any number of heads: each operation read at an index. -/
module

public import proofs.«01_k».proof.Proof.CIn.Spec
public import proofs.«01_k».proof.Proof.Rows.Host
public import proofs.«01_k».proof.Proof.In.Value
public import Idealize.ShloMosaic.Lib.ValueIdxRank6

@[expose] public section

set_option maxRecDepth 16384

noncomputable section

namespace Cert.CIn

open Idealize.ShloMosaic Idealize.ShloMosaic.TcCoe
open Cert.Rows (rms eps)
open Cert.Kernel5Ideal.In (arr)

/-- Tokens' heads. -/
abbrev T4 (H p : ℕ) : Shape := ⟨4, ![8, 4096, H, p]⟩

/-- Tokens' heads, each channel by its half, its axis and its place. -/
abbrev T6 (H : ℕ) : Shape := ⟨6, ![8, 4096, H, 2, 2, 32]⟩

/-- The shapes' side conditions. -/
structure Fits (H p : ℕ) : Prop where
  pos : p = 128 * H
  red : (T4 H 128).ReducesTo [3] ⟨3, ![8, 4096, H]⟩
  one : (⟨3, ![8, 4096, H]⟩ : Shape).BroadcastsInDim (T4 H 1) ![0, 1, 2]
  all : (⟨0, ![]⟩ : Shape).BroadcastsInDim (T4 H 1) ![]
  rows : (T4 H 1).BroadcastsInDim (T4 H 128) ![0, 1, 2, 3]
  gain : (⟨4, ![1, 1, 1, 128]⟩ : Shape).BroadcastsInDim (T4 H 128) ![0, 1, 2, 3]
  ones : (⟨1, ![128]⟩ : Shape).BroadcastsInDim ⟨4, ![1, 1, 1, 128]⟩ ![3]
  fst : (T4 H 128).Slices ![0, 0, 0, 0] (T4 H 64)
  snd : (T4 H 128).Slices ![0, 0, 0, 64] (T4 H 64)
  lo : (T4 H 64).Slices ![0, 0, 0, 0] (T4 H 32)
  hi : (T4 H 64).Slices ![0, 0, 0, 32] (T4 H 32)
  tab : (⟨4, ![1, 4096, 1, 32]⟩ : Shape).BroadcastsInDim (T4 H 32) ![0, 1, 2, 3]
  tab3 : (⟨3, ![4096, 1, 32]⟩ : Shape).BroadcastsInDim ⟨4, ![1, 4096, 1, 32]⟩ ![1, 2, 3]
  tab2 : (⟨2, ![4096, 32]⟩ : Shape).BroadcastsInDim ⟨3, ![4096, 1, 32]⟩ ![0, 2]
  pair : Shape.Concatenates [T4 H 32, T4 H 32] (T4 H 64) 3
  both : Shape.Concatenates [T4 H 64, T4 H 64] (T4 H 128) 3
  cut : (T4 H 128).ShapeCasts (T6 H)
  turn : (T6 H).Transposes [0, 1, 2, 4, 3, 5] (T6 H)
  flat : (T6 H).ShapeCasts ⟨2, ![32768, p]⟩

variable {H p : ℕ} (F : Fits H p) (h0 : 0 < (⟨0, ![]⟩ : Shape).numel)
include F

/-- A head normed over its channels. -/
def normed (x : FVec Ideal (T4 H 128) .f32) (g : FVec Ideal ⟨1, ![128]⟩ .f32) : FVec Ideal (T4 H 128) .f32 :=
  mulf (mulf x (broadcastInDim (T4 H 128) ![0, 1, 2, 3] F.rows (Host.rsqrt (addf (Host.divf
      (broadcastInDim (T4 H 1) ![0, 1, 2] F.one (Host.reduceAdd (mulf x x) (constant ⟨0, ![]⟩ .f32 0x00000000#32) F.red h0 : FVec Ideal ⟨3, ![8, 4096, H]⟩ .f32) : FVec Ideal (T4 H 1) .f32)
      (broadcastInDim (T4 H 1) ![] F.all (constant ⟨0, ![]⟩ .f32 0x43000000#32 : FVec Ideal ⟨0, ![]⟩ .f32)))
      (broadcastInDim (T4 H 1) ![] F.all (constant ⟨0, ![]⟩ .f32 0x358637BD#32 : FVec Ideal ⟨0, ![]⟩ .f32)) : FVec Ideal (T4 H 1) .f32))))
    (broadcastInDim (T4 H 128) ![0, 1, 2, 3] F.gain (broadcastInDim ⟨4, ![1, 1, 1, 128]⟩ ![3] F.ones g))

theorem normed_apply (hr : (T4 H 128).Reduces [3] ⟨3, ![8, 4096, H]⟩) (x : FVec Ideal (T4 H 128) .f32) (g : FVec Ideal ⟨1, ![128]⟩ .f32)
    (b : Fin 8) (n : Fin 4096) (h : Fin H) (d : Fin 128) :
    normed F h0 x g (ix4 b n h d) = rms (Ideal.ofBits .f32 0x43000000#32) (fun j => x (ix4 b n h j)) (fun j => g (ix1 j)) d := by
  have hh := h.isLt
  have hs : (Host.reduceAdd (mulf x x) (constant ⟨0, ![]⟩ .f32 0x00000000#32) F.red h0 : FVec Ideal ⟨3, ![8, 4096, H]⟩ .f32) (ix3 b n h)
      = ∑ j, x (ix4 b n h j) * x (ix4 b n h j) := by
    simp only [Host.reduceAdd, Ideal.hostReduceAdd_def]
    rw [Ideal.hostReduceAdd_single F.red hr]
    have z : (constant ⟨0, ![]⟩ .f32 0x00000000#32 : FVec Ideal ⟨0, ![]⟩ .f32) (Shape.Idx.first h0) = (0 : EReal) := Ideal.ofBits_zero_f32
    refine (congrArg (· + _) z).trans ((zero_add _).trans (Finset.sum_congr rfl fun j _ => ?_))
    show x _ * x _ = _
    have e : hr.lift (ix3 b n h) j = ix4 b n h j := by funext a; fin_cases a <;> rfl
    rw [e]
    rfl
  unfold normed
  generalize (Host.reduceAdd (mulf x x) (constant ⟨0, ![]⟩ .f32 0x00000000#32) F.red h0 : FVec Ideal ⟨3, ![8, 4096, H]⟩ .f32) = s at hs ⊢
  have hb : ∀ v : FVec Ideal (T4 H 1) .f32, broadcastInDim (T4 H 128) ![0, 1, 2, 3] F.rows v (ix4 b n h d) = v (ix4 b n h 0) := fun v =>
    broadcastInDim_apply _ F.rows v _ _ (by
      intro a; fin_cases a
      · rfl
      · rfl
      · show h.val = if H = 1 then 0 else h.val; split <;> omega
      · rfl)
  have hg : broadcastInDim (T4 H 128) ![0, 1, 2, 3] F.gain (broadcastInDim ⟨4, ![1, 1, 1, 128]⟩ ![3] F.ones g) (ix4 b n h d) = g (ix1 d) :=
    (broadcastInDim_apply _ F.gain _ _ (ix4 0 0 0 d) (by intro a; fin_cases a <;> rfl)).trans
    (broadcastInDim_apply _ F.ones _ _ (ix1 d) (by intro a; fin_cases a; rfl))
  have hq : broadcastInDim (T4 H 1) ![0, 1, 2] F.one s (ix4 b n h 0) = s (ix3 b n h) :=
    broadcastInDim_apply _ F.one _ _ _ (by
      intro a; fin_cases a
      · rfl
      · rfl
      · show h.val = if H = 1 then 0 else h.val; split <;> omega)
  refine congrArg₂ (· * ·) (congrArg (x (ix4 b n h d) * ·) ((hb _).trans ?_)) hg
  exact congrArg (fun z => Ideal.rsqrt (Ideal.div z (Ideal.ofBits .f32 0x43000000#32) + eps)) (hq.trans hs)

/-- A table of angles over every head. -/
def tabled (C : FVec Ideal ⟨2, ![4096, 32]⟩ .f32) : FVec Ideal (T4 H 32) .f32 :=
  broadcastInDim (T4 H 32) ![0, 1, 2, 3] F.tab (broadcastInDim ⟨4, ![1, 4096, 1, 32]⟩ ![1, 2, 3] F.tab3 (broadcastInDim ⟨3, ![4096, 1, 32]⟩ ![0, 2] F.tab2 C))

theorem tabled_apply (C : FVec Ideal ⟨2, ![4096, 32]⟩ .f32) (b : Fin 8) (n : Fin 4096) (h : Fin H) (f : Fin 32) : tabled F C (ix4 b n h f) = C (ix2 n f) :=
  (broadcastInDim_apply _ F.tab _ _ (ix4 0 n 0 f) (by intro a; fin_cases a <;> rfl)).trans
    ((broadcastInDim_apply _ F.tab3 _ _ (ix3 n 0 f) (by intro a; fin_cases a <;> rfl)).trans
      (broadcastInDim_apply _ F.tab2 _ _ (ix2 n f) (by intro a; fin_cases a <;> rfl)))

/-- One axis's half of a head turned. -/
def axis (z : FVec Ideal (T4 H 64) .f32) (C S : FVec Ideal ⟨2, ![4096, 32]⟩ .f32) : FVec Ideal (T4 H 64) .f32 :=
  concatenate (T4 H 64) 3
    [⟨T4 H 32, subf (mulf (extractStridedSlice (T4 H 32) ![0, 0, 0, 0] z F.lo) (tabled F C)) (mulf (extractStridedSlice (T4 H 32) ![0, 0, 0, 32] z F.hi) (tabled F S))⟩,
     ⟨T4 H 32, addf (mulf (extractStridedSlice (T4 H 32) ![0, 0, 0, 32] z F.hi) (tabled F C)) (mulf (extractStridedSlice (T4 H 32) ![0, 0, 0, 0] z F.lo) (tabled F S))⟩] F.pair

theorem lo_apply (z : FVec Ideal (T4 H 64) .f32) (b : Fin 8) (n : Fin 4096) (h : Fin H) (f : Fin 32) :
    extractStridedSlice (T4 H 32) ![0, 0, 0, 0] z F.lo (ix4 b n h f) = z (ix4 b n h ⟨f.val, by omega⟩) :=
  extractStridedSlice_apply _ _ _ _ _ (by intro a; fin_cases a <;> simp)

theorem hi_apply (z : FVec Ideal (T4 H 64) .f32) (b : Fin 8) (n : Fin 4096) (h : Fin H) (f : Fin 32) :
    extractStridedSlice (T4 H 32) ![0, 0, 0, 32] z F.hi (ix4 b n h f) = z (ix4 b n h ⟨32 + f.val, by omega⟩) :=
  extractStridedSlice_apply _ _ _ _ _ (by intro a; fin_cases a <;> simp)

theorem axis_lo (z : FVec Ideal (T4 H 64) .f32) (C S : FVec Ideal ⟨2, ![4096, 32]⟩ .f32) (b : Fin 8) (n : Fin 4096) (h : Fin H) (f : Fin 32) :
    axis F z C S (ix4 b n h ⟨f.val, by omega⟩) = z (ix4 b n h ⟨f.val, by omega⟩) * C (ix2 n f) - z (ix4 b n h ⟨32 + f.val, by omega⟩) * S (ix2 n f) := by
  refine (concatenate_pair_apply_left (t := T4 H 64) 3 _ _ F.pair (ix4 b n h ⟨f.val, by omega⟩) rfl (ix4 b n h f) (by intro a; fin_cases a <;> rfl)).trans ?_
  exact congrArg₂ (fun a b : EReal => a - b) (congrArg₂ (fun a b : EReal => a * b) (lo_apply F z b n h f) (tabled_apply F C b n h f))
    (congrArg₂ (fun a b : EReal => a * b) (hi_apply F z b n h f) (tabled_apply F S b n h f))

theorem axis_hi (z : FVec Ideal (T4 H 64) .f32) (C S : FVec Ideal ⟨2, ![4096, 32]⟩ .f32) (b : Fin 8) (n : Fin 4096) (h : Fin H) (f : Fin 32) :
    axis F z C S (ix4 b n h ⟨32 + f.val, by omega⟩) = z (ix4 b n h ⟨32 + f.val, by omega⟩) * C (ix2 n f) + z (ix4 b n h ⟨f.val, by omega⟩) * S (ix2 n f) := by
  refine (concatenate_pair_apply_right (t := T4 H 64) 3 _ _ F.pair (ix4 b n h ⟨32 + f.val, by omega⟩) rfl rfl (ix4 b n h f)
    (by intro a ha; fin_cases a <;> first | rfl | exact absurd rfl ha) (Nat.add_comm f.val 32)).trans ?_
  exact congrArg₂ (fun a b : EReal => a + b) (congrArg₂ (fun a b : EReal => a * b) (hi_apply F z b n h f) (tabled_apply F C b n h f))
    (congrArg₂ (fun a b : EReal => a * b) (lo_apply F z b n h f) (tabled_apply F S b n h f))

/-- Both axes. -/
def axes (z : FVec Ideal (T4 H 128) .f32) (Cr Sr Cc Sc : FVec Ideal ⟨2, ![4096, 32]⟩ .f32) : FVec Ideal (T4 H 128) .f32 :=
  concatenate (T4 H 128) 3 [⟨T4 H 64, axis F (extractStridedSlice (T4 H 64) ![0, 0, 0, 0] z F.fst) Cr Sr⟩,
    ⟨T4 H 64, axis F (extractStridedSlice (T4 H 64) ![0, 0, 0, 64] z F.snd) Cc Sc⟩] F.both

theorem fst_apply (z : FVec Ideal (T4 H 128) .f32) (b : Fin 8) (n : Fin 4096) (h : Fin H) (e : Fin 64) :
    extractStridedSlice (T4 H 64) ![0, 0, 0, 0] z F.fst (ix4 b n h e) = z (ix4 b n h ⟨e.val, by omega⟩) :=
  extractStridedSlice_apply _ _ _ _ _ (by intro a; fin_cases a <;> simp)

theorem snd_apply (z : FVec Ideal (T4 H 128) .f32) (b : Fin 8) (n : Fin 4096) (h : Fin H) (e : Fin 64) :
    extractStridedSlice (T4 H 64) ![0, 0, 0, 64] z F.snd (ix4 b n h e) = z (ix4 b n h ⟨64 + e.val, by omega⟩) :=
  extractStridedSlice_apply _ _ _ _ _ (by intro a; fin_cases a <;> simp)

/-- Which of the two tables an axis reads. -/
abbrev choose (R C : (⟨2, ![4096, 32]⟩ : Shape).Idx → EReal) (n : Fin 4096) (a : Fin 2) (f : Fin 32) : EReal :=
  if a = 0 then R (ix2 n f) else C (ix2 n f)

theorem axes_fst (z : FVec Ideal (T4 H 128) .f32) (Cr Sr Cc Sc : FVec Ideal ⟨2, ![4096, 32]⟩ .f32) (b : Fin 8) (n : Fin 4096) (h : Fin H) (e : Fin 64) :
    axes F z Cr Sr Cc Sc (ix4 b n h ⟨e.val, by omega⟩) = axis F (extractStridedSlice (T4 H 64) ![0, 0, 0, 0] z F.fst) Cr Sr (ix4 b n h e) :=
  concatenate_pair_apply_left (t := T4 H 128) 3 _ _ F.both (ix4 b n h ⟨e.val, by omega⟩) rfl (ix4 b n h e) (by intro a; fin_cases a <;> rfl)

theorem axes_snd (z : FVec Ideal (T4 H 128) .f32) (Cr Sr Cc Sc : FVec Ideal ⟨2, ![4096, 32]⟩ .f32) (b : Fin 8) (n : Fin 4096) (h : Fin H) (e : Fin 64) :
    axes F z Cr Sr Cc Sc (ix4 b n h ⟨64 + e.val, by omega⟩) = axis F (extractStridedSlice (T4 H 64) ![0, 0, 0, 64] z F.snd) Cc Sc (ix4 b n h e) :=
  concatenate_pair_apply_right (t := T4 H 128) 3 _ _ F.both (ix4 b n h ⟨64 + e.val, by omega⟩) rfl rfl (ix4 b n h e)
    (by intro a ha; fin_cases a <;> first | rfl | exact absurd rfl ha) (Nat.add_comm e.val 64)

/-- A channel of the first axis, below. -/
theorem axes_row_lo (z : FVec Ideal (T4 H 128) .f32) (Cr Sr Cc Sc : FVec Ideal ⟨2, ![4096, 32]⟩ .f32) (b : Fin 8) (n : Fin 4096) (h : Fin H) (f : Fin 32) :
    axes F z Cr Sr Cc Sc (ix4 b n h ⟨f.val, by omega⟩) = z (ix4 b n h ⟨f.val, by omega⟩) * Cr (ix2 n f) - z (ix4 b n h ⟨32 + f.val, by omega⟩) * Sr (ix2 n f) :=
  (axes_fst F z Cr Sr Cc Sc b n h ⟨f.val, by omega⟩).trans ((axis_lo F _ Cr Sr b n h f).trans
    (congrArg₂ (fun u w : EReal => u * Cr (ix2 n f) - w * Sr (ix2 n f)) (fst_apply F z b n h ⟨f.val, by omega⟩) (fst_apply F z b n h ⟨32 + f.val, by omega⟩)))

theorem axes_row_hi (z : FVec Ideal (T4 H 128) .f32) (Cr Sr Cc Sc : FVec Ideal ⟨2, ![4096, 32]⟩ .f32) (b : Fin 8) (n : Fin 4096) (h : Fin H) (f : Fin 32) :
    axes F z Cr Sr Cc Sc (ix4 b n h ⟨32 + f.val, by omega⟩) = z (ix4 b n h ⟨32 + f.val, by omega⟩) * Cr (ix2 n f) + z (ix4 b n h ⟨f.val, by omega⟩) * Sr (ix2 n f) :=
  (axes_fst F z Cr Sr Cc Sc b n h ⟨32 + f.val, by omega⟩).trans ((axis_hi F _ Cr Sr b n h f).trans
    (congrArg₂ (fun u w : EReal => u * Cr (ix2 n f) + w * Sr (ix2 n f)) (fst_apply F z b n h ⟨32 + f.val, by omega⟩) (fst_apply F z b n h ⟨f.val, by omega⟩)))

theorem axes_col_lo (z : FVec Ideal (T4 H 128) .f32) (Cr Sr Cc Sc : FVec Ideal ⟨2, ![4096, 32]⟩ .f32) (b : Fin 8) (n : Fin 4096) (h : Fin H) (f : Fin 32) :
    axes F z Cr Sr Cc Sc (ix4 b n h ⟨64 + f.val, by omega⟩) = z (ix4 b n h ⟨64 + f.val, by omega⟩) * Cc (ix2 n f) - z (ix4 b n h ⟨64 + (32 + f.val), by omega⟩) * Sc (ix2 n f) :=
  (axes_snd F z Cr Sr Cc Sc b n h ⟨f.val, by omega⟩).trans ((axis_lo F _ Cc Sc b n h f).trans
    (congrArg₂ (fun u w : EReal => u * Cc (ix2 n f) - w * Sc (ix2 n f)) (snd_apply F z b n h ⟨f.val, by omega⟩) (snd_apply F z b n h ⟨32 + f.val, by omega⟩)))

theorem axes_col_hi (z : FVec Ideal (T4 H 128) .f32) (Cr Sr Cc Sc : FVec Ideal ⟨2, ![4096, 32]⟩ .f32) (b : Fin 8) (n : Fin 4096) (h : Fin H) (f : Fin 32) :
    axes F z Cr Sr Cc Sc (ix4 b n h ⟨64 + (32 + f.val), by omega⟩) = z (ix4 b n h ⟨64 + (32 + f.val), by omega⟩) * Cc (ix2 n f) + z (ix4 b n h ⟨64 + f.val, by omega⟩) * Sc (ix2 n f) :=
  (axes_snd F z Cr Sr Cc Sc b n h ⟨32 + f.val, by omega⟩).trans ((axis_hi F _ Cc Sc b n h f).trans
    (congrArg₂ (fun u w : EReal => u * Cc (ix2 n f) + w * Sc (ix2 n f)) (snd_apply F z b n h ⟨32 + f.val, by omega⟩) (snd_apply F z b n h ⟨f.val, by omega⟩)))

/-- A head turned, the channels of its two axes in the order of the projection. -/
theorem axes_apply (z : FVec Ideal (T4 H 128) .f32) (Cr Sr Cc Sc : FVec Ideal ⟨2, ![4096, 32]⟩ .f32) (b : Fin 8) (n : Fin 4096) (h : Fin H) (d : Fin 128) :
    axes F z Cr Sr Cc Sc (ix4 b n h ⟨64 * (d.val / 32 % 2) + 32 * (d.val / 64) + d.val % 32, by omega⟩)
      = turned (fun j => z (ix4 b n h j)) (choose Cr Cc n) (choose Sr Sc n) d := by
  have at' : ∀ {u w : Fin 128}, u.val = w.val → z (ix4 b n h u) = z (ix4 b n h w) := fun e => congrArg (fun j => z (ix4 b n h j)) (Fin.ext e)
  have go : ∀ {u w : Fin 128}, u.val = w.val → axes F z Cr Sr Cc Sc (ix4 b n h u) = axes F z Cr Sr Cc Sc (ix4 b n h w) := fun e =>
    congrArg (fun j => axes F z Cr Sr Cc Sc (ix4 b n h j)) (Fin.ext e)
  have hd := d.isLt
  unfold turned choose
  by_cases hs : d.val / 32 % 2 = 0
  · have s0 : side d = 0 := Fin.ext hs
    simp only [s0, if_true]
    by_cases hh : d.val < 64
    · rw [if_pos hh]
      refine (go (w := ⟨(freq d).val, by omega⟩) ?_).trans ((axes_row_lo F z Cr Sr Cc Sc b n h (freq d)).trans
        (congrArg₂ (fun u w : EReal => u * Cr (ix2 n (freq d)) - w * Sr (ix2 n (freq d))) (at' ?_) (at' ?_))) <;> simp only [freq] <;> omega
    · rw [if_neg hh]
      refine (go (w := ⟨32 + (freq d).val, by omega⟩) ?_).trans ((axes_row_hi F z Cr Sr Cc Sc b n h (freq d)).trans
        (congrArg₂ (fun u w : EReal => u * Cr (ix2 n (freq d)) + w * Sr (ix2 n (freq d))) (at' ?_) (at' ?_))) <;> simp only [freq] <;> omega
  · have s1 : side d = 1 := Fin.ext (by show d.val / 32 % 2 = 1; omega)
    have n1 : ¬ (1 : Fin 2) = 0 := by decide
    simp only [s1, if_neg n1]
    by_cases hh : d.val < 64
    · rw [if_pos hh]
      refine (go (w := ⟨64 + (freq d).val, by omega⟩) ?_).trans ((axes_col_lo F z Cr Sr Cc Sc b n h (freq d)).trans
        (congrArg₂ (fun u w : EReal => u * Cc (ix2 n (freq d)) - w * Sc (ix2 n (freq d))) (at' ?_) (at' ?_))) <;> simp only [freq] <;> omega
    · rw [if_neg hh]
      refine (go (w := ⟨64 + (32 + (freq d).val), by omega⟩) ?_).trans ((axes_col_hi F z Cr Sr Cc Sc b n h (freq d)).trans
        (congrArg₂ (fun u w : EReal => u * Cc (ix2 n (freq d)) + w * Sc (ix2 n (freq d))) (at' ?_) (at' ?_))) <;> simp only [freq] <;> omega

/-- A row's channels from its heads, the halves of every head outermost. -/
def laid (z : FVec Ideal (T4 H 128) .f32) : FVec Ideal ⟨2, ![32768, p]⟩ .f32 :=
  shapeCast _ (transpose (T6 H) [0, 1, 2, 4, 3, 5] (shapeCast _ z F.cut) F.turn) F.flat

theorem laid_apply (z : FVec Ideal (T4 H 128) .f32) (r : Fin 32768) (c : Fin p) :
    laid F z (ix2 r c) = z (ix4 ⟨r.val / 4096, by omega⟩ ⟨r.val % 4096, by omega⟩ ⟨c.val / 128, by have := F.pos; have := c.isLt; omega⟩
      ⟨64 * (c.val % 128 / 32 % 2) + 32 * (c.val % 128 / 64) + c.val % 128 % 32, by omega⟩) := by
  have hp := F.pos
  have hc := c.isLt
  have hr := r.isLt
  unfold laid
  refine (shapeCast_apply _ F.flat (ix2 r c) (ix6 ⟨r.val / 4096, by omega⟩ ⟨r.val % 4096, by omega⟩ ⟨c.val / 128, by omega⟩
    ⟨c.val % 128 / 64, by omega⟩ ⟨c.val % 128 / 32 % 2, by omega⟩ ⟨c.val % 128 % 32, by omega⟩) ?_).trans ?_
  · rw [Shape.rowMajor_val_six, Shape.rowMajor_val_two]
    show ((((r.val / 4096 * 4096 + r.val % 4096) * H + c.val / 128) * 2 + c.val % 128 / 64) * 2 + c.val % 128 / 32 % 2) * 32 + c.val % 128 % 32 = r.val * p + c.val
    have e : r.val / 4096 * 4096 + r.val % 4096 = r.val := by omega
    have e2 : r.val * p = 128 * (r.val * H) := by rw [hp]; ring
    rw [e, e2]
    omega
  refine (transpose_apply [0, 1, 2, 4, 3, 5] _ F.turn (ix6 ⟨r.val / 4096, by omega⟩ ⟨r.val % 4096, by omega⟩ ⟨c.val / 128, by omega⟩
    ⟨c.val % 128 / 64, by omega⟩ ⟨c.val % 128 / 32 % 2, by omega⟩ ⟨c.val % 128 % 32, by omega⟩)
    (ix6 ⟨r.val / 4096, by omega⟩ ⟨r.val % 4096, by omega⟩ ⟨c.val / 128, by omega⟩
    ⟨c.val % 128 / 32 % 2, by omega⟩ ⟨c.val % 128 / 64, by omega⟩ ⟨c.val % 128 % 32, by omega⟩)
    (fun a => match a with | ⟨0, _⟩ => rfl | ⟨1, _⟩ => rfl | ⟨2, _⟩ => rfl | ⟨3, _⟩ => rfl | ⟨4, _⟩ => rfl | ⟨5, _⟩ => rfl)).trans ?_
  refine shapeCast_apply _ F.cut _ _ ?_
  rw [Shape.rowMajor_val_six, Shape.rowMajor_val_four]
  show ((r.val / 4096 * 4096 + r.val % 4096) * H + c.val / 128) * 128 + (64 * (c.val % 128 / 32 % 2) + 32 * (c.val % 128 / 64) + c.val % 128 % 32)
    = ((((r.val / 4096 * 4096 + r.val % 4096) * H + c.val / 128) * 2 + c.val % 128 / 32 % 2) * 2 + c.val % 128 / 64) * 32 + c.val % 128 % 32
  generalize (r.val / 4096 * 4096 + r.val % 4096) * H = m
  omega

/-- Heads normed, turned and laid out. -/
theorem heads_apply (hr : (T4 H 128).Reduces [3] ⟨3, ![8, 4096, H]⟩) (x : FVec Ideal (T4 H 128) .f32) (g : FVec Ideal ⟨1, ![128]⟩ .f32)
    (Cr Sr Cc Sc : FVec Ideal ⟨2, ![4096, 32]⟩ .f32) (r : Fin 32768) (c : Fin p) :
    laid F (axes F (normed F h0 x g) Cr Sr Cc Sc) (ix2 r c)
      = turned (rms (Ideal.ofBits .f32 0x43000000#32)
          (fun j => x (ix4 ⟨r.val / 4096, by omega⟩ ⟨r.val % 4096, by omega⟩ ⟨c.val / 128, by have := F.pos; have := c.isLt; omega⟩ j)) (fun j => g (ix1 j)))
        (choose Cr Cc ⟨r.val % 4096, by omega⟩) (choose Sr Sc ⟨r.val % 4096, by omega⟩) ⟨c.val % 128, by omega⟩ :=
  (laid_apply F _ r c).trans ((axes_apply F _ Cr Sr Cc Sc _ _ _ ⟨c.val % 128, by omega⟩).trans
    (congrArg (fun v => turned v (choose Cr Cc ⟨r.val % 4096, by omega⟩) (choose Sr Sc ⟨r.val % 4096, by omega⟩) ⟨c.val % 128, by omega⟩)
      (funext fun d => normed_apply F h0 hr x g _ _ _ d)))

end Cert.CIn

end
-- ==== Proof.CIn.Ref.lean ====
/- The reference of the second layer's input call at an index, and that its three results are the kernel's. -/
module

public import proofs.«01_k».proof.Proof.CIn.Value
public import proofs.«01_k».proof.Proof.CIn.Heads
public import proofs.«01_k».proof.Proof.Gen.Reference6Ideal.Run

@[expose] public section

set_option maxRecDepth 16384

noncomputable section

namespace Cert.CInRef

open Idealize.ShloMosaic Idealize.ShloMosaic.TcCoe Idealize.SL.Sem
open Cert.Reference6Ideal Cert.Reference6Ideal.Gen Cert.Reference6Ideal.Value
open Cert.Rows (dot rms)
open Cert.CIn (Fits T4 T6 turned normed axes laid heads_apply)
open Cert.Kernel5Ideal.In (arr)
open Cert.Kernel6Ideal.CIn (wcol col spun value arrV angles)
open Cert.Kernel6Ideal.CIn renaming Xa → Xk, Na → Nk, Wa → Wk, Qa → Qk, Ka → Kk, Cra → Crk, Sra → Srk, Cca → Cck, Sca → Sck

/-! ## The reference at an index -/

variable (x : FVec Ideal S8x4096x1024 .f32) (g : FVec Ideal S1x1024 .f32) (w : FVec Ideal S1x1024x1536 .f32)

/-- Every token's row normed and multiplied by the input matrix. -/
def proj : FVec Ideal S8x4096x1536 .f32 :=
  Host.dotGeneral dot_S8x4096x1024_S1024x1536_S8x4096x1536_2_0_01_1_n_n none (mulf (mulf x (broadcastInDim S8x4096x1024 ![0, 1, 2] bcast_S8x4096x1_S8x4096x1024_0_1_2
    (Host.rsqrt (addf (Host.divf (broadcastInDim S8x4096x1 ![0, 1] bcast_S8x4096_S8x4096x1_0_1 (Host.reduceAdd (mulf x x) (constant S_ .f32 0x00000000#32)
      reducesTo_S8x4096x1024_S8x4096_d2 h_S_)) (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2
      (shapeCast S1024 g shapeCasts_S1x1024_S1024))))
    (shapeCast S1024x1536 w shapeCasts_S1x1024x1536_S1024x1536)

theorem proj_apply (b : Fin 8) (n : Fin 4096) (c : Fin 1536) : @Eq EReal (proj x g w (ix3 b n c)) (wcol x g w b n c) := by
  unfold proj
  refine (Cert.Rows.hdot_apply _ _ _ b n c).trans ?_
  unfold wcol col
  congr 1
  · funext k
    refine (Cert.Rows.hrms_apply x (shapeCast S1024 g shapeCasts_S1x1024_S1024) 0x44800000#32 _ (by decide) _ _ _ _ _ _ b n k).trans ?_
    exact congrArg (rms _ _ · k) (funext fun j => shapeCast_apply _ _ (ix1 j) (ix2 0 j) (by rw [Shape.rowMajor_val_one, Shape.rowMajor_val_two]; simp))
  · exact funext fun k => funext fun f => Cert.Rows.drop_apply _ _ k f

/-- Columns of the product from `o` on. -/
theorem cut_eq {p : ℕ} (o : ℕ) (h : o + p ≤ 1536) (hs : S8x4096x1536.Slices ![0, 0, o] ⟨3, ![8, 4096, p]⟩) (b : Fin 8) (n : Fin 4096) (k : Fin p) :
    @Eq EReal (extractStridedSlice ⟨3, ![8, 4096, p]⟩ ![0, 0, o] (proj x g w) hs (ix3 b n k)) (wcol x g w b n ⟨o + k.val, by omega⟩) :=
  (extractStridedSlice_apply _ _ _ (ix3 b n k) (ix3 b n ⟨o + k.val, by omega⟩) (by intro a; fin_cases a <;> simp)).trans (proj_apply x g w b n _)

/-- Columns split into heads. -/
theorem split_eq {H p : ℕ} (hp : p = 128 * H) (o : ℕ) (h : o + p ≤ 1536) (hs : S8x4096x1536.Slices ![0, 0, o] ⟨3, ![8, 4096, p]⟩)
    (hc : (⟨3, ![8, 4096, p]⟩ : Shape).ShapeCasts (T4 H 128)) (b : Fin 8) (n : Fin 4096) (e : Fin H) (j : Fin 128) :
    @Eq EReal (shapeCast (T4 H 128) (extractStridedSlice ⟨3, ![8, 4096, p]⟩ ![0, 0, o] (proj x g w) hs) hc (ix4 b n e j))
      (wcol x g w b n ⟨o + 128 * e.val + j.val, by have := e.isLt; have := j.isLt; omega⟩) := by
  have he := e.isLt
  have hj := j.isLt
  refine (shapeCast_apply _ hc (ix4 b n e j) (ix3 b n ⟨128 * e.val + j.val, by omega⟩) ?_).trans ((cut_eq x g w o h hs b n _).trans ?_)
  · rw [Shape.rowMajor_val_three, Shape.rowMajor_val_four]
    show (b.val * 4096 + n.val) * p + (128 * e.val + j.val) = ((b.val * 4096 + n.val) * H + e.val) * 128 + j.val
    rw [hp]; ring
  · exact congrArg (wcol x g w b n) (Fin.ext (by show o + (128 * e.val + j.val) = o + 128 * e.val + j.val; omega))

theorem fits8 : Fits 8 1024 where
  pos := rfl
  red := reducesTo_S8x4096x8x128_S8x4096x8_d3
  one := bcast_S8x4096x8_S8x4096x8x1_0_1_2
  all := bcast_S_S8x4096x8x1
  rows := bcast_S8x4096x8x1_S8x4096x8x128_0_1_2_3
  gain := bcast_S1x1x1x128_S8x4096x8x128_0_1_2_3
  ones := bcast_S128_S1x1x1x128_3
  fst := slices_S8x4096x8x128_S8x4096x8x64_0_0_0_0
  snd := slices_S8x4096x8x128_S8x4096x8x64_0_0_0_64
  lo := slices_S8x4096x8x64_S8x4096x8x32_0_0_0_0
  hi := slices_S8x4096x8x64_S8x4096x8x32_0_0_0_32
  tab := bcast_S1x4096x1x32_S8x4096x8x32_0_1_2_3
  tab3 := bcast_S4096x1x32_S1x4096x1x32_1_2_3
  tab2 := bcast_S4096x32_S4096x1x32_0_2
  pair := concatenates_S8x4096x8x32_S8x4096x8x32_S8x4096x8x64_d3
  both := concatenates_S8x4096x8x64_S8x4096x8x64_S8x4096x8x128_d3
  cut := shapeCasts_S8x4096x8x128_S8x4096x8x2x2x32
  turn := transposes_S8x4096x8x2x2x32_S8x4096x8x2x2x32_0_1_2_4_3_5
  flat := shapeCasts_S8x4096x8x2x2x32_S32768x1024

theorem fits2 : Fits 2 256 where
  pos := rfl
  red := reducesTo_S8x4096x2x128_S8x4096x2_d3
  one := bcast_S8x4096x2_S8x4096x2x1_0_1_2
  all := bcast_S_S8x4096x2x1
  rows := bcast_S8x4096x2x1_S8x4096x2x128_0_1_2_3
  gain := bcast_S1x1x1x128_S8x4096x2x128_0_1_2_3
  ones := bcast_S128_S1x1x1x128_3
  fst := slices_S8x4096x2x128_S8x4096x2x64_0_0_0_0
  snd := slices_S8x4096x2x128_S8x4096x2x64_0_0_0_64
  lo := slices_S8x4096x2x64_S8x4096x2x32_0_0_0_0
  hi := slices_S8x4096x2x64_S8x4096x2x32_0_0_0_32
  tab := bcast_S1x4096x1x32_S8x4096x2x32_0_1_2_3
  tab3 := bcast_S4096x1x32_S1x4096x1x32_1_2_3
  tab2 := bcast_S4096x32_S4096x1x32_0_2
  pair := concatenates_S8x4096x2x32_S8x4096x2x32_S8x4096x2x64_d3
  both := concatenates_S8x4096x2x64_S8x4096x2x64_S8x4096x2x128_d3
  cut := shapeCasts_S8x4096x2x128_S8x4096x2x2x2x32
  turn := transposes_S8x4096x2x2x2x32_S8x4096x2x2x2x32_0_1_2_4_3_5
  flat := shapeCasts_S8x4096x2x2x2x32_S32768x256

variable (G : FVec Ideal S1x128 .f32) (Cr Sr Cc Sc : FVec Ideal S4096x32 .f32)

/-- Heads from column `o` on, normed, turned and laid out: the kernel's function. -/
theorem spun_eq {H p : ℕ} (F : Fits H p) (hr : (T4 H 128).Reduces [3] ⟨3, ![8, 4096, H]⟩) (o : ℕ) (h : o + p ≤ 1536) (hp : p % 128 = 0)
    (hs : S8x4096x1536.Slices ![0, 0, o] ⟨3, ![8, 4096, p]⟩) (hc : (⟨3, ![8, 4096, p]⟩ : Shape).ShapeCasts (T4 H 128)) :
    (laid F (axes F (normed F h_S_ (shapeCast (T4 H 128) (extractStridedSlice ⟨3, ![8, 4096, p]⟩ ![0, 0, o] (proj x g w) hs) hc)
      (shapeCast S128 G shapeCasts_S1x128_S128)) Cr Sr Cc Sc) : (⟨2, ![32768, p]⟩ : Shape).Idx → EReal) = arr (spun o h hp x g w G Cr Sr Cc Sc) := by
  funext i
  have i0 : (i 0).val < 32768 := (i 0).isLt
  have hi : i = ix2 ⟨(i 0).val, i0⟩ ⟨(i 1).val, (i 1).isLt⟩ := by
    funext a; fin_cases a <;> rfl
  refine (congrArg _ hi).trans ((heads_apply F h_S_ hr _ _ Cr Sr Cc Sc _ _).trans ?_)
  refine congrArg (fun v => turned v (angles Cr Cc ⟨(i 0).val % 4096, by omega⟩) (angles Sr Sc ⟨(i 0).val % 4096, by omega⟩) ⟨(i 1).val % 128, by omega⟩)
    (congrArg₂ (fun a b => rms (Ideal.ofBits .f32 0x43000000#32) a b) (funext fun j => ?_) (funext fun j => ?_))
  · exact split_eq x g w F.pos o h hs hc _ _ _ j
  · exact shapeCast_apply _ _ (ix1 j) (ix2 0 j) (by rw [Shape.rowMajor_val_one, Shape.rowMajor_val_two]; simp)

/-- The values' rows and the rows of ones under them. -/
def tall : FVec Ideal S8x2x144x4096 .f32 :=
  concatenate S8x2x144x4096 2 [⟨S8x2x128x4096, transpose S8x2x128x4096 [0, 2, 3, 1] (shapeCast S8x4096x2x128
      (extractStridedSlice S8x4096x256 ![0, 0, 1280] (proj x g w) slices_S8x4096x1536_S8x4096x256_0_0_1280) shapeCasts_S8x4096x256_S8x4096x2x128)
      transposes_S8x4096x2x128_S8x2x128x4096_0_2_3_1⟩,
    ⟨S8x2x16x4096, broadcastInDim S8x2x16x4096 ![] bcast_S_S8x2x16x4096 (constant S_ .f32 0x3F800000#32)⟩] concatenates_S8x2x128x4096_S8x2x16x4096_S8x2x144x4096_d2

theorem tall_value (b : Fin 8) (e : Fin 2) (d : Fin 128) (n : Fin 4096) :
    @Eq EReal (tall x g w (ix4 b e ⟨d.val, by omega⟩ n)) (wcol x g w b n ⟨1280 + 128 * e.val + d.val, by omega⟩) := by
  unfold tall
  refine (concatenate_pair_apply_left (t := S8x2x144x4096) 2 _ _ concatenates_S8x2x128x4096_S8x2x16x4096_S8x2x144x4096_d2 (ix4 b e ⟨d.val, by omega⟩ n) rfl (ix4 b e d n)
    (by intro a; fin_cases a <;> rfl)).trans ?_
  refine (transpose_apply [0, 2, 3, 1] _ _ (ix4 b e d n) (ix4 b n e d) (fun a => match a with | ⟨0, _⟩ => rfl | ⟨1, _⟩ => rfl | ⟨2, _⟩ => rfl | ⟨3, _⟩ => rfl)).trans ?_
  exact split_eq x g w (H := 2) (p := 256) rfl 1280 (by omega) slices_S8x4096x1536_S8x4096x256_0_0_1280 shapeCasts_S8x4096x256_S8x4096x2x128 b n e d

theorem tall_one (b : Fin 8) (e : Fin 2) (d : Fin 16) (n : Fin 4096) : @Eq EReal (tall x g w (ix4 b e ⟨128 + d.val, by omega⟩ n)) 1 := by
  unfold tall
  refine (concatenate_pair_apply_right (t := S8x2x144x4096) 2 _ _ concatenates_S8x2x128x4096_S8x2x16x4096_S8x2x144x4096_d2 (ix4 b e ⟨128 + d.val, by omega⟩ n) rfl rfl (ix4 b e d n)
    (by intro a ha; fin_cases a <;> first | rfl | exact absurd rfl ha) (Nat.add_comm d.val 128)).trans ?_
  exact Cert.Rows.one_word

theorem tall_eq : (tall x g w : S8x2x144x4096.Idx → EReal) = arrV (value x g w) := by
  funext i
  obtain ⟨b, e, d, n, rfl⟩ : ∃ (b : Fin 8) (e : Fin 2) (d : Fin 144) (n : Fin 4096), i = ix4 b e d n :=
    ⟨i 0, i 1, i 2, i 3, by funext a; fin_cases a <;> rfl⟩
  show _ = value x g w b e d n
  unfold value
  split
  · next h => exact tall_value x g w b e ⟨d.val, h⟩ n
  · next h =>
    have hd : d = ⟨128 + (⟨d.val - 128, by omega⟩ : Fin 16).val, by show 128 + (d.val - 128) < 144; omega⟩ := Fin.ext (by show d.val = 128 + (d.val - 128); omega)
    exact (congrArg (fun d => tall x g w (ix4 b e d n)) hd).trans (tall_one x g w b e ⟨d.val - 128, by omega⟩ n)

section
variable (m : (ℓ : Loc nD τ sig) → Buf (Elt Ideal) ℓ) (c : Dev nD)

abbrev Xr : S8x4096x1024.Idx → EReal := m ((c.tc : Thread nD τ).loc main_arg0)
abbrev Nr : S1x1024.Idx → EReal := m ((c.tc : Thread nD τ).loc main_arg1)
abbrev Wr : S1x1024x1536.Idx → EReal := m ((c.tc : Thread nD τ).loc main_arg2)
abbrev Qr : S1x128.Idx → EReal := m ((c.tc : Thread nD τ).loc main_arg3)
abbrev Kr : S1x128.Idx → EReal := m ((c.tc : Thread nD τ).loc main_arg4)
abbrev Crr : S4096x32.Idx → EReal := m ((c.tc : Thread nD τ).loc main_arg5)
abbrev Srr : S4096x32.Idx → EReal := m ((c.tc : Thread nD τ).loc main_arg6)
abbrev Ccr : S4096x32.Idx → EReal := m ((c.tc : Thread nD τ).loc main_arg7)
abbrev Scr : S4096x32.Idx → EReal := m ((c.tc : Thread nD τ).loc main_arg8)

theorem queries : (res_main_v97 (F := Ideal) m c : S32768x1024.Idx → EReal)
    = arr (spun (p := 1024) 0 (by omega) rfl (Xr m c) (Nr m c) (Wr m c) (Qr m c) (Crr m c) (Srr m c) (Ccr m c) (Scr m c)) := by
  unfold res_main_v97
  exact spun_eq (Xr m c) (Nr m c) (Wr m c) (Qr m c) (Crr m c) (Srr m c) (Ccr m c) (Scr m c) fits8 (by decide) 0 (by omega) rfl
    slices_S8x4096x1536_S8x4096x1024_0_0_0 shapeCasts_S8x4096x1024_S8x4096x8x128

theorem keys : (res_main_v142 (F := Ideal) m c : S32768x256.Idx → EReal)
    = arr (spun (p := 256) 1024 (by omega) rfl (Xr m c) (Nr m c) (Wr m c) (Kr m c) (Crr m c) (Srr m c) (Ccr m c) (Scr m c)) := by
  unfold res_main_v142
  exact spun_eq (Xr m c) (Nr m c) (Wr m c) (Kr m c) (Crr m c) (Srr m c) (Ccr m c) (Scr m c) fits2 (by decide) 1024 (by omega) rfl
    slices_S8x4096x1536_S8x4096x256_0_0_1024 shapeCasts_S8x4096x256_S8x4096x2x128

end

theorem alg : Cert.algebraic_Kernel6Ideal_Reference6Ideal := by
  intro m g m' g' hpre hagree
  refine ⟨fun c => (arr (spun (p := 1024) 0 (by omega) rfl (Xk m c) (Nk m c) (Wk m c) (Qk m c) (Crk m c) (Srk m c) (Cck m c) (Sck m c)) : S32768x1024.Idx → EReal),
    fun c => (arr (spun (p := 256) 1024 (by omega) rfl (Xk m c) (Nk m c) (Wk m c) (Kk m c) (Crk m c) (Srk m c) (Cck m c) (Sck m c)) : S32768x256.Idx → EReal),
    fun c => (arrV (value (Xk m c) (Nk m c) (Wk m c)) : S8x2x144x4096.Idx → EReal), ?_, ?_⟩
  · refine (θ_run _ _ _).mono (fun r h c => ?_) (Cert.Kernel6Ideal.Value.run_blocks m g)
    obtain ⟨h0, h1, h2, hk⟩ := h c
    exact ⟨h0.trans (Cert.Kernel6Ideal.CIn.final_q m c), h1.trans (Cert.Kernel6Ideal.CIn.final_k m c), h2.trans (Cert.Kernel6Ideal.CIn.final_v m c), hk⟩
  · refine (θ_run _ _ _).mono (fun r h c => ?_) (Cert.Reference6Ideal.Value.run (F := Ideal) m' g')
    obtain ⟨h0, h1, h2, hk⟩ := h c
    obtain ⟨a0, a1, a2, a3, a4, a5, a6, a7, a8⟩ := hagree c
    have x0 : Xr m' c = Xk m c := a0
    have x1 : Nr m' c = Nk m c := a1
    have x2 : Wr m' c = Wk m c := a2
    have x3 : Qr m' c = Qk m c := a3
    have x4 : Kr m' c = Kk m c := a4
    have x5 : Crr m' c = Crk m c := a5
    have x6 : Srr m' c = Srk m c := a6
    have x7 : Ccr m' c = Cck m c := a7
    have x8 : Scr m' c = Sck m c := a8
    beta_reduce
    rw [← x0, ← x1, ← x2, ← x3, ← x4, ← x5, ← x6, ← x7, ← x8]
    refine ⟨h0.trans (queries m' c), h1.trans (keys m' c), h2.trans ?_, hk⟩
    exact tall_eq (Xr m' c) (Nr m' c) (Wr m' c)

end Cert.CInRef

end
-- ==== Proof.lean ====
module

public import proofs.«01_k».proof.Proof.Frames
public import proofs.«01_k».proof.Proof.Att.Ref
public import proofs.«01_k».proof.Proof.Out.Ref
public import proofs.«01_k».proof.Proof.Mix.Ref
public import proofs.«01_k».proof.Proof.Sample.Ref
public import proofs.«01_k».proof.Proof.In.Ref
public import proofs.«01_k».proof.Proof.CIn.Ref
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.ReferenceIdeal.Read
public import proofs.«01_k».proof.Proof.Gen.Reference2Ideal.Read
public import proofs.«01_k».proof.Proof.Gen.Reference3Ideal.Read
public import proofs.«01_k».proof.Proof.Gen.Reference4Ideal.Read
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel4
public import proofs.«01_k».proof.Proof.Gen.Kernel5
public import proofs.«01_k».proof.Proof.Gen.Kernel6
public import proofs.«01_k».proof.Proof.Gen.Kernel3.Skeleton
public import proofs.«01_k».proof.Proof.Gen.Kernel4.Skeleton
public import proofs.«01_k».proof.Proof.Gen.Kernel5.Skeleton
public import proofs.«01_k».proof.Proof.Gen.Kernel6.Skeleton
public import proofs.«01_k».proof.Proof.Gen.Kernel3.Launch
public import proofs.«01_k».proof.Proof.Gen.Kernel4.Launch
public import proofs.«01_k».proof.Proof.Gen.Kernel5.Launch
public import proofs.«01_k».proof.Proof.Gen.Kernel6.Launch
public import proofs.«01_k».proof.Proof.Gen.Kernel3.Points
public import proofs.«01_k».proof.Proof.Gen.Kernel4.Points
public import proofs.«01_k».proof.Proof.Gen.Kernel5.Points
public import proofs.«01_k».proof.Proof.Gen.Kernel6.Points
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel3Ideal
public import proofs.«01_k».proof.Proof.Gen.Kernel4Ideal
public import proofs.«01_k».proof.Proof.Gen.Kernel5Ideal
public import proofs.«01_k».proof.Proof.Gen.Kernel6Ideal
public import proofs.«01_k».proof.Proof.Gen.Kernel3Ideal.Skeleton
public import proofs.«01_k».proof.Proof.Gen.Kernel4Ideal.Skeleton
public import proofs.«01_k».proof.Proof.Gen.Kernel5Ideal.Skeleton
public import proofs.«01_k».proof.Proof.Gen.Kernel6Ideal.Skeleton
public import proofs.«01_k».proof.Proof.Gen.Kernel3Ideal.Launch
public import proofs.«01_k».proof.Proof.Gen.Kernel4Ideal.Launch
public import proofs.«01_k».proof.Proof.Gen.Kernel5Ideal.Launch
public import proofs.«01_k».proof.Proof.Gen.Kernel6Ideal.Launch
public import proofs.«01_k».proof.Proof.Gen.Kernel3Ideal.Points
public import proofs.«01_k».proof.Proof.Gen.Kernel4Ideal.Points
public import proofs.«01_k».proof.Proof.Gen.Kernel5Ideal.Points
public import proofs.«01_k».proof.Proof.Gen.Kernel6Ideal.Points
public import proofs.«01_k».proof.Proof.Gen.Kernel3Ideal.Frame
public import proofs.«01_k».proof.Proof.Gen.Kernel4Ideal.Frame
public import proofs.«01_k».proof.Proof.Gen.Kernel5Ideal.Frame
public import proofs.«01_k».proof.Proof.Gen.Kernel6Ideal.Frame
public import proofs.«01_k».proof.Proof.Gen.Reference3Ideal
public import proofs.«01_k».proof.Proof.Gen.Reference4Ideal
public import proofs.«01_k».proof.Proof.Gen.Reference5Ideal
public import proofs.«01_k».proof.Proof.Gen.Reference6Ideal
public import proofs.«01_k».proof.Proof.Gen.Pre_finite_qk
public import proofs.«01_k».proof.Proof.Gen.Pre_finite_gates
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_finite_qk.Gen.facts, Cert.Pre_finite_gates.Gen.facts,
  frame_p, frame_pi, frame_pi_pre, frame_ri, frame_ri_pre, frame_p2, frame_pi2, frame_ri2, frame_p3, frame_pi3, frame_ri3, frame_p4, frame_pi4, frame_ri4, frame_p5, frame_pi5, frame_pi5_pre, frame_ri5, frame_ri5_pre, frame_p6, frame_pi6, frame_ri6, pres, Cert.AttRef.alg, trivial, Cert.OutRef.alg, trivial, Cert.MixRef.alg, trivial, Cert.SampleRef.alg, trivial, Cert.InRef.alg, trivial, Cert.CInRef.alg⟩

end Cert.Proof

end
